-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v45) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)) →
    ∃ (v0 : (c : Dev Cert.ProjectIdeal.nD) → Buf (Elt Ideal) ((c.tc : Thread Cert.ProjectIdeal.nD Cert.ProjectIdeal.τ).loc Cert.ProjectIdeal.main_v67_3)) (v1 : (c : Dev Cert.ProjectIdeal.nD) → Buf (Elt Ideal) ((c.tc : Thread Cert.ProjectIdeal.nD Cert.ProjectIdeal.τ).loc Cert.ProjectIdeal.main_v67_16)) (v2 : (c : Dev Cert.ProjectIdeal.nD) → Buf (Elt Ideal) ((c.tc : Thread Cert.ProjectIdeal.nD Cert.ProjectIdeal.τ).loc Cert.ProjectIdeal.main_v67_11)) (v3 : (c : Dev Cert.ProjectIdeal.nD) → Buf (Elt Ideal) ((c.tc : Thread Cert.ProjectIdeal.nD Cert.ProjectIdeal.τ).loc Cert.ProjectIdeal.main_v67_12)) (v4 : (c : Dev Cert.ProjectIdeal.nD) → Buf (Elt Ideal) ((c.tc : Thread Cert.ProjectIdeal.nD Cert.ProjectIdeal.τ).loc Cert.ProjectIdeal.main_v67_13)) (v5 : (c : Dev Cert.ProjectIdeal.nD) → Buf (Elt Ideal) ((c.tc : Thread Cert.ProjectIdeal.nD Cert.ProjectIdeal.τ).loc Cert.ProjectIdeal.main_v67_14)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v67_3) = v0 c
          ∧ r.2.mem ((c.tc : Thread Cert.ProjectIdeal.nD Cert.ProjectIdeal.τ).loc Cert.ProjectIdeal.main_v67_16) = v1 c
          ∧ r.2.mem ((c.tc : Thread Cert.ProjectIdeal.nD Cert.ProjectIdeal.τ).loc Cert.ProjectIdeal.main_v67_11) = v2 c
          ∧ r.2.mem ((c.tc : Thread Cert.ProjectIdeal.nD Cert.ProjectIdeal.τ).loc Cert.ProjectIdeal.main_v67_12) = v3 c
          ∧ r.2.mem ((c.tc : Thread Cert.ProjectIdeal.nD Cert.ProjectIdeal.τ).loc Cert.ProjectIdeal.main_v67_13) = v4 c
          ∧ r.2.mem ((c.tc : Thread Cert.ProjectIdeal.nD Cert.ProjectIdeal.τ).loc Cert.ProjectIdeal.main_v67_14) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v32) = v0 c
          ∧ r.2.mem ((c.tc : Thread Cert.ProjectReferenceIdeal.nD Cert.ProjectReferenceIdeal.τ).loc Cert.ProjectReferenceIdeal.main_v46) = v1 c
          ∧ r.2.mem ((c.tc : Thread Cert.ProjectReferenceIdeal.nD Cert.ProjectReferenceIdeal.τ).loc Cert.ProjectReferenceIdeal.main_v28) = v2 c
          ∧ r.2.mem ((c.tc : Thread Cert.ProjectReferenceIdeal.nD Cert.ProjectReferenceIdeal.τ).loc Cert.ProjectReferenceIdeal.main_v29) = v3 c
          ∧ r.2.mem ((c.tc : Thread Cert.ProjectReferenceIdeal.nD Cert.ProjectReferenceIdeal.τ).loc Cert.ProjectReferenceIdeal.main_v30) = v4 c
          ∧ r.2.mem ((c.tc : Thread Cert.ProjectReferenceIdeal.nD Cert.ProjectReferenceIdeal.τ).loc Cert.ProjectReferenceIdeal.main_v31) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S8x1024x2048 : Shape := ⟨3, ![8, 1024, 2048]⟩
abbrev S8x2048x1024 : Shape := ⟨3, ![8, 2048, 1024]⟩
abbrev S8x8x512x256 : Shape := ⟨4, ![8, 8, 512, 256]⟩
abbrev S8x32x128 : Shape := ⟨3, ![8, 32, 128]⟩
abbrev S_ : Shape := ⟨0, ![]⟩

class Facts : Prop where
  bitsLt_bf16_f32 : FTy.bits .bf16 < FTy.bits .f32
  bcast_S_S8x1024x2048 : S_.BroadcastsInDim S8x1024x2048 (![] : Fin 0 → Fin S8x1024x2048.rank)
  bcast_S_S8x2048x1024 : S_.BroadcastsInDim S8x2048x1024 (![] : Fin 0 → Fin S8x2048x1024.rank)
  bcast_S_S8x32x128 : S_.BroadcastsInDim S8x32x128 (![] : Fin 0 → Fin S8x32x128.rank)

variable [Facts]

def fn {F : FTy → Type} [FloatOps F] (main_arg0 : FVec F S8x1024x2048 .bf16) (main_arg1 : FVec F S8x2048x1024 .bf16) (main_arg2 : FVec F S8x8x512x256 .bf16) (main_arg3 : FVec F S8x32x128 .f32) : IVec S8x1024x2048 1 × IVec S8x2048x1024 1 × IVec S8x32x128 1 :=
  let main_v0 : FVec F S8x1024x2048 .f32 := (extf .f32 · bitsLt_bf16_f32) main_arg0
  let main_v1 : FVec F S8x1024x2048 .f32 := Host.absf main_v0
  let main_cst : FVec F S_ .f32 := constant S_ .f32 0x7F800000#32
  let main_v2 : FVec F S8x1024x2048 .f32 := broadcastInDim S8x1024x2048 ![] bcast_S_S8x1024x2048 main_cst
  let main_v3 : IVec S8x1024x2048 1 := cmpf .olt main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F800000#32
  let main_v6 : FVec F S8x2048x1024 .f32 := broadcastInDim S8x2048x1024 ![] bcast_S_S8x2048x1024 main_cst_0
  let main_v7 : IVec S8x2048x1024 1 := cmpf .olt main_v5 main_v6
  let main_v8 : FVec F S8x32x128 .f32 := Host.absf main_arg3
  let main_cst_1 : FVec F S_ .f32 := constant S_ .f32 0x7F800000#32
  let main_v9 : FVec F S8x32x128 .f32 := broadcastInDim S8x32x128 ![] bcast_S_S8x32x128 main_cst_1
  let main_v10 : IVec S8x32x128 1 := cmpf .olt main_v8 main_v9
  (main_v3, main_v7, main_v10)
-- ==== Kernel.lean ====
abbrev S8x1024x2048 : Shape := ⟨3, ![8, 1024, 2048]⟩
abbrev S8x2048x1024 : Shape := ⟨3, ![8, 2048, 1024]⟩
abbrev S8x8x512x256 : Shape := ⟨4, ![8, 8, 512, 256]⟩
abbrev S8x32x128 : Shape := ⟨3, ![8, 32, 128]⟩
abbrev S8x2048x512 : Shape := ⟨3, ![8, 2048, 512]⟩
abbrev S1x1024x256 : Shape := ⟨3, ![1, 1024, 256]⟩
abbrev S1x2048x1024 : Shape := ⟨3, ![1, 2048, 1024]⟩
abbrev S1x8x512x256 : Shape := ⟨4, ![1, 8, 512, 256]⟩
abbrev S1x32x128 : Shape := ⟨3, ![1, 32, 128]⟩
abbrev S1x256x512 : Shape := ⟨3, ![1, 256, 512]⟩
abbrev S8x1x256 : Shape := ⟨3, ![8, 1, 256]⟩
abbrev S8x80x256 : Shape := ⟨3, ![8, 80, 256]⟩
abbrev S256x256 : Shape := ⟨2, ![256, 256]⟩
abbrev S16x256 : Shape := ⟨2, ![16, 256]⟩
abbrev S32x128 : Shape := ⟨2, ![32, 128]⟩
abbrev S8x128 : Shape := ⟨2, ![8, 128]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S1x128 : Shape := ⟨2, ![1, 128]⟩
abbrev S1x1x256 : Shape := ⟨3, ![1, 1, 256]⟩
abbrev S1 : Shape := ⟨1, ![1]⟩
abbrev S1x1x1 : Shape := ⟨3, ![1, 1, 1]⟩
abbrev S64x256 : Shape := ⟨2, ![64, 256]⟩
abbrev S1x80x256 : Shape := ⟨3, ![1, 80, 256]⟩
abbrev S80x256 : Shape := ⟨2, ![80, 256]⟩
abbrev S1x256x128 : Shape := ⟨3, ![1, 256, 128]⟩
abbrev S256x128 : Shape := ⟨2, ![256, 128]⟩
abbrev S1x1x64x256 : Shape := ⟨4, ![1, 1, 64, 256]⟩
abbrev S1x64x256 : Shape := ⟨3, ![1, 64, 256]⟩
abbrev S512x256 : Shape := ⟨2, ![512, 256]⟩
abbrev S256x512 : Shape := ⟨2, ![256, 512]⟩

abbrev nBuf : Space → Nat
  | .hbm => 5
  | .vmem => 13
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x1024, .bf16⟩
  | .hbm, ⟨2, _⟩ => ⟨S8x8x512x256, .bf16⟩
  | .hbm, ⟨3, _⟩ => ⟨S8x32x128, .f32⟩
  | .hbm, ⟨4, _⟩ => ⟨S8x2048x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x32x128, .f32⟩
  | .local _ .vmem, ⟨7, _⟩ => ⟨S1x32x128, .f32⟩
  | .local _ .vmem, ⟨8, _⟩ => ⟨S1x256x512, .bf16⟩
  | .local _ .vmem, ⟨9, _⟩ => ⟨S1x256x512, .bf16⟩
  | .local _ .vmem, ⟨10, _⟩ => ⟨S8x1x256, .f32⟩
  | .local _ .vmem, ⟨11, _⟩ => ⟨S8x1x256, .f32⟩
  | .local _ .vmem, ⟨12, _⟩ => ⟨S8x80x256, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_82 : BitVec 32 := 1#32
  ⟨c0_i32_79, v204, c1_i32_82⟩
def k0_mult1 (i : grid0.Coords) (k0_t1 : Fin (k0_t1_loop i).trips) : BitVec 32 :=
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  v278
def k0_off1 (i : grid0.Coords) (k0_t1 : Fin (k0_t1_loop i).trips) : Fin 3 → Nat :=
  let c0_161 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v296 : Index := Scalar.indexCast v279
  let c0_162 : Index := 0#32
  ![0, v296.toNat, 0]
def k0_off2 (i : grid0.Coords) (k0_t1 : Fin (k0_t1_loop i).trips) : Fin 3 → Nat :=
  let c0_167 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v306 : Index := Scalar.indexCast v279
  let c128_168 : Index := 128#32
  ![0, v306.toNat, 128]
def k0_off3 (i : grid0.Coords) (k0_t1 : Fin (k0_t1_loop i).trips) : Fin 3 → Nat :=
  let c0_173 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v316 : Index := Scalar.indexCast v279
  let c256_174 : Index := 256#32
  ![0, v316.toNat, 256]
def k0_off4 (i : grid0.Coords) (k0_t1 : Fin (k0_t1_loop i).trips) : Fin 3 → Nat :=
  let c0_179 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v326 : Index := Scalar.indexCast v279
  let c384_180 : Index := 384#32
  ![0, v326.toNat, 384]
def k0_off5 (i : grid0.Coords) (k0_t1 : Fin (k0_t1_loop i).trips) : Fin 3 → Nat :=
  let c0_185 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v336 : Index := Scalar.indexCast v279
  let c512_186 : Index := 512#32
  ![0, v336.toNat, 512]
def k0_off6 (i : grid0.Coords) (k0_t1 : Fin (k0_t1_loop i).trips) : Fin 3 → Nat :=
  let c0_191 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v346 : Index := Scalar.indexCast v279
  let c640_192 : Index := 640#32
  ![0, v346.toNat, 640]
def k0_off7 (i : grid0.Coords) (k0_t1 : Fin (k0_t1_loop i).trips) : Fin 3 → Nat :=
  let c0_197 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v356 : Index := Scalar.indexCast v279
  let c768_198 : Index := 768#32
  ![0, v356.toNat, 768]
def k0_off8 (i : grid0.Coords) (k0_t1 : Fin (k0_t1_loop i).trips) : Fin 3 → Nat :=
  let c0_203 : Index := 0#32
  let c0_i32_79 : BitVec 32 := 0#32
  let c1_i32_82 : BitVec 32 := 1#32
  let arg10 : BitVec 32 := Scf.iv c0_i32_79 c1_i32_82 k0_t1
  let c256_i32_136 : BitVec 32 := 256#32
  let v278 : BitVec 32 := Scalar.muli arg10 c256_i32_136
  let v279 : BitVec 32 := v278
  let v366 : Index := Scalar.indexCast v279
  let c896_204 : Index := 896#32
  ![0, v366.toNat, 896]
def k0_off9 (i : grid0.Coords) (k0_t1 : Fin (k0_t1_loop i).trips) : Fin 4 → Nat :=
  let c0_209 : Index := 0#32
  let c0_i32_79 : BitVec 32 := 0#32
  let c1_i32_82 : BitVec 32 := 1#32
  let arg10 : BitVec 32 := Scf.iv c0_i32_79 c1_i32_82 k0_t1
  let v376 : Index := Scalar.indexCast arg10
  let c0_210 : Index := 0#32
  let c0_211 : Index := 0#32
  ![0, v376.toNat, 0, 0]
def k0_off10 (i : grid0.Coords) (k0_t1 : Fin (k0_t1_loop i).trips) : Fin 4 → Nat :=
  let c0_213 : Index := 0#32
  let c0_i32_79 : BitVec 32 := 0#32
  let c1_i32_82 : BitVec 32 := 1#32
  let arg10 : BitVec 32 := Scf.iv c0_i32_79 c1_i32_82 k0_t1
  let v382 : Index := Scalar.indexCast arg10
  let c64_214 : Index := 64#32
  let c0_215 : Index := 0#32
  ![0, v382.toNat, 64, 0]
def k0_off11 (i : grid0.Coords) (k0_t1 : Fin (k0_t1_loop i).trips) : Fin 4 → Nat :=
  let c0_217 : Index := 0#32
  let c0_i32_79 : BitVec 32 := 0#32
  let c1_i32_82 : BitVec 32 := 1#32
  let arg10 : BitVec 32 := Scf.iv c0_i32_79 c1_i32_82 k0_t1
  let v388 : Index := Scalar.indexCast arg10
  let c128_218 : Index := 128#32
  let c0_219 : Index := 0#32
  ![0, v388.toNat, 128, 0]
def k0_off12 (i : grid0.Coords) (k0_t1 : Fin (k0_t1_loop i).trips) : Fin 4 → Nat :=
  let c0_221 : Index := 0#32
  let c0_i32_79 : BitVec 32 := 0#32
  let c1_i32_82 : BitVec 32 := 1#32
  let arg10 : BitVec 32 := Scf.iv c0_i32_79 c1_i32_82 k0_t1
  let v394 : Index := Scalar.indexCast arg10
  let c192 : Index := 192#32
  let c0_222 : Index := 0#32
  ![0, v394.toNat, 192, 0]
def k0_off13 (i : grid0.Coords) (k0_t1 : Fin (k0_t1_loop i).trips) : Fin 4 → Nat :=
  let c0_224 : Index := 0#32
  let c0_i32_79 : BitVec 32 := 0#32
  let c1_i32_82 : BitVec 32 := 1#32
  let arg10 : BitVec 32 := Scf.iv c0_i32_79 c1_i32_82 k0_t1
  let v400 : Index := Scalar.indexCast arg10
  let c256_225 : Index := 256#32
  let c0_226 : Index := 0#32
  ![0, v400.toNat, 256, 0]
def k0_off14 (i : grid0.Coords) (k0_t1 : Fin (k0_t1_loop i).trips) : Fin 4 → Nat :=
  let c0_228 : Index := 0#32
  let c0_i32_79 : BitVec 32 := 0#32
  let c1_i32_82 : BitVec 32 := 1#32
  let arg10 : BitVec 32 := Scf.iv c0_i32_79 c1_i32_82 k0_t1
  let v406 : Index := Scalar.indexCast arg10
  let c320 : Index := 320#32
  let c0_229 : Index := 0#32
  ![0, v406.toNat, 320, 0]
def k0_off15 (i : grid0.Coords) (k0_t1 : Fin (k0_t1_loop i).trips) : Fin 4 → Nat :=
  let c0_231 : Index := 0#32
  let c0_i32_79 : BitVec 32 := 0#32
  let c1_i32_82 : BitVec 32 := 1#32
  let arg10 : BitVec 32 := Scf.iv c0_i32_79 c1_i32_82 k0_t1
  let v412 : Index := Scalar.indexCast arg10
  let c384_232 : Index := 384#32
  let c0_233 : Index := 0#32
  ![0, v412.toNat, 384, 0]
def k0_off16 (i : grid0.Coords) (k0_t1 : Fin (k0_t1_loop i).trips) : Fin 4 → Nat :=
  let c0_235 : Index := 0#32
  let c0_i32_79 : BitVec 32 := 0#32
  let c1_i32_82 : BitVec 32 := 1#32
  let arg10 : BitVec 32 := Scf.iv c0_i32_79 c1_i32_82 k0_t1
  let v418 : Index := Scalar.indexCast arg10
  let c448 : Index := 448#32
  let c0_236 : Index := 0#32
  ![0, v418.toNat, 448, 0]
@[reducible] def k0_t2_loop (i : grid0.Coords) : Scf.Loop 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let v201 : BitVec 32 := Scalar.addi c0_i32_79 v200
  let c1_i32_83 : BitVec 32 := 1#32
  ⟨v204, v201, c1_i32_83⟩
def k0_mult2 (i : grid0.Coords) (k0_t2 : Fin (k0_t2_loop i).trips) : BitVec 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  v278
def k0_off17 (i : grid0.Coords) (k0_t2 : Fin (k0_t2_loop i).trips) : Fin 3 → Nat :=
  let c0_161 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v296 : Index := Scalar.indexCast v279
  let c0_162 : Index := 0#32
  ![0, v296.toNat, 0]
def k0_off18 (i : grid0.Coords) (k0_t2 : Fin (k0_t2_loop i).trips) : Fin 3 → Nat :=
  let c0_167 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v306 : Index := Scalar.indexCast v279
  let c128_168 : Index := 128#32
  ![0, v306.toNat, 128]
def k0_off19 (i : grid0.Coords) (k0_t2 : Fin (k0_t2_loop i).trips) : Fin 3 → Nat :=
  let c0_173 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v316 : Index := Scalar.indexCast v279
  let c256_174 : Index := 256#32
  ![0, v316.toNat, 256]
def k0_off20 (i : grid0.Coords) (k0_t2 : Fin (k0_t2_loop i).trips) : Fin 3 → Nat :=
  let c0_179 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v326 : Index := Scalar.indexCast v279
  let c384_180 : Index := 384#32
  ![0, v326.toNat, 384]
def k0_off21 (i : grid0.Coords) (k0_t2 : Fin (k0_t2_loop i).trips) : Fin 3 → Nat :=
  let c0_185 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v336 : Index := Scalar.indexCast v279
  let c512_186 : Index := 512#32
  ![0, v336.toNat, 512]
def k0_off22 (i : grid0.Coords) (k0_t2 : Fin (k0_t2_loop i).trips) : Fin 3 → Nat :=
  let c0_191 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v346 : Index := Scalar.indexCast v279
  let c640_192 : Index := 640#32
  ![0, v346.toNat, 640]
def k0_off23 (i : grid0.Coords) (k0_t2 : Fin (k0_t2_loop i).trips) : Fin 3 → Nat :=
  let c0_197 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v356 : Index := Scalar.indexCast v279
  let c768_198 : Index := 768#32
  ![0, v356.toNat, 768]
def k0_off24 (i : grid0.Coords) (k0_t2 : Fin (k0_t2_loop i).trips) : Fin 3 → Nat :=
  let c0_203 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let c256_i32_136 : BitVec 32 := 256#32
  let v278 : BitVec 32 := Scalar.muli arg10 c256_i32_136
  let v279 : BitVec 32 := v278
  let v366 : Index := Scalar.indexCast v279
  let c896_204 : Index := 896#32
  ![0, v366.toNat, 896]
def k0_off25 (i : grid0.Coords) (k0_t2 : Fin (k0_t2_loop i).trips) : Fin 4 → Nat :=
  let c0_209 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v376 : Index := Scalar.indexCast arg10
  let c0_210 : Index := 0#32
  let c0_211 : Index := 0#32
  ![0, v376.toNat, 0, 0]
def k0_off26 (i : grid0.Coords) (k0_t2 : Fin (k0_t2_loop i).trips) : Fin 4 → Nat :=
  let c0_213 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v382 : Index := Scalar.indexCast arg10
  let c64_214 : Index := 64#32
  let c0_215 : Index := 0#32
  ![0, v382.toNat, 64, 0]
def k0_off27 (i : grid0.Coords) (k0_t2 : Fin (k0_t2_loop i).trips) : Fin 4 → Nat :=
  let c0_217 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v388 : Index := Scalar.indexCast arg10
  let c128_218 : Index := 128#32
  let c0_219 : Index := 0#32
  ![0, v388.toNat, 128, 0]
def k0_off28 (i : grid0.Coords) (k0_t2 : Fin (k0_t2_loop i).trips) : Fin 4 → Nat :=
  let c0_221 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v394 : Index := Scalar.indexCast arg10
  let c192 : Index := 192#32
  let c0_222 : Index := 0#32
  ![0, v394.toNat, 192, 0]
def k0_off29 (i : grid0.Coords) (k0_t2 : Fin (k0_t2_loop i).trips) : Fin 4 → Nat :=
  let c0_224 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v400 : Index := Scalar.indexCast arg10
  let c256_225 : Index := 256#32
  let c0_226 : Index := 0#32
  ![0, v400.toNat, 256, 0]
def k0_off30 (i : grid0.Coords) (k0_t2 : Fin (k0_t2_loop i).trips) : Fin 4 → Nat :=
  let c0_228 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v406 : Index := Scalar.indexCast arg10
  let c320 : Index := 320#32
  let c0_229 : Index := 0#32
  ![0, v406.toNat, 320, 0]
def k0_off31 (i : grid0.Coords) (k0_t2 : Fin (k0_t2_loop i).trips) : Fin 4 → Nat :=
  let c0_231 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v412 : Index := Scalar.indexCast arg10
  let c384_232 : Index := 384#32
  let c0_233 : Index := 0#32
  ![0, v412.toNat, 384, 0]
def k0_off32 (i : grid0.Coords) (k0_t2 : Fin (k0_t2_loop i).trips) : Fin 4 → Nat :=
  let c0_235 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t2
  let v418 : Index := Scalar.indexCast arg10
  let c448 : Index := 448#32
  let c0_236 : Index := 0#32
  ![0, v418.toNat, 448, 0]
@[reducible] def k0_t3_loop (i : grid0.Coords) : Scf.Loop 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_86 : BitVec 32 := 1#32
  ⟨v56, v211, c1_i32_86⟩
def k0_mult3 (i : grid0.Coords) (k0_t3 : Fin (k0_t3_loop i).trips) : BitVec 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  v278
def k0_off33 (i : grid0.Coords) (k0_t3 : Fin (k0_t3_loop i).trips) : Fin 3 → Nat :=
  let c0_161 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v296 : Index := Scalar.indexCast v279
  let c0_162 : Index := 0#32
  ![0, v296.toNat, 0]
def k0_off34 (i : grid0.Coords) (k0_t3 : Fin (k0_t3_loop i).trips) : Fin 3 → Nat :=
  let c0_168 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v311 : Index := Scalar.indexCast v279
  let c128_169 : Index := 128#32
  ![0, v311.toNat, 128]
def k0_off35 (i : grid0.Coords) (k0_t3 : Fin (k0_t3_loop i).trips) : Fin 3 → Nat :=
  let c0_175 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v326 : Index := Scalar.indexCast v279
  let c256_176 : Index := 256#32
  ![0, v326.toNat, 256]
def k0_off36 (i : grid0.Coords) (k0_t3 : Fin (k0_t3_loop i).trips) : Fin 3 → Nat :=
  let c0_182 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v341 : Index := Scalar.indexCast v279
  let c384_183 : Index := 384#32
  ![0, v341.toNat, 384]
def k0_off37 (i : grid0.Coords) (k0_t3 : Fin (k0_t3_loop i).trips) : Fin 3 → Nat :=
  let c0_189 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v356 : Index := Scalar.indexCast v279
  let c512_190 : Index := 512#32
  ![0, v356.toNat, 512]
def k0_off38 (i : grid0.Coords) (k0_t3 : Fin (k0_t3_loop i).trips) : Fin 3 → Nat :=
  let c0_196 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v371 : Index := Scalar.indexCast v279
  let c640_197 : Index := 640#32
  ![0, v371.toNat, 640]
def k0_off39 (i : grid0.Coords) (k0_t3 : Fin (k0_t3_loop i).trips) : Fin 3 → Nat :=
  let c0_203 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v386 : Index := Scalar.indexCast v279
  let c768_204 : Index := 768#32
  ![0, v386.toNat, 768]
def k0_off40 (i : grid0.Coords) (k0_t3 : Fin (k0_t3_loop i).trips) : Fin 3 → Nat :=
  let c0_210 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let c256_i32_136 : BitVec 32 := 256#32
  let v278 : BitVec 32 := Scalar.muli arg10 c256_i32_136
  let v279 : BitVec 32 := v278
  let v401 : Index := Scalar.indexCast v279
  let c896_211 : Index := 896#32
  ![0, v401.toNat, 896]
def k0_off41 (i : grid0.Coords) (k0_t3 : Fin (k0_t3_loop i).trips) : Fin 4 → Nat :=
  let c0_217 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v416 : Index := Scalar.indexCast arg10
  let c0_218 : Index := 0#32
  let c0_219 : Index := 0#32
  ![0, v416.toNat, 0, 0]
def k0_off42 (i : grid0.Coords) (k0_t3 : Fin (k0_t3_loop i).trips) : Fin 4 → Nat :=
  let c0_221 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v422 : Index := Scalar.indexCast arg10
  let c64_222 : Index := 64#32
  let c0_223 : Index := 0#32
  ![0, v422.toNat, 64, 0]
def k0_off43 (i : grid0.Coords) (k0_t3 : Fin (k0_t3_loop i).trips) : Fin 4 → Nat :=
  let c0_225 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v428 : Index := Scalar.indexCast arg10
  let c128_226 : Index := 128#32
  let c0_227 : Index := 0#32
  ![0, v428.toNat, 128, 0]
def k0_off44 (i : grid0.Coords) (k0_t3 : Fin (k0_t3_loop i).trips) : Fin 4 → Nat :=
  let c0_229 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v434 : Index := Scalar.indexCast arg10
  let c192 : Index := 192#32
  let c0_230 : Index := 0#32
  ![0, v434.toNat, 192, 0]
def k0_off45 (i : grid0.Coords) (k0_t3 : Fin (k0_t3_loop i).trips) : Fin 4 → Nat :=
  let c0_232 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v440 : Index := Scalar.indexCast arg10
  let c256_233 : Index := 256#32
  let c0_234 : Index := 0#32
  ![0, v440.toNat, 256, 0]
def k0_off46 (i : grid0.Coords) (k0_t3 : Fin (k0_t3_loop i).trips) : Fin 4 → Nat :=
  let c0_236 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v446 : Index := Scalar.indexCast arg10
  let c320 : Index := 320#32
  let c0_237 : Index := 0#32
  ![0, v446.toNat, 320, 0]
def k0_off47 (i : grid0.Coords) (k0_t3 : Fin (k0_t3_loop i).trips) : Fin 4 → Nat :=
  let c0_239 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v452 : Index := Scalar.indexCast arg10
  let c384_240 : Index := 384#32
  let c0_241 : Index := 0#32
  ![0, v452.toNat, 384, 0]
def k0_off48 (i : grid0.Coords) (k0_t3 : Fin (k0_t3_loop i).trips) : Fin 4 → Nat :=
  let c0_243 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t3
  let v458 : Index := Scalar.indexCast arg10
  let c448 : Index := 448#32
  let c0_244 : Index := 0#32
  ![0, v458.toNat, 448, 0]
@[reducible] def k0_t4_loop (i : grid0.Coords) : Scf.Loop 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let v208 : BitVec 32 := Scalar.addi v56 v207
  let c1_i32_87 : BitVec 32 := 1#32
  ⟨v211, v208, c1_i32_87⟩
def k0_mult4 (i : grid0.Coords) (k0_t4 : Fin (k0_t4_loop i).trips) : BitVec 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  v278
def k0_off49 (i : grid0.Coords) (k0_t4 : Fin (k0_t4_loop i).trips) : Fin 3 → Nat :=
  let c0_161 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v296 : Index := Scalar.indexCast v279
  let c0_162 : Index := 0#32
  ![0, v296.toNat, 0]
def k0_off50 (i : grid0.Coords) (k0_t4 : Fin (k0_t4_loop i).trips) : Fin 3 → Nat :=
  let c0_168 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v311 : Index := Scalar.indexCast v279
  let c128_169 : Index := 128#32
  ![0, v311.toNat, 128]
def k0_off51 (i : grid0.Coords) (k0_t4 : Fin (k0_t4_loop i).trips) : Fin 3 → Nat :=
  let c0_175 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v326 : Index := Scalar.indexCast v279
  let c256_176 : Index := 256#32
  ![0, v326.toNat, 256]
def k0_off52 (i : grid0.Coords) (k0_t4 : Fin (k0_t4_loop i).trips) : Fin 3 → Nat :=
  let c0_182 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v341 : Index := Scalar.indexCast v279
  let c384_183 : Index := 384#32
  ![0, v341.toNat, 384]
def k0_off53 (i : grid0.Coords) (k0_t4 : Fin (k0_t4_loop i).trips) : Fin 3 → Nat :=
  let c0_189 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v356 : Index := Scalar.indexCast v279
  let c512_190 : Index := 512#32
  ![0, v356.toNat, 512]
def k0_off54 (i : grid0.Coords) (k0_t4 : Fin (k0_t4_loop i).trips) : Fin 3 → Nat :=
  let c0_196 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v371 : Index := Scalar.indexCast v279
  let c640_197 : Index := 640#32
  ![0, v371.toNat, 640]
def k0_off55 (i : grid0.Coords) (k0_t4 : Fin (k0_t4_loop i).trips) : Fin 3 → Nat :=
  let c0_203 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v386 : Index := Scalar.indexCast v279
  let c768_204 : Index := 768#32
  ![0, v386.toNat, 768]
def k0_off56 (i : grid0.Coords) (k0_t4 : Fin (k0_t4_loop i).trips) : Fin 3 → Nat :=
  let c0_210 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let c256_i32_136 : BitVec 32 := 256#32
  let v278 : BitVec 32 := Scalar.muli arg10 c256_i32_136
  let v279 : BitVec 32 := v278
  let v401 : Index := Scalar.indexCast v279
  let c896_211 : Index := 896#32
  ![0, v401.toNat, 896]
def k0_off57 (i : grid0.Coords) (k0_t4 : Fin (k0_t4_loop i).trips) : Fin 4 → Nat :=
  let c0_217 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v416 : Index := Scalar.indexCast arg10
  let c0_218 : Index := 0#32
  let c0_219 : Index := 0#32
  ![0, v416.toNat, 0, 0]
def k0_off58 (i : grid0.Coords) (k0_t4 : Fin (k0_t4_loop i).trips) : Fin 4 → Nat :=
  let c0_221 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v422 : Index := Scalar.indexCast arg10
  let c64_222 : Index := 64#32
  let c0_223 : Index := 0#32
  ![0, v422.toNat, 64, 0]
def k0_off59 (i : grid0.Coords) (k0_t4 : Fin (k0_t4_loop i).trips) : Fin 4 → Nat :=
  let c0_225 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v428 : Index := Scalar.indexCast arg10
  let c128_226 : Index := 128#32
  let c0_227 : Index := 0#32
  ![0, v428.toNat, 128, 0]
def k0_off60 (i : grid0.Coords) (k0_t4 : Fin (k0_t4_loop i).trips) : Fin 4 → Nat :=
  let c0_229 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v434 : Index := Scalar.indexCast arg10
  let c192 : Index := 192#32
  let c0_230 : Index := 0#32
  ![0, v434.toNat, 192, 0]
def k0_off61 (i : grid0.Coords) (k0_t4 : Fin (k0_t4_loop i).trips) : Fin 4 → Nat :=
  let c0_232 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v440 : Index := Scalar.indexCast arg10
  let c256_233 : Index := 256#32
  let c0_234 : Index := 0#32
  ![0, v440.toNat, 256, 0]
def k0_off62 (i : grid0.Coords) (k0_t4 : Fin (k0_t4_loop i).trips) : Fin 4 → Nat :=
  let c0_236 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v446 : Index := Scalar.indexCast arg10
  let c320 : Index := 320#32
  let c0_237 : Index := 0#32
  ![0, v446.toNat, 320, 0]
def k0_off63 (i : grid0.Coords) (k0_t4 : Fin (k0_t4_loop i).trips) : Fin 4 → Nat :=
  let c0_239 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v452 : Index := Scalar.indexCast arg10
  let c384_240 : Index := 384#32
  let c0_241 : Index := 0#32
  ![0, v452.toNat, 384, 0]
def k0_off64 (i : grid0.Coords) (k0_t4 : Fin (k0_t4_loop i).trips) : Fin 4 → Nat :=
  let c0_243 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t4
  let v458 : Index := Scalar.indexCast arg10
  let c448 : Index := 448#32
  let c0_244 : Index := 0#32
  ![0, v458.toNat, 448, 0]
@[reducible] def k0_t5_loop (i : grid0.Coords) : Scf.Loop 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_82 : BitVec 32 := 1#32
  ⟨c0_i32_79, v204, c1_i32_82⟩
def k0_mult5 (i : grid0.Coords) (k0_t5 : Fin (k0_t5_loop i).trips) : BitVec 32 :=
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  v262
def k0_off65 (i : grid0.Coords) (k0_t5 : Fin (k0_t5_loop i).trips) : Fin 3 → Nat :=
  let c0_202 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v312 : Index := Scalar.indexCast v263
  let c0_203 : Index := 0#32
  ![0, v312.toNat, 0]
def k0_off66 (i : grid0.Coords) (k0_t5 : Fin (k0_t5_loop i).trips) : Fin 3 → Nat :=
  let c0_208 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v318 : Index := Scalar.indexCast v263
  let c128_209 : Index := 128#32
  ![0, v318.toNat, 128]
def k0_off67 (i : grid0.Coords) (k0_t5 : Fin (k0_t5_loop i).trips) : Fin 3 → Nat :=
  let c0_214 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v324 : Index := Scalar.indexCast v263
  let c256_215 : Index := 256#32
  ![0, v324.toNat, 256]
def k0_off68 (i : grid0.Coords) (k0_t5 : Fin (k0_t5_loop i).trips) : Fin 3 → Nat :=
  let c0_220 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v330 : Index := Scalar.indexCast v263
  let c384_221 : Index := 384#32
  ![0, v330.toNat, 384]
def k0_off69 (i : grid0.Coords) (k0_t5 : Fin (k0_t5_loop i).trips) : Fin 3 → Nat :=
  let c0_226 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v336 : Index := Scalar.indexCast v263
  let c512_227 : Index := 512#32
  ![0, v336.toNat, 512]
def k0_off70 (i : grid0.Coords) (k0_t5 : Fin (k0_t5_loop i).trips) : Fin 3 → Nat :=
  let c0_232 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v342 : Index := Scalar.indexCast v263
  let c640_233 : Index := 640#32
  ![0, v342.toNat, 640]
def k0_off71 (i : grid0.Coords) (k0_t5 : Fin (k0_t5_loop i).trips) : Fin 3 → Nat :=
  let c0_238 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v348 : Index := Scalar.indexCast v263
  let c768_239 : Index := 768#32
  ![0, v348.toNat, 768]
def k0_off72 (i : grid0.Coords) (k0_t5 : Fin (k0_t5_loop i).trips) : Fin 3 → Nat :=
  let c0_244 : Index := 0#32
  let c0_i32_79 : BitVec 32 := 0#32
  let c1_i32_82 : BitVec 32 := 1#32
  let arg10 : BitVec 32 := Scf.iv c0_i32_79 c1_i32_82 k0_t5
  let c256_i32_129 : BitVec 32 := 256#32
  let v262 : BitVec 32 := Scalar.muli arg10 c256_i32_129
  let v263 : BitVec 32 := v262
  let v354 : Index := Scalar.indexCast v263
  let c896_245 : Index := 896#32
  ![0, v354.toNat, 896]
def k0_off73 (i : grid0.Coords) (k0_t5 : Fin (k0_t5_loop i).trips) : Fin 4 → Nat :=
  let c0_250 : Index := 0#32
  let c0_i32_79 : BitVec 32 := 0#32
  let c1_i32_82 : BitVec 32 := 1#32
  let arg10 : BitVec 32 := Scf.iv c0_i32_79 c1_i32_82 k0_t5
  let v360 : Index := Scalar.indexCast arg10
  let c0_251 : Index := 0#32
  let c0_252 : Index := 0#32
  ![0, v360.toNat, 0, 0]
def k0_off74 (i : grid0.Coords) (k0_t5 : Fin (k0_t5_loop i).trips) : Fin 4 → Nat :=
  let c0_256 : Index := 0#32
  let c0_i32_79 : BitVec 32 := 0#32
  let c1_i32_82 : BitVec 32 := 1#32
  let arg10 : BitVec 32 := Scf.iv c0_i32_79 c1_i32_82 k0_t5
  let v382 : Index := Scalar.indexCast arg10
  let c64 : Index := 64#32
  let c0_257 : Index := 0#32
  ![0, v382.toNat, 64, 0]
def k0_off75 (i : grid0.Coords) (k0_t5 : Fin (k0_t5_loop i).trips) : Fin 4 → Nat :=
  let c0_261 : Index := 0#32
  let c0_i32_79 : BitVec 32 := 0#32
  let c1_i32_82 : BitVec 32 := 1#32
  let arg10 : BitVec 32 := Scf.iv c0_i32_79 c1_i32_82 k0_t5
  let v404 : Index := Scalar.indexCast arg10
  let c128_262 : Index := 128#32
  let c0_263 : Index := 0#32
  ![0, v404.toNat, 128, 0]
def k0_off76 (i : grid0.Coords) (k0_t5 : Fin (k0_t5_loop i).trips) : Fin 4 → Nat :=
  let c0_267 : Index := 0#32
  let c0_i32_79 : BitVec 32 := 0#32
  let c1_i32_82 : BitVec 32 := 1#32
  let arg10 : BitVec 32 := Scf.iv c0_i32_79 c1_i32_82 k0_t5
  let v426 : Index := Scalar.indexCast arg10
  let c192 : Index := 192#32
  let c0_268 : Index := 0#32
  ![0, v426.toNat, 192, 0]
def k0_off77 (i : grid0.Coords) (k0_t5 : Fin (k0_t5_loop i).trips) : Fin 4 → Nat :=
  let c0_272 : Index := 0#32
  let c0_i32_79 : BitVec 32 := 0#32
  let c1_i32_82 : BitVec 32 := 1#32
  let arg10 : BitVec 32 := Scf.iv c0_i32_79 c1_i32_82 k0_t5
  let v448 : Index := Scalar.indexCast arg10
  let c256_273 : Index := 256#32
  let c0_274 : Index := 0#32
  ![0, v448.toNat, 256, 0]
def k0_off78 (i : grid0.Coords) (k0_t5 : Fin (k0_t5_loop i).trips) : Fin 4 → Nat :=
  let c0_278 : Index := 0#32
  let c0_i32_79 : BitVec 32 := 0#32
  let c1_i32_82 : BitVec 32 := 1#32
  let arg10 : BitVec 32 := Scf.iv c0_i32_79 c1_i32_82 k0_t5
  let v470 : Index := Scalar.indexCast arg10
  let c320 : Index := 320#32
  let c0_279 : Index := 0#32
  ![0, v470.toNat, 320, 0]
def k0_off79 (i : grid0.Coords) (k0_t5 : Fin (k0_t5_loop i).trips) : Fin 4 → Nat :=
  let c0_283 : Index := 0#32
  let c0_i32_79 : BitVec 32 := 0#32
  let c1_i32_82 : BitVec 32 := 1#32
  let arg10 : BitVec 32 := Scf.iv c0_i32_79 c1_i32_82 k0_t5
  let v492 : Index := Scalar.indexCast arg10
  let c384_284 : Index := 384#32
  let c0_285 : Index := 0#32
  ![0, v492.toNat, 384, 0]
def k0_off80 (i : grid0.Coords) (k0_t5 : Fin (k0_t5_loop i).trips) : Fin 4 → Nat :=
  let c0_289 : Index := 0#32
  let c0_i32_79 : BitVec 32 := 0#32
  let c1_i32_82 : BitVec 32 := 1#32
  let arg10 : BitVec 32 := Scf.iv c0_i32_79 c1_i32_82 k0_t5
  let v514 : Index := Scalar.indexCast arg10
  let c448 : Index := 448#32
  let c0_290 : Index := 0#32
  ![0, v514.toNat, 448, 0]
@[reducible] def k0_t6_loop (i : grid0.Coords) : Scf.Loop 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let v201 : BitVec 32 := Scalar.addi c0_i32_79 v200
  let c1_i32_83 : BitVec 32 := 1#32
  ⟨v204, v201, c1_i32_83⟩
def k0_mult6 (i : grid0.Coords) (k0_t6 : Fin (k0_t6_loop i).trips) : BitVec 32 :=
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  v262
def k0_off81 (i : grid0.Coords) (k0_t6 : Fin (k0_t6_loop i).trips) : Fin 3 → Nat :=
  let c0_202 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v312 : Index := Scalar.indexCast v263
  let c0_203 : Index := 0#32
  ![0, v312.toNat, 0]
def k0_off82 (i : grid0.Coords) (k0_t6 : Fin (k0_t6_loop i).trips) : Fin 3 → Nat :=
  let c0_208 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v318 : Index := Scalar.indexCast v263
  let c128_209 : Index := 128#32
  ![0, v318.toNat, 128]
def k0_off83 (i : grid0.Coords) (k0_t6 : Fin (k0_t6_loop i).trips) : Fin 3 → Nat :=
  let c0_214 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v324 : Index := Scalar.indexCast v263
  let c256_215 : Index := 256#32
  ![0, v324.toNat, 256]
def k0_off84 (i : grid0.Coords) (k0_t6 : Fin (k0_t6_loop i).trips) : Fin 3 → Nat :=
  let c0_220 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v330 : Index := Scalar.indexCast v263
  let c384_221 : Index := 384#32
  ![0, v330.toNat, 384]
def k0_off85 (i : grid0.Coords) (k0_t6 : Fin (k0_t6_loop i).trips) : Fin 3 → Nat :=
  let c0_226 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v336 : Index := Scalar.indexCast v263
  let c512_227 : Index := 512#32
  ![0, v336.toNat, 512]
def k0_off86 (i : grid0.Coords) (k0_t6 : Fin (k0_t6_loop i).trips) : Fin 3 → Nat :=
  let c0_232 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v342 : Index := Scalar.indexCast v263
  let c640_233 : Index := 640#32
  ![0, v342.toNat, 640]
def k0_off87 (i : grid0.Coords) (k0_t6 : Fin (k0_t6_loop i).trips) : Fin 3 → Nat :=
  let c0_238 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v348 : Index := Scalar.indexCast v263
  let c768_239 : Index := 768#32
  ![0, v348.toNat, 768]
def k0_off88 (i : grid0.Coords) (k0_t6 : Fin (k0_t6_loop i).trips) : Fin 3 → Nat :=
  let c0_244 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let c256_i32_129 : BitVec 32 := 256#32
  let v262 : BitVec 32 := Scalar.muli arg10 c256_i32_129
  let v263 : BitVec 32 := v262
  let v354 : Index := Scalar.indexCast v263
  let c896_245 : Index := 896#32
  ![0, v354.toNat, 896]
def k0_off89 (i : grid0.Coords) (k0_t6 : Fin (k0_t6_loop i).trips) : Fin 4 → Nat :=
  let c0_250 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v360 : Index := Scalar.indexCast arg10
  let c0_251 : Index := 0#32
  let c0_252 : Index := 0#32
  ![0, v360.toNat, 0, 0]
def k0_off90 (i : grid0.Coords) (k0_t6 : Fin (k0_t6_loop i).trips) : Fin 4 → Nat :=
  let c0_256 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v382 : Index := Scalar.indexCast arg10
  let c64 : Index := 64#32
  let c0_257 : Index := 0#32
  ![0, v382.toNat, 64, 0]
def k0_off91 (i : grid0.Coords) (k0_t6 : Fin (k0_t6_loop i).trips) : Fin 4 → Nat :=
  let c0_261 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v404 : Index := Scalar.indexCast arg10
  let c128_262 : Index := 128#32
  let c0_263 : Index := 0#32
  ![0, v404.toNat, 128, 0]
def k0_off92 (i : grid0.Coords) (k0_t6 : Fin (k0_t6_loop i).trips) : Fin 4 → Nat :=
  let c0_267 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v426 : Index := Scalar.indexCast arg10
  let c192 : Index := 192#32
  let c0_268 : Index := 0#32
  ![0, v426.toNat, 192, 0]
def k0_off93 (i : grid0.Coords) (k0_t6 : Fin (k0_t6_loop i).trips) : Fin 4 → Nat :=
  let c0_272 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v448 : Index := Scalar.indexCast arg10
  let c256_273 : Index := 256#32
  let c0_274 : Index := 0#32
  ![0, v448.toNat, 256, 0]
def k0_off94 (i : grid0.Coords) (k0_t6 : Fin (k0_t6_loop i).trips) : Fin 4 → Nat :=
  let c0_278 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v470 : Index := Scalar.indexCast arg10
  let c320 : Index := 320#32
  let c0_279 : Index := 0#32
  ![0, v470.toNat, 320, 0]
def k0_off95 (i : grid0.Coords) (k0_t6 : Fin (k0_t6_loop i).trips) : Fin 4 → Nat :=
  let c0_283 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v492 : Index := Scalar.indexCast arg10
  let c384_284 : Index := 384#32
  let c0_285 : Index := 0#32
  ![0, v492.toNat, 384, 0]
def k0_off96 (i : grid0.Coords) (k0_t6 : Fin (k0_t6_loop i).trips) : Fin 4 → Nat :=
  let c0_289 : Index := 0#32
  let c0_i32_79 : BitVec 32 := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let v200 : BitVec 32 := Scalar.subi v56 c0_i32_79
  let c1_i32_81 : BitVec 32 := 1#32
  let v202 : BitVec 32 := Scalar.divsi v200 c1_i32_81
  let v203 : BitVec 32 := Scalar.muli v202 c1_i32_81
  let v204 : BitVec 32 := Scalar.addi c0_i32_79 v203
  let c1_i32_83 : BitVec 32 := 1#32
  let arg10 : BitVec 32 := Scf.iv v204 c1_i32_83 k0_t6
  let v514 : Index := Scalar.indexCast arg10
  let c448 : Index := 448#32
  let c0_290 : Index := 0#32
  ![0, v514.toNat, 448, 0]
@[reducible] def k0_t7_loop (i : grid0.Coords) : Scf.Loop 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_86 : BitVec 32 := 1#32
  ⟨v56, v211, c1_i32_86⟩
def k0_mult7 (i : grid0.Coords) (k0_t7 : Fin (k0_t7_loop i).trips) : BitVec 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  v262
def k0_off97 (i : grid0.Coords) (k0_t7 : Fin (k0_t7_loop i).trips) : Fin 3 → Nat :=
  let c0_202 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v312 : Index := Scalar.indexCast v263
  let c0_203 : Index := 0#32
  ![0, v312.toNat, 0]
def k0_off98 (i : grid0.Coords) (k0_t7 : Fin (k0_t7_loop i).trips) : Fin 3 → Nat :=
  let c0_209 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v323 : Index := Scalar.indexCast v263
  let c128_210 : Index := 128#32
  ![0, v323.toNat, 128]
def k0_off99 (i : grid0.Coords) (k0_t7 : Fin (k0_t7_loop i).trips) : Fin 3 → Nat :=
  let c0_216 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v334 : Index := Scalar.indexCast v263
  let c256_217 : Index := 256#32
  ![0, v334.toNat, 256]
def k0_off100 (i : grid0.Coords) (k0_t7 : Fin (k0_t7_loop i).trips) : Fin 3 → Nat :=
  let c0_223 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v345 : Index := Scalar.indexCast v263
  let c384_224 : Index := 384#32
  ![0, v345.toNat, 384]
def k0_off101 (i : grid0.Coords) (k0_t7 : Fin (k0_t7_loop i).trips) : Fin 3 → Nat :=
  let c0_230 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v356 : Index := Scalar.indexCast v263
  let c512_231 : Index := 512#32
  ![0, v356.toNat, 512]
def k0_off102 (i : grid0.Coords) (k0_t7 : Fin (k0_t7_loop i).trips) : Fin 3 → Nat :=
  let c0_237 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v367 : Index := Scalar.indexCast v263
  let c640_238 : Index := 640#32
  ![0, v367.toNat, 640]
def k0_off103 (i : grid0.Coords) (k0_t7 : Fin (k0_t7_loop i).trips) : Fin 3 → Nat :=
  let c0_244 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v378 : Index := Scalar.indexCast v263
  let c768_245 : Index := 768#32
  ![0, v378.toNat, 768]
def k0_off104 (i : grid0.Coords) (k0_t7 : Fin (k0_t7_loop i).trips) : Fin 3 → Nat :=
  let c0_251 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let c256_i32_129 : BitVec 32 := 256#32
  let v262 : BitVec 32 := Scalar.muli arg10 c256_i32_129
  let v263 : BitVec 32 := v262
  let v389 : Index := Scalar.indexCast v263
  let c896_252 : Index := 896#32
  ![0, v389.toNat, 896]
def k0_off105 (i : grid0.Coords) (k0_t7 : Fin (k0_t7_loop i).trips) : Fin 4 → Nat :=
  let c0_258 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v400 : Index := Scalar.indexCast arg10
  let c0_259 : Index := 0#32
  let c0_260 : Index := 0#32
  ![0, v400.toNat, 0, 0]
def k0_off106 (i : grid0.Coords) (k0_t7 : Fin (k0_t7_loop i).trips) : Fin 4 → Nat :=
  let c0_264 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v422 : Index := Scalar.indexCast arg10
  let c64 : Index := 64#32
  let c0_265 : Index := 0#32
  ![0, v422.toNat, 64, 0]
def k0_off107 (i : grid0.Coords) (k0_t7 : Fin (k0_t7_loop i).trips) : Fin 4 → Nat :=
  let c0_269 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v444 : Index := Scalar.indexCast arg10
  let c128_270 : Index := 128#32
  let c0_271 : Index := 0#32
  ![0, v444.toNat, 128, 0]
def k0_off108 (i : grid0.Coords) (k0_t7 : Fin (k0_t7_loop i).trips) : Fin 4 → Nat :=
  let c0_275 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v466 : Index := Scalar.indexCast arg10
  let c192 : Index := 192#32
  let c0_276 : Index := 0#32
  ![0, v466.toNat, 192, 0]
def k0_off109 (i : grid0.Coords) (k0_t7 : Fin (k0_t7_loop i).trips) : Fin 4 → Nat :=
  let c0_280 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v488 : Index := Scalar.indexCast arg10
  let c256_281 : Index := 256#32
  let c0_282 : Index := 0#32
  ![0, v488.toNat, 256, 0]
def k0_off110 (i : grid0.Coords) (k0_t7 : Fin (k0_t7_loop i).trips) : Fin 4 → Nat :=
  let c0_286 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v510 : Index := Scalar.indexCast arg10
  let c320 : Index := 320#32
  let c0_287 : Index := 0#32
  ![0, v510.toNat, 320, 0]
def k0_off111 (i : grid0.Coords) (k0_t7 : Fin (k0_t7_loop i).trips) : Fin 4 → Nat :=
  let c0_291 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v532 : Index := Scalar.indexCast arg10
  let c384_292 : Index := 384#32
  let c0_293 : Index := 0#32
  ![0, v532.toNat, 384, 0]
def k0_off112 (i : grid0.Coords) (k0_t7 : Fin (k0_t7_loop i).trips) : Fin 4 → Nat :=
  let c0_297 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32_86 : BitVec 32 := 1#32
  let arg10 : BitVec 32 := Scf.iv v56 c1_i32_86 k0_t7
  let v554 : Index := Scalar.indexCast arg10
  let c448 : Index := 448#32
  let c0_298 : Index := 0#32
  ![0, v554.toNat, 448, 0]
@[reducible] def k0_t8_loop (i : grid0.Coords) : Scf.Loop 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let v208 : BitVec 32 := Scalar.addi v56 v207
  let c1_i32_87 : BitVec 32 := 1#32
  ⟨v211, v208, c1_i32_87⟩
def k0_mult8 (i : grid0.Coords) (k0_t8 : Fin (k0_t8_loop i).trips) : BitVec 32 :=
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  v262
def k0_off113 (i : grid0.Coords) (k0_t8 : Fin (k0_t8_loop i).trips) : Fin 3 → Nat :=
  let c0_202 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v312 : Index := Scalar.indexCast v263
  let c0_203 : Index := 0#32
  ![0, v312.toNat, 0]
def k0_off114 (i : grid0.Coords) (k0_t8 : Fin (k0_t8_loop i).trips) : Fin 3 → Nat :=
  let c0_209 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v323 : Index := Scalar.indexCast v263
  let c128_210 : Index := 128#32
  ![0, v323.toNat, 128]
def k0_off115 (i : grid0.Coords) (k0_t8 : Fin (k0_t8_loop i).trips) : Fin 3 → Nat :=
  let c0_216 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v334 : Index := Scalar.indexCast v263
  let c256_217 : Index := 256#32
  ![0, v334.toNat, 256]
def k0_off116 (i : grid0.Coords) (k0_t8 : Fin (k0_t8_loop i).trips) : Fin 3 → Nat :=
  let c0_223 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v345 : Index := Scalar.indexCast v263
  let c384_224 : Index := 384#32
  ![0, v345.toNat, 384]
def k0_off117 (i : grid0.Coords) (k0_t8 : Fin (k0_t8_loop i).trips) : Fin 3 → Nat :=
  let c0_230 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v356 : Index := Scalar.indexCast v263
  let c512_231 : Index := 512#32
  ![0, v356.toNat, 512]
def k0_off118 (i : grid0.Coords) (k0_t8 : Fin (k0_t8_loop i).trips) : Fin 3 → Nat :=
  let c0_237 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v367 : Index := Scalar.indexCast v263
  let c640_238 : Index := 640#32
  ![0, v367.toNat, 640]
def k0_off119 (i : grid0.Coords) (k0_t8 : Fin (k0_t8_loop i).trips) : Fin 3 → Nat :=
  let c0_244 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v378 : Index := Scalar.indexCast v263
  let c768_245 : Index := 768#32
  ![0, v378.toNat, 768]
def k0_off120 (i : grid0.Coords) (k0_t8 : Fin (k0_t8_loop i).trips) : Fin 3 → Nat :=
  let c0_251 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let c256_i32_129 : BitVec 32 := 256#32
  let v262 : BitVec 32 := Scalar.muli arg10 c256_i32_129
  let v263 : BitVec 32 := v262
  let v389 : Index := Scalar.indexCast v263
  let c896_252 : Index := 896#32
  ![0, v389.toNat, 896]
def k0_off121 (i : grid0.Coords) (k0_t8 : Fin (k0_t8_loop i).trips) : Fin 4 → Nat :=
  let c0_258 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v400 : Index := Scalar.indexCast arg10
  let c0_259 : Index := 0#32
  let c0_260 : Index := 0#32
  ![0, v400.toNat, 0, 0]
def k0_off122 (i : grid0.Coords) (k0_t8 : Fin (k0_t8_loop i).trips) : Fin 4 → Nat :=
  let c0_264 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v422 : Index := Scalar.indexCast arg10
  let c64 : Index := 64#32
  let c0_265 : Index := 0#32
  ![0, v422.toNat, 64, 0]
def k0_off123 (i : grid0.Coords) (k0_t8 : Fin (k0_t8_loop i).trips) : Fin 4 → Nat :=
  let c0_269 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v444 : Index := Scalar.indexCast arg10
  let c128_270 : Index := 128#32
  let c0_271 : Index := 0#32
  ![0, v444.toNat, 128, 0]
def k0_off124 (i : grid0.Coords) (k0_t8 : Fin (k0_t8_loop i).trips) : Fin 4 → Nat :=
  let c0_275 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v466 : Index := Scalar.indexCast arg10
  let c192 : Index := 192#32
  let c0_276 : Index := 0#32
  ![0, v466.toNat, 192, 0]
def k0_off125 (i : grid0.Coords) (k0_t8 : Fin (k0_t8_loop i).trips) : Fin 4 → Nat :=
  let c0_280 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v488 : Index := Scalar.indexCast arg10
  let c256_281 : Index := 256#32
  let c0_282 : Index := 0#32
  ![0, v488.toNat, 256, 0]
def k0_off126 (i : grid0.Coords) (k0_t8 : Fin (k0_t8_loop i).trips) : Fin 4 → Nat :=
  let c0_286 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v510 : Index := Scalar.indexCast arg10
  let c320 : Index := 320#32
  let c0_287 : Index := 0#32
  ![0, v510.toNat, 320, 0]
def k0_off127 (i : grid0.Coords) (k0_t8 : Fin (k0_t8_loop i).trips) : Fin 4 → Nat :=
  let c0_291 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v532 : Index := Scalar.indexCast arg10
  let c384_292 : Index := 384#32
  let c0_293 : Index := 0#32
  ![0, v532.toNat, 384, 0]
def k0_off128 (i : grid0.Coords) (k0_t8 : Fin (k0_t8_loop i).trips) : Fin 4 → Nat :=
  let c0_297 : Index := 0#32
  let arg1 : BitVec 32 := BitVec.ofNat 32 (i 1).val
  let c256_i32_19 : BitVec 32 := 256#32
  let v38 : BitVec 32 := Scalar.muli arg1 c256_i32_19
  let c1_i32_20 : BitVec 32 := 1#32
  let v39 : BitVec 32 := Scalar.addi v38 c1_i32_20
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c256_i32_21 : BitVec 32 := 256#32
  let c0_i32_24 : BitVec 32 := 0#32
  let v46 : BitVec 1 := Scalar.cmpi .sgt c256_i32_21 c0_i32_24
  let v47 : BitVec 32 := Scalar.extui v46
  let c0_i32_25 : BitVec 32 := 0#32
  let v48 : BitVec 1 := Scalar.cmpi .slt c256_i32_21 c0_i32_25
  let v49 : BitVec 32 := Scalar.extui v48
  let v50 : BitVec 32 := Scalar.subi v47 v49
  let v51 : BitVec 1 := Scalar.cmpi .ne v45 v50
  let v52 : BitVec 32 := Scalar.remsi v39 c256_i32_21
  let c0_i32_26 : BitVec 32 := 0#32
  let v53 : BitVec 1 := Scalar.cmpi .ne v52 c0_i32_26
  let v54 : BitVec 1 := Scalar.andi v51 v53
  let v40 : BitVec 32 := Scalar.divsi v39 c256_i32_21
  let c1_i32_27 : BitVec 32 := 1#32
  let v55 : BitVec 32 := Scalar.subi v40 c1_i32_27
  let v56 : BitVec 32 := Scalar.select v54 v55 v40
  let c1_i32 : BitVec 32 := 1#32
  let v17 : BitVec 32 := Scalar.addi arg1 c1_i32
  let c256_i32_10 : BitVec 32 := 256#32
  let v18 : BitVec 32 := Scalar.muli v17 c256_i32_10
  let c256_i32_11 : BitVec 32 := 256#32
  let v19 : BitVec 32 := Scalar.addi v18 c256_i32_11
  let c1_i32_12 : BitVec 32 := 1#32
  let v20 : BitVec 32 := Scalar.subi v19 c1_i32_12
  let c0_i32 : BitVec 32 := 0#32
  let v22 : BitVec 1 := Scalar.cmpi .sgt v20 c0_i32
  let v23 : BitVec 32 := Scalar.extui v22
  let c0_i32_14 : BitVec 32 := 0#32
  let v24 : BitVec 1 := Scalar.cmpi .slt v20 c0_i32_14
  let v25 : BitVec 32 := Scalar.extui v24
  let v26 : BitVec 32 := Scalar.subi v23 v25
  let c256_i32_13 : BitVec 32 := 256#32
  let c0_i32_15 : BitVec 32 := 0#32
  let v27 : BitVec 1 := Scalar.cmpi .sgt c256_i32_13 c0_i32_15
  let v28 : BitVec 32 := Scalar.extui v27
  let c0_i32_16 : BitVec 32 := 0#32
  let v29 : BitVec 1 := Scalar.cmpi .slt c256_i32_13 c0_i32_16
  let v30 : BitVec 32 := Scalar.extui v29
  let v31 : BitVec 32 := Scalar.subi v28 v30
  let v32 : BitVec 1 := Scalar.cmpi .ne v26 v31
  let v33 : BitVec 32 := Scalar.remsi v20 c256_i32_13
  let c0_i32_17 : BitVec 32 := 0#32
  let v34 : BitVec 1 := Scalar.cmpi .ne v33 c0_i32_17
  let v35 : BitVec 1 := Scalar.andi v32 v34
  let v21 : BitVec 32 := Scalar.divsi v20 c256_i32_13
  let c1_i32_18 : BitVec 32 := 1#32
  let v36 : BitVec 32 := Scalar.subi v21 c1_i32_18
  let v37 : BitVec 32 := Scalar.select v35 v36 v21
  let v207 : BitVec 32 := Scalar.subi v37 v56
  let c1_i32_85 : BitVec 32 := 1#32
  let v209 : BitVec 32 := Scalar.divsi v207 c1_i32_85
  let v210 : BitVec 32 := Scalar.muli v209 c1_i32_85
  let v211 : BitVec 32 := Scalar.addi v56 v210
  let c1_i32_87 : BitVec 32 := 1#32
  let arg10 : BitVec 32 := Scf.iv v211 c1_i32_87 k0_t8
  let v554 : Index := Scalar.indexCast arg10
  let c448 : Index := 448#32
  let c0_298 : Index := 0#32
  ![0, v554.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x1024x2048 : Shape := ⟨3, ![8, 1024, 2048]⟩
abbrev S8x2048x1024 : Shape := ⟨3, ![8, 2048, 1024]⟩
abbrev S8x8x512x256 : Shape := ⟨4, ![8, 8, 512, 256]⟩
abbrev S8x32x128 : Shape := ⟨3, ![8, 32, 128]⟩
abbrev S8x8x128x2048 : Shape := ⟨4, ![8, 8, 128, 2048]⟩
abbrev S8x2048x8x128 : Shape := ⟨4, ![8, 2048, 8, 128]⟩
abbrev S8x8x8x64x256 : Shape := ⟨5, ![8, 8, 8, 64, 256]⟩
abbrev S8x8x256x8x64 : Shape := ⟨5, ![8, 8, 256, 8, 64]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x1024, .bf16⟩
  | .hbm, ⟨2, _⟩ => ⟨S8x8x512x256, .bf16⟩
  | .hbm, ⟨3, _⟩ => ⟨S8x32x128, .f32⟩
  | .hbm, ⟨4, _⟩ => ⟨S8x1024x2048, .f32⟩
  | .hbm, ⟨5, _⟩ => ⟨S8x8x128x2048, .f32⟩
  | .hbm, ⟨6, _⟩ => ⟨S8x2048x1024, .f32⟩
  | .hbm, ⟨7, _⟩ => ⟨S8x2048x8x128, .f32⟩
  | .hbm, ⟨8, _⟩ => ⟨S8x8x512x256, .f32⟩
  | .hbm, ⟨9, _⟩ => ⟨S8x8x8x64x256, .f32⟩
  | .hbm, ⟨10, _⟩ => ⟨S8x8x256x8x64, .f32⟩
  | .hbm, ⟨11, _⟩ => ⟨S8x2048x8x64, .f32⟩
  | .hbm, ⟨12, _⟩ => ⟨S8x8x2048x2048, .f32⟩
  | .hbm, ⟨13, _⟩ => ⟨S_, .f32⟩
  | .hbm, ⟨14, _⟩ => ⟨S_, .f32⟩
  | .hbm, ⟨15, _⟩ => ⟨S8x8x2048x2048, .f32⟩
  | .hbm, ⟨16, _⟩ => ⟨S8x8x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S8x8x2048x2048, .i1⟩
  | .hbm, ⟨25, _⟩ => ⟨S_, .f32⟩
  | .hbm, ⟨26, _⟩ => ⟨S_, .f32⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048, .f32⟩
  | .hbm, ⟨31, _⟩ => ⟨S_, .f32⟩
  | .hbm, ⟨32, _⟩ => ⟨S8x8x2048, .f32⟩
  | .hbm, ⟨33, _⟩ => ⟨S8x8x2048, .f32⟩
  | .hbm, ⟨34, _⟩ => ⟨S8x8x2048x1, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x64x2048, .f32⟩
  | .hbm, ⟨44, _⟩ => ⟨S8x2048x8x64, .f32⟩
  | .hbm, ⟨45, _⟩ => ⟨S8x2048x512, .f32⟩
  | .hbm, ⟨46, _⟩ => ⟨S8x2048x512, .bf16⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S1x256x8x128 : Shape := ⟨4, ![1, 256, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S256x8x128 : Shape := ⟨3, ![256, 8, 128]⟩
abbrev S256x8x64 : Shape := ⟨3, ![256, 8, 64]⟩
abbrev S8x256x64 : Shape := ⟨3, ![8, 256, 64]⟩
abbrev S_ : Shape := ⟨0, ![]⟩
abbrev S8 : Shape := ⟨1, ![8]⟩
abbrev S8x1x1 : Shape := ⟨3, ![8, 1, 1]⟩
abbrev S8x256x128 : Shape := ⟨3, ![8, 256, 128]⟩
abbrev S512x1024 : Shape := ⟨2, ![512, 1024]⟩
abbrev S1024x1024 : Shape := ⟨2, ![1024, 1024]⟩
abbrev S1024 : Shape := ⟨1, ![1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 59
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S8x2048x1024, .bf16⟩
  | .hbm, ⟨6, _⟩ => ⟨S8x2048x1024, .bf16⟩
  | .hbm, ⟨7, _⟩ => ⟨S1x256x8x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S256x8x128, .f32⟩
  | .hbm, ⟨13, _⟩ => ⟨S256x8x64, .f32⟩
  | .hbm, ⟨14, _⟩ => ⟨S8x256x64, .f32⟩
  | .hbm, ⟨15, _⟩ => ⟨S_, .f32⟩
  | .hbm, ⟨16, _⟩ => ⟨S8x256x64, .f32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i1⟩
  | .hbm, ⟨32, _⟩ => ⟨S_, .i32⟩
  | .hbm, ⟨33, _⟩ => ⟨S_, .i1⟩
  | .hbm, ⟨34, _⟩ => ⟨S8, .i1⟩
  | .hbm, ⟨35, _⟩ => ⟨S8, .i1⟩
  | .hbm, ⟨36, _⟩ => ⟨S8, .i1⟩
  | .hbm, ⟨37, _⟩ => ⟨S8, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S8x1x1, .i1⟩
  | .hbm, ⟨44, _⟩ => ⟨S8x256x64, .i1⟩
  | .hbm, ⟨45, _⟩ => ⟨S8x256x64, .f32⟩
  | .hbm, ⟨46, _⟩ => ⟨S8x256x64, .i1⟩
  | .hbm, ⟨47, _⟩ => ⟨S8x256x64, .f32⟩
  | .hbm, ⟨48, _⟩ => ⟨S8x256x128, .f32⟩
  | .hbm, ⟨49, _⟩ => ⟨S8x256x128, .bf16⟩
  | .hbm, ⟨50, _⟩ => ⟨S512x1024, .f32⟩
  | .hbm, ⟨51, _⟩ => ⟨S512x1024, .bf16⟩
  | .hbm, ⟨52, _⟩ => ⟨S512x1024, .f32⟩
  | .hbm, ⟨53, _⟩ => ⟨S512x1024, .bf16⟩
  | .hbm, ⟨54, _⟩ => ⟨S1024x1024, .f32⟩
  | .hbm, ⟨55, _⟩ => ⟨S1024x1024, .bf16⟩
  | .hbm, ⟨56, _⟩ => ⟨S1024, .f32⟩
  | .hbm, ⟨57, _⟩ => ⟨S1x1024, .f32⟩
  | .hbm, ⟨58, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S8x256x128, .bf16⟩
  | .local _ .vmem, ⟨19, _⟩ => ⟨S1x512x1024, .f32⟩
  | .local _ .vmem, ⟨20, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_call1_v0 : Ref sig .tc := ⟨.hbm, 44, rfl⟩
abbrev main_v9 : Ref sig .tc := ⟨.hbm, 45, rfl⟩
abbrev main_call2_v0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S8x2048x1024 : Shape := ⟨3, ![8, 2048, 1024]⟩
abbrev S8x2048x512 : Shape := ⟨3, ![8, 2048, 512]⟩
abbrev S1x256x8x128 : Shape := ⟨4, ![1, 256, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S8x2048x1024, .bf16⟩
  | .hbm, ⟨6, _⟩ => ⟨S8x2048x1024, .bf16⟩
  | .hbm, ⟨7, _⟩ => ⟨S1x256x8x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S8x2048x512, .f32⟩
  | .hbm, ⟨13, _⟩ => ⟨S8x2048x512, .f32⟩
  | .hbm, ⟨14, _⟩ => ⟨S8x2048x1024, .f32⟩
  | .hbm, ⟨15, _⟩ => ⟨S8x2048x1024, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S512x1024, .f32⟩
  | .hbm, ⟨28, _⟩ => ⟨S8x2048x1024, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S_, .f32⟩
  | .hbm, ⟨33, _⟩ => ⟨S8x2048x512, .f32⟩
  | .hbm, ⟨34, _⟩ => ⟨S8x2048x512, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S512x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S1024x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x2048x1, .f32⟩
  | .hbm, ⟨74, _⟩ => ⟨S8x2048x1024, .f32⟩
  | .hbm, ⟨75, _⟩ => ⟨S8x2048x1024, .f32⟩
  | .hbm, ⟨76, _⟩ => ⟨S1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst : Ref sig .tc := ⟨.hbm, 44, rfl⟩
abbrev main_v16 : Ref sig .tc := ⟨.hbm, 45, rfl⟩
abbrev main_v17 : Ref sig .tc := ⟨.hbm, 46, rfl⟩
abbrev main_cst_0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_1 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩

abbrev nD : Nat := 1
abbrev τ : Topo := Topo.v7x

variable {F : FTy → Type} [FloatOps F]
-- ==== Project.lean ====
abbrev S8x2048x1024 : Shape := ⟨3, ![8, 2048, 1024]⟩
abbrev S1x1024 : Shape := ⟨2, ![1, 1024]⟩
abbrev S1x1024x5048 : Shape := ⟨3, ![1, 1024, 5048]⟩
abbrev S1x32x2x2x64 : Shape := ⟨5, ![1, 32, 2, 2, 64]⟩
abbrev S1x384 : Shape := ⟨2, ![1, 384]⟩
abbrev S1x384x8x96 : Shape := ⟨4, ![1, 384, 8, 96]⟩
abbrev S1x256 : Shape := ⟨2, ![1, 256]⟩
abbrev S1x256x8x128 : Shape := ⟨4, ![1, 256, 8, 128]⟩
abbrev S2x8x2048 : Shape := ⟨3, ![2, 8, 2048]⟩
abbrev S2x16x2048 : Shape := ⟨3, ![2, 16, 2048]⟩
abbrev S16x512 : Shape := ⟨2, ![16, 512]⟩
abbrev S1024x5048 : Shape := ⟨2, ![1024, 5048]⟩
abbrev S1024x24 : Shape := ⟨2, ![1024, 24]⟩
abbrev S_ : Shape := ⟨0, ![]⟩
abbrev S32x1024 : Shape := ⟨2, ![32, 1024]⟩
abbrev S1024x12 : Shape := ⟨2, ![1024, 12]⟩
abbrev S12x1024 : Shape := ⟨2, ![12, 1024]⟩
abbrev S1 : Shape := ⟨1, ![1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1024x32 : Shape := ⟨2, ![1024, 32]⟩
abbrev S1344x1024 : Shape := ⟨2, ![1344, 1024]⟩
abbrev S1024x384 : Shape := ⟨2, ![1024, 384]⟩
abbrev S1024x1024 : Shape := ⟨2, ![1024, 1024]⟩
abbrev S1024x3712 : Shape := ⟨2, ![1024, 3712]⟩
abbrev S384x8x96 : Shape := ⟨3, ![384, 8, 96]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x768 : Shape := ⟨2, ![384, 768]⟩
abbrev S256x8x128 : Shape := ⟨3, ![256, 8, 128]⟩
abbrev S256x8x64 : Shape := ⟨3, ![256, 8, 64]⟩
abbrev S32x32 : Shape := ⟨2, ![32, 32]⟩
abbrev S128x128 : Shape := ⟨2, ![128, 128]⟩
abbrev S1x128x1x128 : Shape := ⟨4, ![1, 128, 1, 128]⟩
abbrev S1x128x8x128 : Shape := ⟨4, ![1, 128, 8, 128]⟩
abbrev S128x1024 : Shape := ⟨2, ![128, 1024]⟩
abbrev S384x1024 : Shape := ⟨2, ![384, 1024]⟩
abbrev S8x64x256 : Shape := ⟨3, ![8, 64, 256]⟩
abbrev S512x256 : Shape := ⟨2, ![512, 256]⟩
abbrev S1024 : Shape := ⟨1, ![1024]⟩
abbrev S32x2x2x64 : Shape := ⟨4, ![32, 2, 2, 64]⟩
abbrev S32x256 : Shape := ⟨2, ![32, 256]⟩
abbrev S384 : Shape := ⟨1, ![384]⟩
abbrev S768x384 : Shape := ⟨2, ![768, 384]⟩
abbrev S256 : Shape := ⟨1, ![256]⟩
abbrev S8x512x2048 : Shape := ⟨3, ![8, 512, 2048]⟩
abbrev S8x32x2048 : Shape := ⟨3, ![8, 32, 2048]⟩
abbrev S8x256x2048 : Shape := ⟨3, ![8, 256, 2048]⟩
abbrev S8x8x256x256 : Shape := ⟨4, ![8, 8, 256, 256]⟩
abbrev S8x2048x256 : Shape := ⟨3, ![8, 2048, 256]⟩
abbrev S8x2048x512 : Shape := ⟨3, ![8, 2048, 512]⟩
abbrev S8x1024x2048 : Shape := ⟨3, ![8, 1024, 2048]⟩
abbrev S8x8x512x256 : Shape := ⟨4, ![8, 8, 512, 256]⟩
abbrev S8x32x128 : Shape := ⟨3, ![8, 32, 128]⟩
abbrev S1x512x1024 : Shape := ⟨3, ![1, 512, 1024]⟩
abbrev S2x8x512 : Shape := ⟨3, ![2, 8, 512]⟩
abbrev S2x16x512 : Shape := ⟨3, ![2, 16, 512]⟩
abbrev S1x512x512 : Shape := ⟨3, ![1, 512, 512]⟩
abbrev S1x32x512 : Shape := ⟨3, ![1, 32, 512]⟩
abbrev S1x256x512 : Shape := ⟨3, ![1, 256, 512]⟩
abbrev S1x2x256x256 : Shape := ⟨4, ![1, 2, 256, 256]⟩
abbrev S1x512x256 : Shape := ⟨3, ![1, 512, 256]⟩
abbrev S1x16x256 : Shape := ⟨3, ![1, 16, 256]⟩
abbrev S1x1024x512 : Shape := ⟨3, ![1, 1024, 512]⟩
abbrev S1x2x512x256 : Shape := ⟨4, ![1, 2, 512, 256]⟩
abbrev S1x8x128 : Shape := ⟨3, ![1, 8, 128]⟩
abbrev S512 : Shape := ⟨1, ![512]⟩
abbrev S512x1 : Shape := ⟨2, ![512, 1]⟩
abbrev S1x8x512 : Shape := ⟨3, ![1, 8, 512]⟩
abbrev S8x512 : Shape := ⟨2, ![8, 512]⟩
abbrev S1x16x512 : Shape := ⟨3, ![1, 16, 512]⟩
abbrev S512x512 : Shape := ⟨2, ![512, 512]⟩
abbrev S64x512 : Shape := ⟨2, ![64, 512]⟩
abbrev S48x512 : Shape := ⟨2, ![48, 512]⟩
abbrev S256x512 : Shape := ⟨2, ![256, 512]⟩
abbrev S16x256 : Shape := ⟨2, ![16, 256]⟩
abbrev S256x256 : Shape := ⟨2, ![256, 256]⟩
abbrev S1x1x256x256 : Shape := ⟨4, ![1, 1, 256, 256]⟩
abbrev S32x512 : Shape := ⟨2, ![32, 512]⟩
abbrev S96x512 : Shape := ⟨2, ![96, 512]⟩
abbrev S128x512 : Shape := ⟨2, ![128, 512]⟩
abbrev S512x128 : Shape := ⟨2, ![512, 128]⟩
abbrev S512x384 : Shape := ⟨2, ![512, 384]⟩
abbrev S1x1 : Shape := ⟨2, ![1, 1]⟩
abbrev S1x128 : Shape := ⟨2, ![1, 128]⟩
abbrev S8x128 : Shape := ⟨2, ![8, 128]⟩
abbrev S1x1x512x256 : Shape := ⟨4, ![1, 1, 512, 256]⟩
abbrev S768x512 : Shape := ⟨2, ![768, 512]⟩

abbrev nBuf : Space → Nat
  | .hbm => 107
  | .vmem => 58
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5048, .f32⟩
  | .hbm, ⟨3, _⟩ => ⟨S1x32x2x2x64, .f32⟩
  | .hbm, ⟨4, _⟩ => ⟨S1x384, .f32⟩
  | .hbm, ⟨5, _⟩ => ⟨S1x384x8x96, .f32⟩
  | .hbm, ⟨6, _⟩ => ⟨S1x256, .f32⟩
  | .hbm, ⟨7, _⟩ => ⟨S1x256x8x128, .f32⟩
  | .hbm, ⟨8, _⟩ => ⟨S2x8x2048, .f32⟩
  | .hbm, ⟨9, _⟩ => ⟨S2x16x2048, .f32⟩
  | .hbm, ⟨10, _⟩ => ⟨S16x512, .bf16⟩
  | .hbm, ⟨11, _⟩ => ⟨S1024x5048, .f32⟩
  | .hbm, ⟨12, _⟩ => ⟨S1024x5048, .bf16⟩
  | .hbm, ⟨13, _⟩ => ⟨S1024x24, .bf16⟩
  | .hbm, ⟨14, _⟩ => ⟨S_, .bf16⟩
  | .hbm, ⟨15, _⟩ => ⟨S32x1024, .bf16⟩
  | .hbm, ⟨16, _⟩ => ⟨S1024x12, .bf16⟩
  | .hbm, ⟨17, _⟩ => ⟨S12x1024, .bf16⟩
  | .hbm, ⟨18, _⟩ => ⟨S_, .i32⟩
  | .hbm, ⟨19, _⟩ => ⟨S1, .i32⟩
  | .hbm, ⟨20, _⟩ => ⟨S32x1024, .bf16⟩
  | .hbm, ⟨21, _⟩ => ⟨S1024x12, .bf16⟩
  | .hbm, ⟨22, _⟩ => ⟨S12x1024, .bf16⟩
  | .hbm, ⟨23, _⟩ => ⟨S_, .i32⟩
  | .hbm, ⟨24, _⟩ => ⟨S1, .i32⟩
  | .hbm, ⟨25, _⟩ => ⟨S32x1024, .bf16⟩
  | .hbm, ⟨26, _⟩ => ⟨S1024x512, .bf16⟩
  | .hbm, ⟨27, _⟩ => ⟨S512x1024, .bf16⟩
  | .hbm, ⟨28, _⟩ => ⟨S1024x256, .bf16⟩
  | .hbm, ⟨29, _⟩ => ⟨S256x1024, .bf16⟩
  | .hbm, ⟨30, _⟩ => ⟨S1024x256, .bf16⟩
  | .hbm, ⟨31, _⟩ => ⟨S256x1024, .bf16⟩
  | .hbm, ⟨32, _⟩ => ⟨S1024x256, .bf16⟩
  | .hbm, ⟨33, _⟩ => ⟨S256x1024, .bf16⟩
  | .hbm, ⟨34, _⟩ => ⟨S1024x32, .bf16⟩
  | .hbm, ⟨35, _⟩ => ⟨S32x1024, .bf16⟩
  | .hbm, ⟨36, _⟩ => ⟨S1344x1024, .bf16⟩
  | .hbm, ⟨37, _⟩ => ⟨S1024x512, .bf16⟩
  | .hbm, ⟨38, _⟩ => ⟨S1024x384, .bf16⟩
  | .hbm, ⟨39, _⟩ => ⟨S1024x256, .bf16⟩
  | .hbm, ⟨40, _⟩ => ⟨S1024x512, .bf16⟩
  | .hbm, ⟨41, _⟩ => ⟨S1024x1024, .bf16⟩
  | .hbm, ⟨42, _⟩ => ⟨S1024x1024, .bf16⟩
  | .hbm, ⟨43, _⟩ => ⟨S1024x3712, .bf16⟩
  | .hbm, ⟨44, _⟩ => ⟨S384x8x96, .f32⟩
  | .hbm, ⟨45, _⟩ => ⟨S384x8x64, .f32⟩
  | .hbm, ⟨46, _⟩ => ⟨S384x512, .f32⟩
  | .hbm, ⟨47, _⟩ => ⟨S384x8x32, .f32⟩
  | .hbm, ⟨48, _⟩ => ⟨S384x256, .f32⟩
  | .hbm, ⟨49, _⟩ => ⟨S384x768, .f32⟩
  | .hbm, ⟨50, _⟩ => ⟨S256x8x128, .f32⟩
  | .hbm, ⟨51, _⟩ => ⟨S256x8x64, .f32⟩
  | .hbm, ⟨52, _⟩ => ⟨S_, .i32⟩
  | .hbm, ⟨53, _⟩ => ⟨S_, .f32⟩
  | .hbm, ⟨54, _⟩ => ⟨S256x8x128, .f32⟩
  | .hbm, ⟨55, _⟩ => ⟨S32x32, .i32⟩
  | .hbm, ⟨56, _⟩ => ⟨S32x32, .i32⟩
  | .hbm, ⟨57, _⟩ => ⟨S_, .i32⟩
  | .hbm, ⟨58, _⟩ => ⟨S32x32, .i32⟩
  | .hbm, ⟨59, _⟩ => ⟨S32x32, .i32⟩
  | .hbm, ⟨60, _⟩ => ⟨S32x32, .i1⟩
  | .hbm, ⟨61, _⟩ => ⟨S32x32, .bf16⟩
  | .hbm, ⟨62, _⟩ => ⟨S_, .i32⟩
  | .hbm, ⟨63, _⟩ => ⟨S_, .bf16⟩
  | .hbm, ⟨64, _⟩ => ⟨S128x128, .bf16⟩
  | .hbm, ⟨65, _⟩ => ⟨S256x1024, .f32⟩
  | .hbm, ⟨66, _⟩ => ⟨S1x128x1x128, .bf16⟩
  | .hbm, ⟨67, _⟩ => ⟨S1x128x8x128, .bf16⟩
  | .hbm, ⟨68, _⟩ => ⟨S128x1024, .bf16⟩
  | .hbm, ⟨69, _⟩ => ⟨S128x1024, .f32⟩
  | .hbm, ⟨70, _⟩ => ⟨S384x1024, .f32⟩
  | .hbm, ⟨71, _⟩ => ⟨S256x8x64, .f32⟩
  | .hbm, ⟨72, _⟩ => ⟨S8x64x256, .f32⟩
  | .hbm, ⟨73, _⟩ => ⟨S512x256, .f32⟩
  | .hbm, ⟨74, _⟩ => ⟨S1024, .f32⟩
  | .hbm, ⟨75, _⟩ => ⟨S1x1024, .f32⟩
  | .hbm, ⟨76, _⟩ => ⟨S32x2x2x64, .f32⟩
  | .hbm, ⟨77, _⟩ => ⟨S32x256, .f32⟩
  | .hbm, ⟨78, _⟩ => ⟨S384, .f32⟩
  | .hbm, ⟨79, _⟩ => ⟨S1x384, .f32⟩
  | .hbm, ⟨80, _⟩ => ⟨S768x384, .f32⟩
  | .hbm, ⟨81, _⟩ => ⟨S768x384, .bf16⟩
  | .hbm, ⟨82, _⟩ => ⟨S256, .f32⟩
  | .hbm, ⟨83, _⟩ => ⟨S1x256, .f32⟩
  | .hbm, ⟨84, _⟩ => ⟨S384x1024, .bf16⟩
  | .hbm, ⟨85, _⟩ => ⟨S512x256, .bf16⟩
  | .hbm, ⟨86, _⟩ => ⟨S8x512x2048, .bf16⟩
  | .hbm, ⟨87, _⟩ => ⟨S8x512x2048, .bf16⟩
  | .hbm, ⟨88, _⟩ => ⟨S8x32x2048, .f32⟩
  | .hbm, ⟨89, _⟩ => ⟨S8x256x2048, .f32⟩
  | .hbm, ⟨90, _⟩ => ⟨S8x256x2048, .f32⟩
  | .hbm, ⟨91, _⟩ => ⟨S8x256x2048, .f32⟩
  | .hbm, ⟨92, _⟩ => ⟨S8x8x256x256, .bf16⟩
  | .hbm, ⟨93, _⟩ => ⟨S8x8x256x256, .bf16⟩
  | .hbm, ⟨94, _⟩ => ⟨S8x2048x256, .bf16⟩
  | .hbm, ⟨95, _⟩ => ⟨S8x2048x256, .bf16⟩
  | .hbm, ⟨96, _⟩ => ⟨S8x64x256, .f32⟩
  | .hbm, ⟨97, _⟩ => ⟨S8x2048x512, .bf16⟩
  | .hbm, ⟨98, _⟩ => ⟨S8x2048x512, .bf16⟩
  | .hbm, ⟨99, _⟩ => ⟨S8x2048x1024, .bf16⟩
  | .hbm, ⟨100, _⟩ => ⟨S8x2048x1024, .bf16⟩
  | .hbm, ⟨101, _⟩ => ⟨S8x1024x2048, .bf16⟩
  | .hbm, ⟨102, _⟩ => ⟨S8x2048x256, .f32⟩
  | .hbm, ⟨103, _⟩ => ⟨S8x2048x1024, .bf16⟩
  | .hbm, ⟨104, _⟩ => ⟨S8x8x512x256, .bf16⟩
  | .hbm, ⟨105, _⟩ => ⟨S8x32x2048, .f32⟩
  | .hbm, ⟨106, _⟩ => ⟨S8x32x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1344x1024, .bf16⟩
  | .local _ .vmem, ⟨4, _⟩ => ⟨S1024x3712, .bf16⟩
  | .local _ .vmem, ⟨5, _⟩ => ⟨S2x8x512, .f32⟩
  | .local _ .vmem, ⟨6, _⟩ => ⟨S2x8x512, .f32⟩
  | .local _ .vmem, ⟨7, _⟩ => ⟨S2x16x512, .f32⟩
  | .local _ .vmem, ⟨8, _⟩ => ⟨S2x16x512, .f32⟩
  | .local _ .vmem, ⟨9, _⟩ => ⟨S32x256, .f32⟩
  | .local _ .vmem, ⟨10, _⟩ => ⟨S1x384, .f32⟩
  | .local _ .vmem, ⟨11, _⟩ => ⟨S768x384, .bf16⟩
  | .local _ .vmem, ⟨12, _⟩ => ⟨S1x256, .f32⟩
  | .local _ .vmem, ⟨13, _⟩ => ⟨S16x512, .bf16⟩
  | .local _ .vmem, ⟨14, _⟩ => ⟨S384x1024, .bf16⟩
  | .local _ .vmem, ⟨15, _⟩ => ⟨S512x256, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x32x512, .f32⟩
  | .local _ .vmem, ⟨21, _⟩ => ⟨S1x32x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x2x256x256, .bf16⟩
  | .local _ .vmem, ⟨29, _⟩ => ⟨S1x2x256x256, .bf16⟩
  | .local _ .vmem, ⟨30, _⟩ => ⟨S1x2x256x256, .bf16⟩
  | .local _ .vmem, ⟨31, _⟩ => ⟨S1x2x256x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x256, .bf16⟩
  | .local _ .vmem, ⟨35, _⟩ => ⟨S1x512x256, .bf16⟩
  | .local _ .vmem, ⟨36, _⟩ => ⟨S1x16x256, .f32⟩
  | .local _ .vmem, ⟨37, _⟩ => ⟨S1x16x256, .f32⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x512, .bf16⟩
  | .local _ .vmem, ⟨42, _⟩ => ⟨S1x512x1024, .bf16⟩
  | .local _ .vmem, ⟨43, _⟩ => ⟨S1x512x1024, .bf16⟩
  | .local _ .vmem, ⟨44, _⟩ => ⟨S1x512x1024, .bf16⟩
  | .local _ .vmem, ⟨45, _⟩ => ⟨S1x512x1024, .bf16⟩
  | .local _ .vmem, ⟨46, _⟩ => ⟨S1x1024x512, .bf16⟩
  | .local _ .vmem, ⟨47, _⟩ => ⟨S1x1024x512, .bf16⟩
  | .local _ .vmem, ⟨48, _⟩ => ⟨S1x512x256, .f32⟩
  | .local _ .vmem, ⟨49, _⟩ => ⟨S1x512x256, .f32⟩
  | .local _ .vmem, ⟨50, _⟩ => ⟨S1x512x1024, .bf16⟩
  | .local _ .vmem, ⟨51, _⟩ => ⟨S1x512x1024, .bf16⟩
  | .local _ .vmem, ⟨52, _⟩ => ⟨S1x2x512x256, .bf16⟩
  | .local _ .vmem, ⟨53, _⟩ => ⟨S1x2x512x256, .bf16⟩
  | .local _ .vmem, ⟨54, _⟩ => ⟨S1x32x512, .f32⟩
  | .local _ .vmem, ⟨55, _⟩ => ⟨S1x32x512, .f32⟩
  | .local _ .vmem, ⟨56, _⟩ => ⟨S1x8x128, .f32⟩
  | .local _ .vmem, ⟨57, _⟩ => ⟨S1x8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_2 : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67_0 : Ref sig .tc := ⟨.hbm, 86, rfl⟩
abbrev main_v67_1 : Ref sig .tc := ⟨.hbm, 87, rfl⟩
abbrev main_v67_2 : Ref sig .tc := ⟨.hbm, 88, rfl⟩
abbrev main_v67_3 : Ref sig .tc := ⟨.hbm, 89, rfl⟩
abbrev main_v67_4 : Ref sig .tc := ⟨.hbm, 90, rfl⟩
abbrev main_v67_5 : Ref sig .tc := ⟨.hbm, 91, rfl⟩
abbrev main_v67_6 : Ref sig .tc := ⟨.hbm, 92, rfl⟩
abbrev main_v67_7 : Ref sig .tc := ⟨.hbm, 93, rfl⟩
abbrev main_v67_8 : Ref sig .tc := ⟨.hbm, 94, rfl⟩
abbrev main_v67_9 : Ref sig .tc := ⟨.hbm, 95, rfl⟩
abbrev main_v67_10 : Ref sig .tc := ⟨.hbm, 96, rfl⟩
abbrev main_v67_11 : Ref sig .tc := ⟨.hbm, 97, rfl⟩
abbrev main_v67_12 : Ref sig .tc := ⟨.hbm, 98, rfl⟩
abbrev main_v67_13 : Ref sig .tc := ⟨.hbm, 99, rfl⟩
abbrev main_v67_14 : Ref sig .tc := ⟨.hbm, 100, rfl⟩
abbrev main_v67_15 : Ref sig .tc := ⟨.hbm, 101, rfl⟩
abbrev main_v67_16 : Ref sig .tc := ⟨.hbm, 102, rfl⟩
abbrev main_v67_17 : Ref sig .tc := ⟨.hbm, 103, rfl⟩
abbrev main_v67_18 : Ref sig .tc := ⟨.hbm, 104, rfl⟩
abbrev main_v67_19 : Ref sig .tc := ⟨.hbm, 105, rfl⟩
abbrev main_v67_20 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_stg29_0 : Ref sig .tc := ⟨.vmem, 48, rfl⟩
abbrev cc0_stg29_1 : Ref sig .tc := ⟨.vmem, 49, rfl⟩
abbrev cc0_stg30_0 : Ref sig .tc := ⟨.vmem, 50, rfl⟩
abbrev cc0_stg30_1 : Ref sig .tc := ⟨.vmem, 51, rfl⟩
abbrev cc0_stg31_0 : Ref sig .tc := ⟨.vmem, 52, rfl⟩
abbrev cc0_stg31_1 : Ref sig .tc := ⟨.vmem, 53, rfl⟩
abbrev cc0_stg32_0 : Ref sig .tc := ⟨.vmem, 54, rfl⟩
abbrev cc0_stg32_1 : Ref sig .tc := ⟨.vmem, 55, rfl⟩
abbrev cc0_stg33_0 : Ref sig .tc := ⟨.vmem, 56, rfl⟩
abbrev cc0_stg33_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47
abbrev cc0_sem29_0 : DmaSem sig := 48
abbrev cc0_sem29_1 : DmaSem sig := 49
abbrev cc0_sem30_0 : DmaSem sig := 50
abbrev cc0_sem30_1 : DmaSem sig := 51
abbrev cc0_sem31_0 : DmaSem sig := 52
abbrev cc0_sem31_1 : DmaSem sig := 53
abbrev cc0_sem32_0 : DmaSem sig := 54
abbrev cc0_sem32_1 : DmaSem sig := 55
abbrev cc0_sem33_0 : DmaSem sig := 56
abbrev cc0_sem33_1 : DmaSem sig := 57

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_32 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_33 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1344x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x16x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1024x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x2x512x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x32x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x8x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]
-- ==== ProjectReferenceIdeal.lean ====
abbrev S8x2048x1024 : Shape := ⟨3, ![8, 2048, 1024]⟩
abbrev S1x1024 : Shape := ⟨2, ![1, 1024]⟩
abbrev S1x1024x5048 : Shape := ⟨3, ![1, 1024, 5048]⟩
abbrev S1x32x2x2x64 : Shape := ⟨5, ![1, 32, 2, 2, 64]⟩
abbrev S1x384 : Shape := ⟨2, ![1, 384]⟩
abbrev S1x384x8x96 : Shape := ⟨4, ![1, 384, 8, 96]⟩
abbrev S1x256 : Shape := ⟨2, ![1, 256]⟩
abbrev S1x256x8x128 : Shape := ⟨4, ![1, 256, 8, 128]⟩
abbrev S2x8x2048 : Shape := ⟨3, ![2, 8, 2048]⟩
abbrev S2x16x2048 : Shape := ⟨3, ![2, 16, 2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5048 : Shape := ⟨2, ![1024, 5048]⟩
abbrev S8x2048x5048 : Shape := ⟨3, ![8, 2048, 5048]⟩
abbrev S8x2048x512 : Shape := ⟨3, ![8, 2048, 512]⟩
abbrev S8x2048x256 : Shape := ⟨3, ![8, 2048, 256]⟩
abbrev S8x2048x24 : Shape := ⟨3, ![8, 2048, 24]⟩
abbrev S8x2048x384 : Shape := ⟨3, ![8, 2048, 384]⟩
abbrev S8x2048x32 : Shape := ⟨3, ![8, 2048, 32]⟩
abbrev S8x256x2048 : Shape := ⟨3, ![8, 256, 2048]⟩
abbrev S256 : Shape := ⟨1, ![256]⟩
abbrev S1x1x256 : Shape := ⟨3, ![1, 1, 256]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5048, .f32⟩
  | .hbm, ⟨3, _⟩ => ⟨S1x32x2x2x64, .f32⟩
  | .hbm, ⟨4, _⟩ => ⟨S1x384, .f32⟩
  | .hbm, ⟨5, _⟩ => ⟨S1x384x8x96, .f32⟩
  | .hbm, ⟨6, _⟩ => ⟨S1x256, .f32⟩
  | .hbm, ⟨7, _⟩ => ⟨S1x256x8x128, .f32⟩
  | .hbm, ⟨8, _⟩ => ⟨S2x8x2048, .f32⟩
  | .hbm, ⟨9, _⟩ => ⟨S2x16x2048, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x5048, .f32⟩
  | .hbm, ⟨28, _⟩ => ⟨S8x2048x5048, .f32⟩
  | .hbm, ⟨29, _⟩ => ⟨S8x2048x512, .f32⟩
  | .hbm, ⟨30, _⟩ => ⟨S8x2048x256, .f32⟩
  | .hbm, ⟨31, _⟩ => ⟨S8x2048x256, .f32⟩
  | .hbm, ⟨32, _⟩ => ⟨S8x2048x256, .f32⟩
  | .hbm, ⟨33, _⟩ => ⟨S8x2048x24, .f32⟩
  | .hbm, ⟨34, _⟩ => ⟨S8x2048x512, .f32⟩
  | .hbm, ⟨35, _⟩ => ⟨S8x2048x384, .f32⟩
  | .hbm, ⟨36, _⟩ => ⟨S8x2048x256, .f32⟩
  | .hbm, ⟨37, _⟩ => ⟨S8x2048x32, .f32⟩
  | .hbm, ⟨38, _⟩ => ⟨S8x2048x512, .f32⟩
  | .hbm, ⟨39, _⟩ => ⟨S8x2048x1024, .f32⟩
  | .hbm, ⟨40, _⟩ => ⟨S8x2048x1024, .f32⟩
  | .hbm, ⟨41, _⟩ => ⟨S8x2048x512, .bf16⟩
  | .hbm, ⟨42, _⟩ => ⟨S8x2048x512, .bf16⟩
  | .hbm, ⟨43, _⟩ => ⟨S8x2048x1024, .bf16⟩
  | .hbm, ⟨44, _⟩ => ⟨S8x2048x1024, .bf16⟩
  | .hbm, ⟨45, _⟩ => ⟨S8x256x2048, .f32⟩
  | .hbm, ⟨46, _⟩ => ⟨S256, .f32⟩
  | .hbm, ⟨47, _⟩ => ⟨S8x2048x256, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x256, .f32⟩
  | .hbm, ⟨59, _⟩ => ⟨S8x2048x256, .f32⟩
  | .hbm, ⟨60, _⟩ => ⟨S1x1x256, .f32⟩
  | .hbm, ⟨61, _⟩ => ⟨S8x2048x256, .f32⟩
  | .hbm, ⟨62, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.MlaRun.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.VecWindow
public import Idealize.ShloMosaic.Lib.Tactic

@[expose] public section
set_option maxRecDepth 16384
noncomputable section
namespace Cert.KernelIdeal.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Three things and what is proved of them, as one. -/
def pack3 {α β γ : Type} {P : α → β → γ → Prop} (a : α) (b : β) (c : γ) (h : P a b c) : Σ' (a : α) (b : β), {c : γ // P a b c} :=
  ⟨a, b, c, h⟩

set_option maxHeartbeats 4000000 in
/-- What the body leaves in the output block, as a function of what it finds in its blocks, and its triple: the shifted softmax is run where the bound found at the head of the body is small
    enough, the running one otherwise. -/
def kernelRun (c : Dev nD) (i : grid0.Coords) (arg2 : Memref sig .tc .vmem S1x1024x256 .bf16) (harg2 : arg2.IsWhole) (arg3 : Memref sig .tc .vmem S1x2048x1024 .bf16) (harg3 : arg3.IsWhole) (arg4 : Memref sig .tc .vmem S1x8x512x256 .bf16) (harg4 : arg4.IsWhole) (arg5 : Memref sig .tc .vmem S1x32x128 .f32) (harg5 : arg5.IsWhole) (arg6 : Memref sig .tc .vmem S1x256x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x80x256 .f32) (harg9 : arg9.IsWhole)
    (x0 : Vec F S1x1024x256 .bf16) (x1 : Vec F S1x2048x1024 .bf16) (x2 : Vec F S1x8x512x256 .bf16) (x3 : Vec F S1x32x128 .f32) :
    Σ' (C : BitVec 1) (yS : Vec F S1x256x512 .bf16), { yO : Vec F S1x256x512 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ d, owns (c : Thread nD τ) arg7 fullShare d) ∗ (∃ d, owns (c : Thread nD τ) arg8 fullShare d) ∗ (∃ d, owns (c : Thread nD τ) arg9 fullShare d) ∗ (∃ d, ⌜(C = 1#1 ∧ d = yS) ∨ (C ≠ 1#1 ∧ d = yO)⌝ ∗ owns (c : Thread nD τ) arg6 fullShare d)) -∗ K ⟨⟩))
          ⊢ wp frame (wpE (defs₀ (F := F)) Variants.none c none) E (cc0_mla_prompt i arg2 harg2 arg3 harg3 arg4 harg4 arg5 harg5 arg6 harg6 arg7 harg7 arg8 harg8 arg9 harg9) K } := by
  apply pack3
  case h =>
    intro E K
    simp only [cc0_mla_prompt_eq_skeleton]; unfold cc0_mla_prompt_skel
    simp only [k0_part73_eq_skeleton]; unfold k0_part73_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec
    by_cases hc : kernelRun.sl.v192 c arg2 harg2 arg5 harg5 x0 x3 = 1#1
    on_goal 1 =>
      sl_exec (disch := first | sl_exact hc)
      sl_step
      iapply Hk
      isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      iexists _; isplitr
      swap; iexists _; isplitr
      swap; iexact H4
      ipureintro; rfl
      ipureintro; exact Or.inl ⟨hc, View.read_writes_full _ _ _ _ _⟩
    case neg =>
      sl_exec (disch := first | sl_exact hc)
      sl_step
      iapply Hk
      isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      iexists _; isplitr
      swap; iexists _; isplitr
      swap; iexact H4
      ipureintro; rfl
      ipureintro; exact Or.inr ⟨hc, View.read_writes_full _ _ _ _ _⟩

end Cert.KernelIdeal.Mla
-- ==== Proof.MlaFrame.lean ====
module

public import proofs.«01_k».proof.Proof.MlaRun
public import Idealize.ShloMosaic.Lib.Claim
public import Idealize.ShloMosaic.Lib.WordCmp

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at point `t`, on the blocks the point is given. -/
def runAt (c : Dev nD) (t : Fin cfg0.N) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t)

/-- What the body leaves in the output block at point `t`. -/
def outAt (c : Dev nD) (t : Fin cfg0.N) : Vec F S1x256x512 .bf16 :=
  if (runAt m c t).1 = 1#1 then (runAt m c t).2.1 else (runAt m c t).2.2.1

/-- The proof data: the inputs' blocks stay, the output block ends at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The launch's invariant, the scratch buffers as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩⟩
  iapply ((runAt m c t).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, HS0, HS1, HS2, ⟨%d, %hd, H4⟩⟩
  have e : d = outAt m c t := by
    unfold outAt
    rcases hd with ⟨h, rfl⟩ | ⟨h, rfl⟩
    · rw [if_pos h]
    · rw [if_neg h]
  subst e
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Cert.KernelIdeal.Mla

end
-- ==== Proof.MlaHead.lean ====
module

public import proofs.«01_k».proof.Proof.MlaRun
public import Idealize.ShloMosaic.Lib.Pointwise
public import Idealize.ShloMosaic.Lib.WritesUnit
public import Idealize.ShloMosaic.Lib.WholeRead

@[expose] public section
set_option maxRecDepth 16384
noncomputable section
namespace Cert.KernelIdeal.Mla
open Idealize.ShloMosaic Idealize.ShloMosaic.TcCoe Idealize.ShloMosaic.Tactic
open Cert.KernelIdeal.Gen

variable {F : FTy → Type} [FloatOps F] [Named F]

/-- The scores of one block of keys against the query tile of one head. -/
def score (kx : Vec F S1x256x128 .bf16) (qx : Vec F S1x128x256 .bf16) : FVec F S256x256 .f32 :=
  matmul dot_S256x128_S128x256_S256x256_1_0_0_1_n_n none (shapeCast S256x128 kx shapeCasts_S1x256x128_S256x128 : FVec F S256x128 .bf16)
    (shapeCast S128x256 qx shapeCasts_S1x128x256_S128x256 : FVec F S128x256 .bf16) (constant S256x256 .f32 0x00000000#32)

/-- The scores `s`, with the named least value at the keys after the query. -/
def causal (v12 v16 : IVec S256x256 32) (n : BitVec 32) (s : FVec F S256x256 .f32) : FVec F S256x256 .f32 :=
  select (cmpi .sle (addi (broadcast S256x256 (Scalar.muli n 256#32)) v12) v16) s (broadcast S256x256 (Named.named κ "mask" 0xF149F2CA#32 : F .f32))

/-- The rows of ones under the values. -/
def onesRows : FVec F S16x256 .bf16 := broadcast S16x256 (Scalar.ofBits .bf16 0x3F80#16 : F .bf16)

/-- The values, and the weights' sum below them. -/
def weigh (vx : Vec F S1x1x64x256 .bf16) (s : FVec F S256x256 .f32) : FVec F S80x256 .f32 :=
  matmul dot_S80x256_S256x256_S80x256_1_0_0_1_n_n none
    (concatenate S80x256 0 [⟨S64x256, (shapeCast S64x256 vx shapeCasts_S1x1x64x256_S64x256 : FVec F S64x256 .bf16)⟩, ⟨S16x256, (onesRows : FVec F S16x256 .bf16)⟩] concatenates_S64x256_S16x256_S80x256_d0)
    (truncf .bf16 (exp2 s) bitsLt_bf16_f32) (constant S80x256 .f32 0x00000000#32)

/-- One block added to the accumulator of a head. -/
def addBlock (ax : Vec F S1x80x256 .f32) (p : FVec F S80x256 .f32) : Vec F S1x80x256 .f32 :=
  shapeCast S1x80x256 (addf (shapeCast S80x256 ax shapeCasts_S1x80x256_S80x256 : FVec F S80x256 .f32) p) shapeCasts_S80x256_S1x80x256

/-- The scores less their bound. -/
def below (s : FVec F S256x256 .f32) (b : FVec F S1x256 .f32) : FVec F S256x256 .f32 :=
  subf s (broadcastTo S256x256 b broadcasts_S1x256_S256x256)

def newMax (m : FVec F S1x256 .f32) (s : FVec F S256x256 .f32) : FVec F S1x256 .f32 :=
  maximumf m (shapeCast S1x256 (multiReduction .maximumf [0] S256 s 0xFF800000#32 reduces_S256x256_S256 (.inl rfl) rfl) shapeCasts_S256_S1x256)

def putMax (mx : Vec F S1x1x256 .f32) (s : FVec F S256x256 .f32) : Vec F S1x1x256 .f32 :=
  shapeCast S1x1x256 (newMax (shapeCast S1x256 mx shapeCasts_S1x1x256_S1x256) s) shapeCasts_S1x256_S1x1x256

def putSum (mx lx : Vec F S1x1x256 .f32) (vx : Vec F S1x1x64x256 .bf16) (s : FVec F S256x256 .f32) : Vec F S1x1x256 .f32 :=
  shapeCast S1x1x256 (addf (mulf (exp2 (subf (shapeCast S1x256 mx shapeCasts_S1x1x256_S1x256) (newMax (shapeCast S1x256 mx shapeCasts_S1x1x256_S1x256) s))) (shapeCast S1x256 lx shapeCasts_S1x1x256_S1x256))
    (extractStridedSlice S1x256 ![64, 0] (weigh vx (below s (newMax (shapeCast S1x256 mx shapeCasts_S1x1x256_S1x256) s))) slices_S80x256_o64_0_S1x256)) shapeCasts_S1x256_S1x1x256

def putAcc (mx : Vec F S1x1x256 .f32) (ax : Vec F S1x64x256 .f32) (vx : Vec F S1x1x64x256 .bf16) (s : FVec F S256x256 .f32) : Vec F S1x64x256 .f32 :=
  shapeCast S1x64x256 (addf (mulf (broadcastTo S64x256 (exp2 (subf (shapeCast S1x256 mx shapeCasts_S1x1x256_S1x256) (newMax (shapeCast S1x256 mx shapeCasts_S1x1x256_S1x256) s))) broadcasts_S1x256_S64x256) (shapeCast S64x256 ax shapeCasts_S1x64x256_S64x256))
    (extractStridedSlice S64x256 ![0, 0] (weigh vx (below s (newMax (shapeCast S1x256 mx shapeCasts_S1x1x256_S1x256) s))) slices_S80x256_o0_0_S64x256)) shapeCasts_S64x256_S1x64x256

theorem score_apply (kx : Vec Ideal S1x256x128 .bf16) (qx : Vec Ideal S1x128x256 .bf16) (s c : Fin 256) :
    score kx qx (ix2 s c) = ∑ d : Fin 128, kx (ix3 0 s d) * qx (ix3 0 d c) := by
  unfold score
  pointwise

theorem causal_apply (v12 v16 : IVec S256x256 32) (n : BitVec 32) (x : FVec Ideal S256x256 .f32) (s c : Fin 256) :
    causal v12 v16 n x (ix2 s c) = if (n * 256#32 + v12 (ix2 s c)).toInt ≤ (v16 (ix2 s c)).toInt then x (ix2 s c) else ⊥ := by
  unfold causal
  pointwise
  rw [IdealRules.named_const.ideal_named_scalar κ "mask" (φ := .f32) 0xF149F2CA#32 ⊥ rfl, show IntOp.cmpi CmpIPredicate.sle (IntOp.addi (Scalar.muli n 256#32) (v12 (ix2 s c))) (v16 (ix2 s c)) = BitVec.ofBool (decide ((n * 256#32 + v12 (ix2 s c)).toInt ≤ (v16 (ix2 s c)).toInt)) from rfl, Scalar.select_ofBool]
  simp only [decide_eq_true_eq]

theorem weigh_apply (vx : Vec Ideal S1x1x64x256 .bf16) (x : FVec Ideal S256x256 .f32) (r : Fin 80) (c : Fin 256) :
    weigh vx x (ix2 r c) = ∑ s : Fin 256, (if h : r.val < 64 then vx (ix4 0 0 ⟨r.val, h⟩ s) else 1) * Ideal.exp2 (x (ix2 s c)) := by
  unfold weigh onesRows
  pointwise
  exact Finset.sum_congr rfl fun s _ => rfl

theorem below_apply (x : FVec Ideal S256x256 .f32) (b : FVec Ideal S1x256 .f32) (s c : Fin 256) :
    below x b (ix2 s c) = x (ix2 s c) - b (ix2 0 c) := by
  unfold below
  pointwise

theorem addBlock_apply (ax : Vec Ideal S1x80x256 .f32) (p : FVec Ideal S80x256 .f32) (r : Fin 80) (c : Fin 256) :
    addBlock ax p (ix3 0 r c) = ax (ix3 0 r c) + p (ix2 r c) := by
  unfold addBlock
  pointwise

theorem newMax_apply (m : FVec Ideal S1x256 .f32) (x : FVec Ideal S256x256 .f32) (c : Fin 256) :
    newMax m x (ix2 0 c) = max (m (ix2 0 c)) (Finset.univ.fold max ⊥ fun s : Fin 256 => x (ix2 s c)) := by
  unfold newMax
  pointwise
  rw [show Ideal.ofBits .f32 4286578688#32 = ⊥ from by simp [Ideal.ofBits, Ideal.ieee]]

theorem putMax_apply (mx : Vec Ideal S1x1x256 .f32) (x : FVec Ideal S256x256 .f32) (c : Fin 256) :
    putMax mx x (ix3 0 0 c) = newMax (shapeCast S1x256 mx shapeCasts_S1x1x256_S1x256) x (ix2 0 c) := by
  unfold putMax
  pointwise

theorem putSum_apply (mx lx : Vec Ideal S1x1x256 .f32) (vx : Vec Ideal S1x1x64x256 .bf16) (x : FVec Ideal S256x256 .f32) (c : Fin 256) :
    putSum mx lx vx x (ix3 0 0 c) = Ideal.exp2 (mx (ix3 0 0 c) - putMax mx x (ix3 0 0 c)) * lx (ix3 0 0 c)
      + ∑ s : Fin 256, 1 * Ideal.exp2 (x (ix2 s c) - putMax mx x (ix3 0 0 c)) := by
  unfold putSum
  pointwise [weigh_apply, below_apply, putMax_apply]
  rfl

theorem putAcc_apply (mx : Vec Ideal S1x1x256 .f32) (ax : Vec Ideal S1x64x256 .f32) (vx : Vec Ideal S1x1x64x256 .bf16) (x : FVec Ideal S256x256 .f32) (r : Fin 64) (c : Fin 256) :
    putAcc mx ax vx x (ix3 0 r c) = Ideal.exp2 (mx (ix3 0 0 c) - putMax mx x (ix3 0 0 c)) * ax (ix3 0 r c)
      + ∑ s : Fin 256, vx (ix4 0 0 r s) * Ideal.exp2 (x (ix2 s c) - putMax mx x (ix3 0 0 c)) := by
  unfold putAcc
  pointwise [weigh_apply, below_apply, putMax_apply]
  rfl

/-- The score of key `j` of head `h` against query `c` of the tile. -/
def scoreOf (x0 : Vec Ideal S1x1024x256 .bf16) (x1 : Vec Ideal S1x2048x1024 .bf16) (h : Fin 8) (j : Fin 2048) (c : Fin 256) : EReal :=
  ∑ d : Fin 128, x1 (ix3 0 j ⟨128 * h.val + d.val, by omega⟩) * x0 (ix3 0 ⟨128 * h.val + d.val, by omega⟩ c)

/-- Key `s` of block `k`. -/
def key (k : Fin 8) (s : Fin 256) : Fin 2048 := ⟨256 * k.val + s.val, by omega⟩

/-- Entry `r` of the value of key `s` of block `k`, for head `h`. -/
def valueOf (x2 : Vec Ideal S1x8x512x256 .bf16) (h : Fin 8) (k : Fin 8) (s : Fin 256) (r : Fin 64) : EReal :=
  x2 (ix4 0 k ⟨64 * h.val + r.val, by omega⟩ s)

theorem read_pieces80 (M : Memref sig .tc .vmem S8x80x256 .f32) (f : BufTy.Contents (Elt F) M.view.ty) (p0 p1 p2 p3 p4 p5 p6 p7 : Vec F S1x80x256 .f32) (h : Fin 8) (r : Fin 80) (c : Fin 256) :
    M.view.read (Elt F) (M.view.writes (Elt F) f
      [⟨Rect.unit ![7, 0, 0] S1x80x256.size inb_S8x80x256_S1x80x256_7_0_0, p7⟩, ⟨Rect.unit ![6, 0, 0] S1x80x256.size inb_S8x80x256_S1x80x256_6_0_0, p6⟩,
       ⟨Rect.unit ![5, 0, 0] S1x80x256.size inb_S8x80x256_S1x80x256_5_0_0, p5⟩, ⟨Rect.unit ![4, 0, 0] S1x80x256.size inb_S8x80x256_S1x80x256_4_0_0, p4⟩,
       ⟨Rect.unit ![3, 0, 0] S1x80x256.size inb_S8x80x256_S1x80x256_3_0_0, p3⟩, ⟨Rect.unit ![2, 0, 0] S1x80x256.size inb_S8x80x256_S1x80x256_2_0_0, p2⟩,
       ⟨Rect.unit ![1, 0, 0] S1x80x256.size inb_S8x80x256_S1x80x256_1_0_0, p1⟩, ⟨Rect.unit ![0, 0, 0] S1x80x256.size inb_S8x80x256_S1x80x256_0_0_0, p0⟩]) (ix3 h r c)
      = (![p0, p1, p2, p3, p4, p5, p6, p7] : Fin 8 → Vec F S1x80x256 .f32) h (ix3 0 r c) := by
  fin_cases h <;>
    repeat' first
      | exact View.read_writes_cons_unit_of_mem M.view f _ _ _ _ (ix3 0 r c) rfl (by intro a; fin_cases a <;> first | rfl | exact (Nat.zero_add _).symm)
      | refine (View.read_writes_cons_unit_of_not_mem M.view f _ _ _ _ rfl 0 (Or.inl (Nat.le_of_ble_eq_true rfl))).trans ?_

theorem read_pieces64 (M : Memref sig .tc .vmem S8x80x256 .f32) (f : BufTy.Contents (Elt F) M.view.ty) (p0 p1 p2 p3 p4 p5 p6 p7 : Vec F S1x64x256 .f32) (h : Fin 8) (r : Fin 64) (c : Fin 256) :
    M.view.read (Elt F) (M.view.writes (Elt F) f
      [⟨Rect.unit ![7, 0, 0] S1x64x256.size inb_S8x80x256_S1x64x256_7_0_0, p7⟩, ⟨Rect.unit ![6, 0, 0] S1x64x256.size inb_S8x80x256_S1x64x256_6_0_0, p6⟩,
       ⟨Rect.unit ![5, 0, 0] S1x64x256.size inb_S8x80x256_S1x64x256_5_0_0, p5⟩, ⟨Rect.unit ![4, 0, 0] S1x64x256.size inb_S8x80x256_S1x64x256_4_0_0, p4⟩,
       ⟨Rect.unit ![3, 0, 0] S1x64x256.size inb_S8x80x256_S1x64x256_3_0_0, p3⟩, ⟨Rect.unit ![2, 0, 0] S1x64x256.size inb_S8x80x256_S1x64x256_2_0_0, p2⟩,
       ⟨Rect.unit ![1, 0, 0] S1x64x256.size inb_S8x80x256_S1x64x256_1_0_0, p1⟩, ⟨Rect.unit ![0, 0, 0] S1x64x256.size inb_S8x80x256_S1x64x256_0_0_0, p0⟩]) (ix3 h ⟨r.val, by omega⟩ c)
      = (![p0, p1, p2, p3, p4, p5, p6, p7] : Fin 8 → Vec F S1x64x256 .f32) h (ix3 0 r c) := by
  fin_cases h <;>
    repeat' first
      | exact View.read_writes_cons_unit_of_mem M.view f _ _ _ _ (ix3 0 r c) rfl (by intro a; fin_cases a <;> first | rfl | exact (Nat.zero_add _).symm)
      | refine (View.read_writes_cons_unit_of_not_mem M.view f _ _ _ _ rfl 0 (Or.inl (Nat.le_of_ble_eq_true rfl))).trans ?_

theorem read_pieces1 (M : Memref sig .tc .vmem S8x1x256 .f32) (f : BufTy.Contents (Elt F) M.view.ty) (p0 p1 p2 p3 p4 p5 p6 p7 : Vec F S1x1x256 .f32) (h : Fin 8) (c : Fin 256) :
    M.view.read (Elt F) (M.view.writes (Elt F) f
      [⟨Rect.unit ![7, 0, 0] S1x1x256.size inb_S8x1x256_S1x1x256_7_0_0, p7⟩, ⟨Rect.unit ![6, 0, 0] S1x1x256.size inb_S8x1x256_S1x1x256_6_0_0, p6⟩,
       ⟨Rect.unit ![5, 0, 0] S1x1x256.size inb_S8x1x256_S1x1x256_5_0_0, p5⟩, ⟨Rect.unit ![4, 0, 0] S1x1x256.size inb_S8x1x256_S1x1x256_4_0_0, p4⟩,
       ⟨Rect.unit ![3, 0, 0] S1x1x256.size inb_S8x1x256_S1x1x256_3_0_0, p3⟩, ⟨Rect.unit ![2, 0, 0] S1x1x256.size inb_S8x1x256_S1x1x256_2_0_0, p2⟩,
       ⟨Rect.unit ![1, 0, 0] S1x1x256.size inb_S8x1x256_S1x1x256_1_0_0, p1⟩, ⟨Rect.unit ![0, 0, 0] S1x1x256.size inb_S8x1x256_S1x1x256_0_0_0, p0⟩]) (ix3 h 0 c)
      = (![p0, p1, p2, p3, p4, p5, p6, p7] : Fin 8 → Vec F S1x1x256 .f32) h (ix3 0 0 c) := by
  fin_cases h <;>
    repeat' first
      | exact View.read_writes_cons_unit_of_mem M.view f _ _ _ _ (ix3 0 0 c) rfl (by intro a; fin_cases a <;> first | rfl | exact (Nat.zero_add _).symm)
      | refine (View.read_writes_cons_unit_of_not_mem M.view f _ _ _ _ rfl 0 (Or.inl (Nat.le_of_ble_eq_true rfl))).trans ?_

/-- A unit rectangle's index, axis by axis. -/
theorem unit_idx3 {n0 n1 n2 m0 m1 m2 a0 a1 a2 : ℕ} {off : Fin 3 → ℕ} (ho : off = ![a0, a1, a2]) (inb : ∀ a, off a + (![m0, m1, m2] : Fin 3 → ℕ) a ≤ (⟨3, ![n0, n1, n2]⟩ : Shape).size a)
    (y0 : Fin m0) (y1 : Fin m1) (y2 : Fin m2) (h0 : a0 + y0.val < n0) (h1 : a1 + y1.val < n1) (h2 : a2 + y2.val < n2) :
    (Rect.unit (s := ⟨3, ![n0, n1, n2]⟩) off ![m0, m1, m2] inb).toLoadRect.idx (ix3 y0 y1 y2) = ix3 ⟨a0 + y0.val, h0⟩ ⟨a1 + y1.val, h1⟩ ⟨a2 + y2.val, h2⟩ := by
  subst ho
  funext a
  fin_cases a <;> exact Fin.ext (by simp [LoadRect.idx, Rect.toLoadRect, Rect.unit, ix3])

theorem unit_idx4 {n0 n1 n2 n3 m0 m1 m2 m3 a0 a1 a2 a3 : ℕ} {off : Fin 4 → ℕ} (ho : off = ![a0, a1, a2, a3]) (inb : ∀ a, off a + (![m0, m1, m2, m3] : Fin 4 → ℕ) a ≤ (⟨4, ![n0, n1, n2, n3]⟩ : Shape).size a)
    (y0 : Fin m0) (y1 : Fin m1) (y2 : Fin m2) (y3 : Fin m3) (h0 : a0 + y0.val < n0) (h1 : a1 + y1.val < n1) (h2 : a2 + y2.val < n2) (h3 : a3 + y3.val < n3) :
    (Rect.unit (s := ⟨4, ![n0, n1, n2, n3]⟩) off ![m0, m1, m2, m3] inb).toLoadRect.idx (ix4 y0 y1 y2 y3) = ix4 ⟨a0 + y0.val, h0⟩ ⟨a1 + y1.val, h1⟩ ⟨a2 + y2.val, h2⟩ ⟨a3 + y3.val, h3⟩ := by
  subst ho
  funext a
  fin_cases a <;> exact Fin.ext (by simp [LoadRect.idx, Rect.toLoadRect, Rect.unit, ix4])

/-- The row of a head's accumulator: the value's entries, then ones. -/
def rowOf (x2 : Vec Ideal S1x8x512x256 .bf16) (h : Fin 8) (k : Fin 8) (s : Fin 256) (r : Fin 80) : EReal :=
  if hr : r.val < 64 then valueOf x2 h k s ⟨r.val, hr⟩ else 1

theorem score_read (arg2 : Memref sig .tc .vmem S1x1024x256 .bf16) (harg2 : arg2.IsWhole) (arg3 : Memref sig .tc .vmem S1x2048x1024 .bf16) (harg3 : arg3.IsWhole)
    (x0 : Vec Ideal S1x1024x256 .bf16) (x1 : Vec Ideal S1x2048x1024 .bf16) (h k : Fin 8)
    {offK offQ : Fin 3 → ℕ} (hK : offK = ![0, 256 * k.val, 128 * h.val]) (hQ : offQ = ![0, 128 * h.val, 0]) (inbK : ∀ a, offK a + S1x256x128.size a ≤ S1x2048x1024.size a)
    (inbQ : ∀ a, offQ a + S1x128x256.size a ≤ S1x1024x256.size a) (s c : Fin 256) :
    score (F := Ideal) (View.readAt (Elt Ideal) arg3.view (Rect.unit (s := S1x2048x1024) offK S1x256x128.size inbK).toLoadRect (harg3.unread x1))
      (View.readAt (Elt Ideal) arg2.view (Rect.unit (s := S1x1024x256) offQ S1x128x256.size inbQ).toLoadRect (harg2.unread x0)) (ix2 s c) = scoreOf x0 x1 h (key k s) c := by
  rw [score_apply]
  refine Finset.sum_congr rfl fun d _ => ?_
  rw [harg3.readAt_unread, harg2.readAt_unread]
  rw [show (Rect.unit (s := S1x2048x1024) offK S1x256x128.size inbK).toLoadRect.idx (ix3 0 s d) = _ from unit_idx3 hK inbK 0 s d (by decide) (by omega) (by omega),
    show (Rect.unit (s := S1x1024x256) offQ S1x128x256.size inbQ).toLoadRect.idx (ix3 0 d c) = _ from unit_idx3 hQ inbQ 0 d c (by decide) (by omega) (by omega)]
  congr 2
  funext a; fin_cases a <;> first | rfl | exact Fin.ext (Nat.zero_add _)

theorem value_read (arg4 : Memref sig .tc .vmem S1x8x512x256 .bf16) (harg4 : arg4.IsWhole) (x2 : Vec Ideal S1x8x512x256 .bf16) (h k : Fin 8)
    {offV : Fin 4 → ℕ} (hV : offV = ![0, k.val, 64 * h.val, 0]) (inbV : ∀ a, offV a + S1x1x64x256.size a ≤ S1x8x512x256.size a) (r : Fin 64) (s : Fin 256) :
    View.readAt (Elt Ideal) arg4.view (Rect.unit (s := S1x8x512x256) offV S1x1x64x256.size inbV).toLoadRect (harg4.unread x2) (ix4 0 0 r s) = valueOf x2 h k s r := by
  rw [harg4.readAt_unread]
  rw [show (Rect.unit (s := S1x8x512x256) offV S1x1x64x256.size inbV).toLoadRect.idx (ix4 0 0 r s) = _ from unit_idx4 hV inbV 0 0 r s (by decide) (by omega) (by omega) (by omega)]
  exact congrArg x2 (by funext a; fin_cases a <;> first | rfl | exact Fin.ext (Nat.zero_add _))

theorem weigh_read (arg4 : Memref sig .tc .vmem S1x8x512x256 .bf16) (harg4 : arg4.IsWhole) (x2 : Vec Ideal S1x8x512x256 .bf16) (h k : Fin 8)
    {offV : Fin 4 → ℕ} (hV : offV = ![0, k.val, 64 * h.val, 0]) (inbV : ∀ a, offV a + S1x1x64x256.size a ≤ S1x8x512x256.size a) (x : FVec Ideal S256x256 .f32) (r : Fin 80) (c : Fin 256) :
    weigh (F := Ideal) (View.readAt (Elt Ideal) arg4.view (Rect.unit (s := S1x8x512x256) offV S1x1x64x256.size inbV).toLoadRect (harg4.unread x2)) x (ix2 r c)
      = ∑ s : Fin 256, rowOf x2 h k s r * Ideal.exp2 (x (ix2 s c)) := by
  rw [weigh_apply]
  refine Finset.sum_congr rfl fun s _ => ?_
  unfold rowOf
  split
  · rw [value_read arg4 harg4 x2 h k hV inbV]
  · rfl

theorem acc_read (M : Memref sig .tc .vmem S8x80x256 .f32) (f : BufTy.Contents (Elt F) M.view.ty) (h : Fin 8)
    {off : Fin 3 → ℕ} (ho : off = ![h.val, 0, 0]) (inb : ∀ a, off a + S1x80x256.size a ≤ S8x80x256.size a) (r : Fin 80) (c : Fin 256) :
    View.readAt (Elt F) M.view (Rect.unit (s := S8x80x256) off S1x80x256.size inb).toLoadRect f (ix3 0 r c) = M.view.read (Elt F) f (ix3 h r c) :=
  congrArg (M.view.read (Elt F) f) ((unit_idx3 ho inb 0 r c (by omega) (by omega) (by omega)).trans
    (by funext a; fin_cases a <;> first | rfl | exact Fin.ext (Nat.zero_add _)))

theorem acc_read64 (M : Memref sig .tc .vmem S8x80x256 .f32) (f : BufTy.Contents (Elt F) M.view.ty) (h : Fin 8)
    {off : Fin 3 → ℕ} (ho : off = ![h.val, 0, 0]) (inb : ∀ a, off a + S1x64x256.size a ≤ S8x80x256.size a) (r : Fin 64) (c : Fin 256) :
    View.readAt (Elt F) M.view (Rect.unit (s := S8x80x256) off S1x64x256.size inb).toLoadRect f (ix3 0 r c) = M.view.read (Elt F) f (ix3 h ⟨r.val, by omega⟩ c) :=
  congrArg (M.view.read (Elt F) f) ((unit_idx3 ho inb 0 r c (by omega) (by omega) (by omega)).trans
    (by funext a; fin_cases a <;> first | rfl | exact Fin.ext (Nat.zero_add _)))

theorem row_read (M : Memref sig .tc .vmem S8x1x256 .f32) (f : BufTy.Contents (Elt F) M.view.ty) (h : Fin 8)
    {off : Fin 3 → ℕ} (ho : off = ![h.val, 0, 0]) (inb : ∀ a, off a + S1x1x256.size a ≤ S8x1x256.size a) (c : Fin 256) :
    View.readAt (Elt F) M.view (Rect.unit (s := S8x1x256) off S1x1x256.size inb).toLoadRect f (ix3 0 0 c) = M.view.read (Elt F) f (ix3 h 0 c) :=
  congrArg (M.view.read (Elt F) f) ((unit_idx3 ho inb 0 0 c (by omega) (by omega) (by omega)).trans
    (by funext a; fin_cases a <;> first | rfl | exact Fin.ext (Nat.zero_add _)))

end Cert.KernelIdeal.Mla
-- ==== Proof.MlaOffsets.lean ====
module

public import proofs.«01_k».proof.Proof.MlaHead

@[expose] public section
set_option maxRecDepth 16384
noncomputable section
namespace Cert.KernelIdeal.Mla
open Idealize.ShloMosaic Idealize.ShloMosaic.TcCoe Idealize.ShloMosaic.Tactic
open Cert.KernelIdeal.Gen

theorem trips_t1 (i : grid0.Coords) : (k0_t1_loop i).trips = (i 1).val := by
  unfold k0_t1_loop
  generalize (i 1) = a
  change Fin 8 at a
  revert a
  decide +kernel

theorem trips_t2 (i : grid0.Coords) : (k0_t2_loop i).trips = 0 := by
  unfold k0_t2_loop
  generalize (i 1) = a
  change Fin 8 at a
  revert a
  decide +kernel

theorem trips_t3 (i : grid0.Coords) : (k0_t3_loop i).trips = 1 := by
  unfold k0_t3_loop
  generalize (i 1) = a
  change Fin 8 at a
  revert a
  decide +kernel

theorem trips_t4 (i : grid0.Coords) : (k0_t4_loop i).trips = 0 := by
  unfold k0_t4_loop
  generalize (i 1) = a
  change Fin 8 at a
  revert a
  decide +kernel

theorem trips_t5 (i : grid0.Coords) : (k0_t5_loop i).trips = (i 1).val := by
  unfold k0_t5_loop
  generalize (i 1) = a
  change Fin 8 at a
  revert a
  decide +kernel

theorem trips_t6 (i : grid0.Coords) : (k0_t6_loop i).trips = 0 := by
  unfold k0_t6_loop
  generalize (i 1) = a
  change Fin 8 at a
  revert a
  decide +kernel

theorem trips_t7 (i : grid0.Coords) : (k0_t7_loop i).trips = 1 := by
  unfold k0_t7_loop
  generalize (i 1) = a
  change Fin 8 at a
  revert a
  decide +kernel

theorem trips_t8 (i : grid0.Coords) : (k0_t8_loop i).trips = 0 := by
  unfold k0_t8_loop
  generalize (i 1) = a
  change Fin 8 at a
  revert a
  decide +kernel

theorem lb_t3 (i : grid0.Coords) : (k0_t3_loop i).lb = BitVec.ofNat 32 (i 1).val := by
  unfold k0_t3_loop
  generalize (i 1) = a
  change Fin 8 at a
  revert a
  decide +kernel

theorem lb_t7 (i : grid0.Coords) : (k0_t7_loop i).lb = BitVec.ofNat 32 (i 1).val := by
  unfold k0_t7_loop
  generalize (i 1) = a
  change Fin 8 at a
  revert a
  decide +kernel

theorem block_at : ∀ k : Fin 8, (Scalar.indexCast (Scalar.muli (Scf.iv 0#32 1#32 k.val) 256#32)).toNat = 256 * k.val := by decide +kernel
theorem chunk_at : ∀ k : Fin 8, (Scalar.indexCast (Scf.iv 0#32 1#32 k.val) : BitVec 32).toNat = k.val := by decide +kernel
theorem block_from : ∀ k : Fin 8, (Scalar.indexCast (Scalar.muli (Scf.iv (BitVec.ofNat 32 k.val) 1#32 0) 256#32)).toNat = 256 * k.val := by decide +kernel
theorem chunk_from : ∀ k : Fin 8, (Scalar.indexCast (Scf.iv (BitVec.ofNat 32 k.val) 1#32 0) : BitVec 32).toNat = k.val := by decide +kernel

theorem off1 (i : grid0.Coords) (k : Fin (k0_t1_loop i).trips) (k' : Fin 8) (hk : k.val = k'.val) : k0_off1 i k = ![0, 256 * k'.val, 128 * ((0 : Fin 8)).val] := by
  unfold k0_off1; rw [hk]; exact congrArg (fun n => ![0, n, 0]) (block_at k')
theorem off9 (i : grid0.Coords) (k : Fin (k0_t1_loop i).trips) (k' : Fin 8) (hk : k.val = k'.val) : k0_off9 i k = ![0, k'.val, 64 * ((0 : Fin 8)).val, 0] := by
  unfold k0_off9; rw [hk]; exact congrArg (fun n => ![0, n, 0, 0]) (chunk_at k')
theorem off2 (i : grid0.Coords) (k : Fin (k0_t1_loop i).trips) (k' : Fin 8) (hk : k.val = k'.val) : k0_off2 i k = ![0, 256 * k'.val, 128 * ((1 : Fin 8)).val] := by
  unfold k0_off2; rw [hk]; exact congrArg (fun n => ![0, n, 128]) (block_at k')
theorem off10 (i : grid0.Coords) (k : Fin (k0_t1_loop i).trips) (k' : Fin 8) (hk : k.val = k'.val) : k0_off10 i k = ![0, k'.val, 64 * ((1 : Fin 8)).val, 0] := by
  unfold k0_off10; rw [hk]; exact congrArg (fun n => ![0, n, 64, 0]) (chunk_at k')
theorem off3 (i : grid0.Coords) (k : Fin (k0_t1_loop i).trips) (k' : Fin 8) (hk : k.val = k'.val) : k0_off3 i k = ![0, 256 * k'.val, 128 * ((2 : Fin 8)).val] := by
  unfold k0_off3; rw [hk]; exact congrArg (fun n => ![0, n, 256]) (block_at k')
theorem off11 (i : grid0.Coords) (k : Fin (k0_t1_loop i).trips) (k' : Fin 8) (hk : k.val = k'.val) : k0_off11 i k = ![0, k'.val, 64 * ((2 : Fin 8)).val, 0] := by
  unfold k0_off11; rw [hk]; exact congrArg (fun n => ![0, n, 128, 0]) (chunk_at k')
theorem off4 (i : grid0.Coords) (k : Fin (k0_t1_loop i).trips) (k' : Fin 8) (hk : k.val = k'.val) : k0_off4 i k = ![0, 256 * k'.val, 128 * ((3 : Fin 8)).val] := by
  unfold k0_off4; rw [hk]; exact congrArg (fun n => ![0, n, 384]) (block_at k')
theorem off12 (i : grid0.Coords) (k : Fin (k0_t1_loop i).trips) (k' : Fin 8) (hk : k.val = k'.val) : k0_off12 i k = ![0, k'.val, 64 * ((3 : Fin 8)).val, 0] := by
  unfold k0_off12; rw [hk]; exact congrArg (fun n => ![0, n, 192, 0]) (chunk_at k')
theorem off5 (i : grid0.Coords) (k : Fin (k0_t1_loop i).trips) (k' : Fin 8) (hk : k.val = k'.val) : k0_off5 i k = ![0, 256 * k'.val, 128 * ((4 : Fin 8)).val] := by
  unfold k0_off5; rw [hk]; exact congrArg (fun n => ![0, n, 512]) (block_at k')
theorem off13 (i : grid0.Coords) (k : Fin (k0_t1_loop i).trips) (k' : Fin 8) (hk : k.val = k'.val) : k0_off13 i k = ![0, k'.val, 64 * ((4 : Fin 8)).val, 0] := by
  unfold k0_off13; rw [hk]; exact congrArg (fun n => ![0, n, 256, 0]) (chunk_at k')
theorem off6 (i : grid0.Coords) (k : Fin (k0_t1_loop i).trips) (k' : Fin 8) (hk : k.val = k'.val) : k0_off6 i k = ![0, 256 * k'.val, 128 * ((5 : Fin 8)).val] := by
  unfold k0_off6; rw [hk]; exact congrArg (fun n => ![0, n, 640]) (block_at k')
theorem off14 (i : grid0.Coords) (k : Fin (k0_t1_loop i).trips) (k' : Fin 8) (hk : k.val = k'.val) : k0_off14 i k = ![0, k'.val, 64 * ((5 : Fin 8)).val, 0] := by
  unfold k0_off14; rw [hk]; exact congrArg (fun n => ![0, n, 320, 0]) (chunk_at k')
theorem off7 (i : grid0.Coords) (k : Fin (k0_t1_loop i).trips) (k' : Fin 8) (hk : k.val = k'.val) : k0_off7 i k = ![0, 256 * k'.val, 128 * ((6 : Fin 8)).val] := by
  unfold k0_off7; rw [hk]; exact congrArg (fun n => ![0, n, 768]) (block_at k')
theorem off15 (i : grid0.Coords) (k : Fin (k0_t1_loop i).trips) (k' : Fin 8) (hk : k.val = k'.val) : k0_off15 i k = ![0, k'.val, 64 * ((6 : Fin 8)).val, 0] := by
  unfold k0_off15; rw [hk]; exact congrArg (fun n => ![0, n, 384, 0]) (chunk_at k')
theorem off8 (i : grid0.Coords) (k : Fin (k0_t1_loop i).trips) (k' : Fin 8) (hk : k.val = k'.val) : k0_off8 i k = ![0, 256 * k'.val, 128 * ((7 : Fin 8)).val] := by
  unfold k0_off8; rw [hk]; exact congrArg (fun n => ![0, n, 896]) (block_at k')
theorem off16 (i : grid0.Coords) (k : Fin (k0_t1_loop i).trips) (k' : Fin 8) (hk : k.val = k'.val) : k0_off16 i k = ![0, k'.val, 64 * ((7 : Fin 8)).val, 0] := by
  unfold k0_off16; rw [hk]; exact congrArg (fun n => ![0, n, 448, 0]) (chunk_at k')
theorem off65 (i : grid0.Coords) (k : Fin (k0_t5_loop i).trips) (k' : Fin 8) (hk : k.val = k'.val) : k0_off65 i k = ![0, 256 * k'.val, 128 * ((0 : Fin 8)).val] := by
  unfold k0_off65; rw [hk]; exact congrArg (fun n => ![0, n, 0]) (block_at k')
theorem off73 (i : grid0.Coords) (k : Fin (k0_t5_loop i).trips) (k' : Fin 8) (hk : k.val = k'.val) : k0_off73 i k = ![0, k'.val, 64 * ((0 : Fin 8)).val, 0] := by
  unfold k0_off73; rw [hk]; exact congrArg (fun n => ![0, n, 0, 0]) (chunk_at k')
theorem off66 (i : grid0.Coords) (k : Fin (k0_t5_loop i).trips) (k' : Fin 8) (hk : k.val = k'.val) : k0_off66 i k = ![0, 256 * k'.val, 128 * ((1 : Fin 8)).val] := by
  unfold k0_off66; rw [hk]; exact congrArg (fun n => ![0, n, 128]) (block_at k')
theorem off74 (i : grid0.Coords) (k : Fin (k0_t5_loop i).trips) (k' : Fin 8) (hk : k.val = k'.val) : k0_off74 i k = ![0, k'.val, 64 * ((1 : Fin 8)).val, 0] := by
  unfold k0_off74; rw [hk]; exact congrArg (fun n => ![0, n, 64, 0]) (chunk_at k')
theorem off67 (i : grid0.Coords) (k : Fin (k0_t5_loop i).trips) (k' : Fin 8) (hk : k.val = k'.val) : k0_off67 i k = ![0, 256 * k'.val, 128 * ((2 : Fin 8)).val] := by
  unfold k0_off67; rw [hk]; exact congrArg (fun n => ![0, n, 256]) (block_at k')
theorem off75 (i : grid0.Coords) (k : Fin (k0_t5_loop i).trips) (k' : Fin 8) (hk : k.val = k'.val) : k0_off75 i k = ![0, k'.val, 64 * ((2 : Fin 8)).val, 0] := by
  unfold k0_off75; rw [hk]; exact congrArg (fun n => ![0, n, 128, 0]) (chunk_at k')
theorem off68 (i : grid0.Coords) (k : Fin (k0_t5_loop i).trips) (k' : Fin 8) (hk : k.val = k'.val) : k0_off68 i k = ![0, 256 * k'.val, 128 * ((3 : Fin 8)).val] := by
  unfold k0_off68; rw [hk]; exact congrArg (fun n => ![0, n, 384]) (block_at k')
theorem off76 (i : grid0.Coords) (k : Fin (k0_t5_loop i).trips) (k' : Fin 8) (hk : k.val = k'.val) : k0_off76 i k = ![0, k'.val, 64 * ((3 : Fin 8)).val, 0] := by
  unfold k0_off76; rw [hk]; exact congrArg (fun n => ![0, n, 192, 0]) (chunk_at k')
theorem off69 (i : grid0.Coords) (k : Fin (k0_t5_loop i).trips) (k' : Fin 8) (hk : k.val = k'.val) : k0_off69 i k = ![0, 256 * k'.val, 128 * ((4 : Fin 8)).val] := by
  unfold k0_off69; rw [hk]; exact congrArg (fun n => ![0, n, 512]) (block_at k')
theorem off77 (i : grid0.Coords) (k : Fin (k0_t5_loop i).trips) (k' : Fin 8) (hk : k.val = k'.val) : k0_off77 i k = ![0, k'.val, 64 * ((4 : Fin 8)).val, 0] := by
  unfold k0_off77; rw [hk]; exact congrArg (fun n => ![0, n, 256, 0]) (chunk_at k')
theorem off70 (i : grid0.Coords) (k : Fin (k0_t5_loop i).trips) (k' : Fin 8) (hk : k.val = k'.val) : k0_off70 i k = ![0, 256 * k'.val, 128 * ((5 : Fin 8)).val] := by
  unfold k0_off70; rw [hk]; exact congrArg (fun n => ![0, n, 640]) (block_at k')
theorem off78 (i : grid0.Coords) (k : Fin (k0_t5_loop i).trips) (k' : Fin 8) (hk : k.val = k'.val) : k0_off78 i k = ![0, k'.val, 64 * ((5 : Fin 8)).val, 0] := by
  unfold k0_off78; rw [hk]; exact congrArg (fun n => ![0, n, 320, 0]) (chunk_at k')
theorem off71 (i : grid0.Coords) (k : Fin (k0_t5_loop i).trips) (k' : Fin 8) (hk : k.val = k'.val) : k0_off71 i k = ![0, 256 * k'.val, 128 * ((6 : Fin 8)).val] := by
  unfold k0_off71; rw [hk]; exact congrArg (fun n => ![0, n, 768]) (block_at k')
theorem off79 (i : grid0.Coords) (k : Fin (k0_t5_loop i).trips) (k' : Fin 8) (hk : k.val = k'.val) : k0_off79 i k = ![0, k'.val, 64 * ((6 : Fin 8)).val, 0] := by
  unfold k0_off79; rw [hk]; exact congrArg (fun n => ![0, n, 384, 0]) (chunk_at k')
theorem off72 (i : grid0.Coords) (k : Fin (k0_t5_loop i).trips) (k' : Fin 8) (hk : k.val = k'.val) : k0_off72 i k = ![0, 256 * k'.val, 128 * ((7 : Fin 8)).val] := by
  unfold k0_off72; rw [hk]; exact congrArg (fun n => ![0, n, 896]) (block_at k')
theorem off80 (i : grid0.Coords) (k : Fin (k0_t5_loop i).trips) (k' : Fin 8) (hk : k.val = k'.val) : k0_off80 i k = ![0, k'.val, 64 * ((7 : Fin 8)).val, 0] := by
  unfold k0_off80; rw [hk]; exact congrArg (fun n => ![0, n, 448, 0]) (chunk_at k')
theorem off33 (i : grid0.Coords) (k : Fin (k0_t3_loop i).trips) (k' : Fin 8) (hk : (i 1).val = k'.val) : k0_off33 i k = ![0, 256 * k'.val, 128 * ((0 : Fin 8)).val] := by
  have h0 : k.val = 0 := by have h1 := lt_of_lt_of_eq k.isLt (trips_t3 i); omega
  have hl := lb_t3 i
  have : k0_off33 i k = ![0, (Scalar.indexCast (Scalar.muli (Scf.iv (k0_t3_loop i).lb 1#32 k.val) 256#32)).toNat, 0] := rfl
  rw [this, hl, h0, hk]; exact congrArg (fun n => ![0, n, 0]) (block_from k')
theorem off41 (i : grid0.Coords) (k : Fin (k0_t3_loop i).trips) (k' : Fin 8) (hk : (i 1).val = k'.val) : k0_off41 i k = ![0, k'.val, 64 * ((0 : Fin 8)).val, 0] := by
  have h0 : k.val = 0 := by have h1 := lt_of_lt_of_eq k.isLt (trips_t3 i); omega
  have hl := lb_t3 i
  have : k0_off41 i k = ![0, (Scalar.indexCast (Scf.iv (k0_t3_loop i).lb 1#32 k.val) : BitVec 32).toNat, 0, 0] := rfl
  rw [this, hl, h0, hk]; exact congrArg (fun n => ![0, n, 0, 0]) (chunk_from k')
theorem off34 (i : grid0.Coords) (k : Fin (k0_t3_loop i).trips) (k' : Fin 8) (hk : (i 1).val = k'.val) : k0_off34 i k = ![0, 256 * k'.val, 128 * ((1 : Fin 8)).val] := by
  have h0 : k.val = 0 := by have h1 := lt_of_lt_of_eq k.isLt (trips_t3 i); omega
  have hl := lb_t3 i
  have : k0_off34 i k = ![0, (Scalar.indexCast (Scalar.muli (Scf.iv (k0_t3_loop i).lb 1#32 k.val) 256#32)).toNat, 128] := rfl
  rw [this, hl, h0, hk]; exact congrArg (fun n => ![0, n, 128]) (block_from k')
theorem off42 (i : grid0.Coords) (k : Fin (k0_t3_loop i).trips) (k' : Fin 8) (hk : (i 1).val = k'.val) : k0_off42 i k = ![0, k'.val, 64 * ((1 : Fin 8)).val, 0] := by
  have h0 : k.val = 0 := by have h1 := lt_of_lt_of_eq k.isLt (trips_t3 i); omega
  have hl := lb_t3 i
  have : k0_off42 i k = ![0, (Scalar.indexCast (Scf.iv (k0_t3_loop i).lb 1#32 k.val) : BitVec 32).toNat, 64, 0] := rfl
  rw [this, hl, h0, hk]; exact congrArg (fun n => ![0, n, 64, 0]) (chunk_from k')
theorem off35 (i : grid0.Coords) (k : Fin (k0_t3_loop i).trips) (k' : Fin 8) (hk : (i 1).val = k'.val) : k0_off35 i k = ![0, 256 * k'.val, 128 * ((2 : Fin 8)).val] := by
  have h0 : k.val = 0 := by have h1 := lt_of_lt_of_eq k.isLt (trips_t3 i); omega
  have hl := lb_t3 i
  have : k0_off35 i k = ![0, (Scalar.indexCast (Scalar.muli (Scf.iv (k0_t3_loop i).lb 1#32 k.val) 256#32)).toNat, 256] := rfl
  rw [this, hl, h0, hk]; exact congrArg (fun n => ![0, n, 256]) (block_from k')
theorem off43 (i : grid0.Coords) (k : Fin (k0_t3_loop i).trips) (k' : Fin 8) (hk : (i 1).val = k'.val) : k0_off43 i k = ![0, k'.val, 64 * ((2 : Fin 8)).val, 0] := by
  have h0 : k.val = 0 := by have h1 := lt_of_lt_of_eq k.isLt (trips_t3 i); omega
  have hl := lb_t3 i
  have : k0_off43 i k = ![0, (Scalar.indexCast (Scf.iv (k0_t3_loop i).lb 1#32 k.val) : BitVec 32).toNat, 128, 0] := rfl
  rw [this, hl, h0, hk]; exact congrArg (fun n => ![0, n, 128, 0]) (chunk_from k')
theorem off36 (i : grid0.Coords) (k : Fin (k0_t3_loop i).trips) (k' : Fin 8) (hk : (i 1).val = k'.val) : k0_off36 i k = ![0, 256 * k'.val, 128 * ((3 : Fin 8)).val] := by
  have h0 : k.val = 0 := by have h1 := lt_of_lt_of_eq k.isLt (trips_t3 i); omega
  have hl := lb_t3 i
  have : k0_off36 i k = ![0, (Scalar.indexCast (Scalar.muli (Scf.iv (k0_t3_loop i).lb 1#32 k.val) 256#32)).toNat, 384] := rfl
  rw [this, hl, h0, hk]; exact congrArg (fun n => ![0, n, 384]) (block_from k')
theorem off44 (i : grid0.Coords) (k : Fin (k0_t3_loop i).trips) (k' : Fin 8) (hk : (i 1).val = k'.val) : k0_off44 i k = ![0, k'.val, 64 * ((3 : Fin 8)).val, 0] := by
  have h0 : k.val = 0 := by have h1 := lt_of_lt_of_eq k.isLt (trips_t3 i); omega
  have hl := lb_t3 i
  have : k0_off44 i k = ![0, (Scalar.indexCast (Scf.iv (k0_t3_loop i).lb 1#32 k.val) : BitVec 32).toNat, 192, 0] := rfl
  rw [this, hl, h0, hk]; exact congrArg (fun n => ![0, n, 192, 0]) (chunk_from k')
theorem off37 (i : grid0.Coords) (k : Fin (k0_t3_loop i).trips) (k' : Fin 8) (hk : (i 1).val = k'.val) : k0_off37 i k = ![0, 256 * k'.val, 128 * ((4 : Fin 8)).val] := by
  have h0 : k.val = 0 := by have h1 := lt_of_lt_of_eq k.isLt (trips_t3 i); omega
  have hl := lb_t3 i
  have : k0_off37 i k = ![0, (Scalar.indexCast (Scalar.muli (Scf.iv (k0_t3_loop i).lb 1#32 k.val) 256#32)).toNat, 512] := rfl
  rw [this, hl, h0, hk]; exact congrArg (fun n => ![0, n, 512]) (block_from k')
theorem off45 (i : grid0.Coords) (k : Fin (k0_t3_loop i).trips) (k' : Fin 8) (hk : (i 1).val = k'.val) : k0_off45 i k = ![0, k'.val, 64 * ((4 : Fin 8)).val, 0] := by
  have h0 : k.val = 0 := by have h1 := lt_of_lt_of_eq k.isLt (trips_t3 i); omega
  have hl := lb_t3 i
  have : k0_off45 i k = ![0, (Scalar.indexCast (Scf.iv (k0_t3_loop i).lb 1#32 k.val) : BitVec 32).toNat, 256, 0] := rfl
  rw [this, hl, h0, hk]; exact congrArg (fun n => ![0, n, 256, 0]) (chunk_from k')
theorem off38 (i : grid0.Coords) (k : Fin (k0_t3_loop i).trips) (k' : Fin 8) (hk : (i 1).val = k'.val) : k0_off38 i k = ![0, 256 * k'.val, 128 * ((5 : Fin 8)).val] := by
  have h0 : k.val = 0 := by have h1 := lt_of_lt_of_eq k.isLt (trips_t3 i); omega
  have hl := lb_t3 i
  have : k0_off38 i k = ![0, (Scalar.indexCast (Scalar.muli (Scf.iv (k0_t3_loop i).lb 1#32 k.val) 256#32)).toNat, 640] := rfl
  rw [this, hl, h0, hk]; exact congrArg (fun n => ![0, n, 640]) (block_from k')
theorem off46 (i : grid0.Coords) (k : Fin (k0_t3_loop i).trips) (k' : Fin 8) (hk : (i 1).val = k'.val) : k0_off46 i k = ![0, k'.val, 64 * ((5 : Fin 8)).val, 0] := by
  have h0 : k.val = 0 := by have h1 := lt_of_lt_of_eq k.isLt (trips_t3 i); omega
  have hl := lb_t3 i
  have : k0_off46 i k = ![0, (Scalar.indexCast (Scf.iv (k0_t3_loop i).lb 1#32 k.val) : BitVec 32).toNat, 320, 0] := rfl
  rw [this, hl, h0, hk]; exact congrArg (fun n => ![0, n, 320, 0]) (chunk_from k')
theorem off39 (i : grid0.Coords) (k : Fin (k0_t3_loop i).trips) (k' : Fin 8) (hk : (i 1).val = k'.val) : k0_off39 i k = ![0, 256 * k'.val, 128 * ((6 : Fin 8)).val] := by
  have h0 : k.val = 0 := by have h1 := lt_of_lt_of_eq k.isLt (trips_t3 i); omega
  have hl := lb_t3 i
  have : k0_off39 i k = ![0, (Scalar.indexCast (Scalar.muli (Scf.iv (k0_t3_loop i).lb 1#32 k.val) 256#32)).toNat, 768] := rfl
  rw [this, hl, h0, hk]; exact congrArg (fun n => ![0, n, 768]) (block_from k')
theorem off47 (i : grid0.Coords) (k : Fin (k0_t3_loop i).trips) (k' : Fin 8) (hk : (i 1).val = k'.val) : k0_off47 i k = ![0, k'.val, 64 * ((6 : Fin 8)).val, 0] := by
  have h0 : k.val = 0 := by have h1 := lt_of_lt_of_eq k.isLt (trips_t3 i); omega
  have hl := lb_t3 i
  have : k0_off47 i k = ![0, (Scalar.indexCast (Scf.iv (k0_t3_loop i).lb 1#32 k.val) : BitVec 32).toNat, 384, 0] := rfl
  rw [this, hl, h0, hk]; exact congrArg (fun n => ![0, n, 384, 0]) (chunk_from k')
theorem off40 (i : grid0.Coords) (k : Fin (k0_t3_loop i).trips) (k' : Fin 8) (hk : (i 1).val = k'.val) : k0_off40 i k = ![0, 256 * k'.val, 128 * ((7 : Fin 8)).val] := by
  have h0 : k.val = 0 := by have h1 := lt_of_lt_of_eq k.isLt (trips_t3 i); omega
  have hl := lb_t3 i
  have : k0_off40 i k = ![0, (Scalar.indexCast (Scalar.muli (Scf.iv (k0_t3_loop i).lb 1#32 k.val) 256#32)).toNat, 896] := rfl
  rw [this, hl, h0, hk]; exact congrArg (fun n => ![0, n, 896]) (block_from k')
theorem off48 (i : grid0.Coords) (k : Fin (k0_t3_loop i).trips) (k' : Fin 8) (hk : (i 1).val = k'.val) : k0_off48 i k = ![0, k'.val, 64 * ((7 : Fin 8)).val, 0] := by
  have h0 : k.val = 0 := by have h1 := lt_of_lt_of_eq k.isLt (trips_t3 i); omega
  have hl := lb_t3 i
  have : k0_off48 i k = ![0, (Scalar.indexCast (Scf.iv (k0_t3_loop i).lb 1#32 k.val) : BitVec 32).toNat, 448, 0] := rfl
  rw [this, hl, h0, hk]; exact congrArg (fun n => ![0, n, 448, 0]) (chunk_from k')
theorem off97 (i : grid0.Coords) (k : Fin (k0_t7_loop i).trips) (k' : Fin 8) (hk : (i 1).val = k'.val) : k0_off97 i k = ![0, 256 * k'.val, 128 * ((0 : Fin 8)).val] := by
  have h0 : k.val = 0 := by have h1 := lt_of_lt_of_eq k.isLt (trips_t7 i); omega
  have hl := lb_t7 i
  have : k0_off97 i k = ![0, (Scalar.indexCast (Scalar.muli (Scf.iv (k0_t7_loop i).lb 1#32 k.val) 256#32)).toNat, 0] := rfl
  rw [this, hl, h0, hk]; exact congrArg (fun n => ![0, n, 0]) (block_from k')
theorem off105 (i : grid0.Coords) (k : Fin (k0_t7_loop i).trips) (k' : Fin 8) (hk : (i 1).val = k'.val) : k0_off105 i k = ![0, k'.val, 64 * ((0 : Fin 8)).val, 0] := by
  have h0 : k.val = 0 := by have h1 := lt_of_lt_of_eq k.isLt (trips_t7 i); omega
  have hl := lb_t7 i
  have : k0_off105 i k = ![0, (Scalar.indexCast (Scf.iv (k0_t7_loop i).lb 1#32 k.val) : BitVec 32).toNat, 0, 0] := rfl
  rw [this, hl, h0, hk]; exact congrArg (fun n => ![0, n, 0, 0]) (chunk_from k')
theorem off98 (i : grid0.Coords) (k : Fin (k0_t7_loop i).trips) (k' : Fin 8) (hk : (i 1).val = k'.val) : k0_off98 i k = ![0, 256 * k'.val, 128 * ((1 : Fin 8)).val] := by
  have h0 : k.val = 0 := by have h1 := lt_of_lt_of_eq k.isLt (trips_t7 i); omega
  have hl := lb_t7 i
  have : k0_off98 i k = ![0, (Scalar.indexCast (Scalar.muli (Scf.iv (k0_t7_loop i).lb 1#32 k.val) 256#32)).toNat, 128] := rfl
  rw [this, hl, h0, hk]; exact congrArg (fun n => ![0, n, 128]) (block_from k')
theorem off106 (i : grid0.Coords) (k : Fin (k0_t7_loop i).trips) (k' : Fin 8) (hk : (i 1).val = k'.val) : k0_off106 i k = ![0, k'.val, 64 * ((1 : Fin 8)).val, 0] := by
  have h0 : k.val = 0 := by have h1 := lt_of_lt_of_eq k.isLt (trips_t7 i); omega
  have hl := lb_t7 i
  have : k0_off106 i k = ![0, (Scalar.indexCast (Scf.iv (k0_t7_loop i).lb 1#32 k.val) : BitVec 32).toNat, 64, 0] := rfl
  rw [this, hl, h0, hk]; exact congrArg (fun n => ![0, n, 64, 0]) (chunk_from k')
theorem off99 (i : grid0.Coords) (k : Fin (k0_t7_loop i).trips) (k' : Fin 8) (hk : (i 1).val = k'.val) : k0_off99 i k = ![0, 256 * k'.val, 128 * ((2 : Fin 8)).val] := by
  have h0 : k.val = 0 := by have h1 := lt_of_lt_of_eq k.isLt (trips_t7 i); omega
  have hl := lb_t7 i
  have : k0_off99 i k = ![0, (Scalar.indexCast (Scalar.muli (Scf.iv (k0_t7_loop i).lb 1#32 k.val) 256#32)).toNat, 256] := rfl
  rw [this, hl, h0, hk]; exact congrArg (fun n => ![0, n, 256]) (block_from k')
theorem off107 (i : grid0.Coords) (k : Fin (k0_t7_loop i).trips) (k' : Fin 8) (hk : (i 1).val = k'.val) : k0_off107 i k = ![0, k'.val, 64 * ((2 : Fin 8)).val, 0] := by
  have h0 : k.val = 0 := by have h1 := lt_of_lt_of_eq k.isLt (trips_t7 i); omega
  have hl := lb_t7 i
  have : k0_off107 i k = ![0, (Scalar.indexCast (Scf.iv (k0_t7_loop i).lb 1#32 k.val) : BitVec 32).toNat, 128, 0] := rfl
  rw [this, hl, h0, hk]; exact congrArg (fun n => ![0, n, 128, 0]) (chunk_from k')
theorem off100 (i : grid0.Coords) (k : Fin (k0_t7_loop i).trips) (k' : Fin 8) (hk : (i 1).val = k'.val) : k0_off100 i k = ![0, 256 * k'.val, 128 * ((3 : Fin 8)).val] := by
  have h0 : k.val = 0 := by have h1 := lt_of_lt_of_eq k.isLt (trips_t7 i); omega
  have hl := lb_t7 i
  have : k0_off100 i k = ![0, (Scalar.indexCast (Scalar.muli (Scf.iv (k0_t7_loop i).lb 1#32 k.val) 256#32)).toNat, 384] := rfl
  rw [this, hl, h0, hk]; exact congrArg (fun n => ![0, n, 384]) (block_from k')
theorem off108 (i : grid0.Coords) (k : Fin (k0_t7_loop i).trips) (k' : Fin 8) (hk : (i 1).val = k'.val) : k0_off108 i k = ![0, k'.val, 64 * ((3 : Fin 8)).val, 0] := by
  have h0 : k.val = 0 := by have h1 := lt_of_lt_of_eq k.isLt (trips_t7 i); omega
  have hl := lb_t7 i
  have : k0_off108 i k = ![0, (Scalar.indexCast (Scf.iv (k0_t7_loop i).lb 1#32 k.val) : BitVec 32).toNat, 192, 0] := rfl
  rw [this, hl, h0, hk]; exact congrArg (fun n => ![0, n, 192, 0]) (chunk_from k')
theorem off101 (i : grid0.Coords) (k : Fin (k0_t7_loop i).trips) (k' : Fin 8) (hk : (i 1).val = k'.val) : k0_off101 i k = ![0, 256 * k'.val, 128 * ((4 : Fin 8)).val] := by
  have h0 : k.val = 0 := by have h1 := lt_of_lt_of_eq k.isLt (trips_t7 i); omega
  have hl := lb_t7 i
  have : k0_off101 i k = ![0, (Scalar.indexCast (Scalar.muli (Scf.iv (k0_t7_loop i).lb 1#32 k.val) 256#32)).toNat, 512] := rfl
  rw [this, hl, h0, hk]; exact congrArg (fun n => ![0, n, 512]) (block_from k')
theorem off109 (i : grid0.Coords) (k : Fin (k0_t7_loop i).trips) (k' : Fin 8) (hk : (i 1).val = k'.val) : k0_off109 i k = ![0, k'.val, 64 * ((4 : Fin 8)).val, 0] := by
  have h0 : k.val = 0 := by have h1 := lt_of_lt_of_eq k.isLt (trips_t7 i); omega
  have hl := lb_t7 i
  have : k0_off109 i k = ![0, (Scalar.indexCast (Scf.iv (k0_t7_loop i).lb 1#32 k.val) : BitVec 32).toNat, 256, 0] := rfl
  rw [this, hl, h0, hk]; exact congrArg (fun n => ![0, n, 256, 0]) (chunk_from k')
theorem off102 (i : grid0.Coords) (k : Fin (k0_t7_loop i).trips) (k' : Fin 8) (hk : (i 1).val = k'.val) : k0_off102 i k = ![0, 256 * k'.val, 128 * ((5 : Fin 8)).val] := by
  have h0 : k.val = 0 := by have h1 := lt_of_lt_of_eq k.isLt (trips_t7 i); omega
  have hl := lb_t7 i
  have : k0_off102 i k = ![0, (Scalar.indexCast (Scalar.muli (Scf.iv (k0_t7_loop i).lb 1#32 k.val) 256#32)).toNat, 640] := rfl
  rw [this, hl, h0, hk]; exact congrArg (fun n => ![0, n, 640]) (block_from k')
theorem off110 (i : grid0.Coords) (k : Fin (k0_t7_loop i).trips) (k' : Fin 8) (hk : (i 1).val = k'.val) : k0_off110 i k = ![0, k'.val, 64 * ((5 : Fin 8)).val, 0] := by
  have h0 : k.val = 0 := by have h1 := lt_of_lt_of_eq k.isLt (trips_t7 i); omega
  have hl := lb_t7 i
  have : k0_off110 i k = ![0, (Scalar.indexCast (Scf.iv (k0_t7_loop i).lb 1#32 k.val) : BitVec 32).toNat, 320, 0] := rfl
  rw [this, hl, h0, hk]; exact congrArg (fun n => ![0, n, 320, 0]) (chunk_from k')
theorem off103 (i : grid0.Coords) (k : Fin (k0_t7_loop i).trips) (k' : Fin 8) (hk : (i 1).val = k'.val) : k0_off103 i k = ![0, 256 * k'.val, 128 * ((6 : Fin 8)).val] := by
  have h0 : k.val = 0 := by have h1 := lt_of_lt_of_eq k.isLt (trips_t7 i); omega
  have hl := lb_t7 i
  have : k0_off103 i k = ![0, (Scalar.indexCast (Scalar.muli (Scf.iv (k0_t7_loop i).lb 1#32 k.val) 256#32)).toNat, 768] := rfl
  rw [this, hl, h0, hk]; exact congrArg (fun n => ![0, n, 768]) (block_from k')
theorem off111 (i : grid0.Coords) (k : Fin (k0_t7_loop i).trips) (k' : Fin 8) (hk : (i 1).val = k'.val) : k0_off111 i k = ![0, k'.val, 64 * ((6 : Fin 8)).val, 0] := by
  have h0 : k.val = 0 := by have h1 := lt_of_lt_of_eq k.isLt (trips_t7 i); omega
  have hl := lb_t7 i
  have : k0_off111 i k = ![0, (Scalar.indexCast (Scf.iv (k0_t7_loop i).lb 1#32 k.val) : BitVec 32).toNat, 384, 0] := rfl
  rw [this, hl, h0, hk]; exact congrArg (fun n => ![0, n, 384, 0]) (chunk_from k')
theorem off104 (i : grid0.Coords) (k : Fin (k0_t7_loop i).trips) (k' : Fin 8) (hk : (i 1).val = k'.val) : k0_off104 i k = ![0, 256 * k'.val, 128 * ((7 : Fin 8)).val] := by
  have h0 : k.val = 0 := by have h1 := lt_of_lt_of_eq k.isLt (trips_t7 i); omega
  have hl := lb_t7 i
  have : k0_off104 i k = ![0, (Scalar.indexCast (Scalar.muli (Scf.iv (k0_t7_loop i).lb 1#32 k.val) 256#32)).toNat, 896] := rfl
  rw [this, hl, h0, hk]; exact congrArg (fun n => ![0, n, 896]) (block_from k')
theorem off112 (i : grid0.Coords) (k : Fin (k0_t7_loop i).trips) (k' : Fin 8) (hk : (i 1).val = k'.val) : k0_off112 i k = ![0, k'.val, 64 * ((7 : Fin 8)).val, 0] := by
  have h0 : k.val = 0 := by have h1 := lt_of_lt_of_eq k.isLt (trips_t7 i); omega
  have hl := lb_t7 i
  have : k0_off112 i k = ![0, (Scalar.indexCast (Scf.iv (k0_t7_loop i).lb 1#32 k.val) : BitVec 32).toNat, 448, 0] := rfl
  rw [this, hl, h0, hk]; exact congrArg (fun n => ![0, n, 448, 0]) (chunk_from k')

end Cert.KernelIdeal.Mla
-- ==== Proof.MlaShifted.lean ====
module

public import proofs.«01_k».proof.Proof.MlaOffsets

@[expose] public section
set_option maxRecDepth 16384
noncomputable section
namespace Cert.KernelIdeal.Mla
open Idealize.ShloMosaic Idealize.ShloMosaic.TcCoe Idealize.ShloMosaic.Tactic
open Cert.KernelIdeal.Gen

variable (𝒱 : Variants) (c : Dev nD) (bd : Option 𝒱.V) (i : grid0.Coords) (arg2 : Memref sig .tc .vmem S1x1024x256 .bf16) (harg2 : arg2.IsWhole) (arg3 : Memref sig .tc .vmem S1x2048x1024 .bf16) (harg3 : arg3.IsWhole) (arg4 : Memref sig .tc .vmem S1x8x512x256 .bf16) (harg4 : arg4.IsWhole) (arg5 : Memref sig .tc .vmem S1x32x128 .f32) (harg5 : arg5.IsWhole) (arg6 : Memref sig .tc .vmem S1x256x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x80x256 .f32) (harg9 : arg9.IsWhole)
  (v12 v16 : IVec S256x256 32) (v37 v56 : BitVec 32)
  (x0 : Vec Ideal S1x1024x256 .bf16) (x1 : Vec Ideal S1x2048x1024 .bf16) (x2 : Vec Ideal S1x8x512x256 .bf16)

/-- A head's piece of the shifted accumulation, entry by entry. -/
theorem shifted_entry (f9 : BufTy.Contents (Elt Ideal) arg9.view.ty) (h k' : Fin 8) (sc : FVec Ideal S256x256 .f32) (S : Fin 256 → Fin 256 → EReal) (hS : ∀ s q, sc (ix2 s q) = S s q)
    {offV : Fin 4 → ℕ} (hV : offV = ![0, k'.val, 64 * h.val, 0]) (inbV : ∀ a, offV a + S1x1x64x256.size a ≤ S1x8x512x256.size a)
    {offA : Fin 3 → ℕ} (hA : offA = ![h.val, 0, 0]) (inbA : ∀ a, offA a + S1x80x256.size a ≤ S8x80x256.size a) (r : Fin 80) (q : Fin 256) :
    addBlock (F := Ideal) (View.readAt (Elt Ideal) arg9.view (Rect.unit (s := S8x80x256) offA S1x80x256.size inbA).toLoadRect f9)
      (weigh (F := Ideal) (View.readAt (Elt Ideal) arg4.view (Rect.unit (s := S1x8x512x256) offV S1x1x64x256.size inbV).toLoadRect (harg4.unread x2)) sc) (ix3 0 r q)
      = arg9.view.read (Elt Ideal) f9 (ix3 h r q) + ∑ s : Fin 256, rowOf x2 h k' s r * Ideal.exp2 (S s q) := by
  rw [addBlock_apply, weigh_read arg4 harg4 x2 h k' hV inbV, acc_read arg9 f9 h hA inbA]
  exact congrArg _ (Finset.sum_congr rfl fun s _ => by rw [hS])

set_option maxHeartbeats 4000000 in
/-- One trip of the shifted loop: each head's accumulator grows by the block's weighted rows. -/
theorem trip_t1 (v80 v94 v108 v122 v136 v150 v164 v178 : FVec Ideal S1x256 .f32) (b : Fin 8 → Fin 256 → EReal) (hbv80 : ∀ q, v80 (ix2 0 q) = b 0 q) (hbv94 : ∀ q, v94 (ix2 0 q) = b 1 q) (hbv108 : ∀ q, v108 (ix2 0 q) = b 2 q) (hbv122 : ∀ q, v122 (ix2 0 q) = b 3 q) (hbv136 : ∀ q, v136 (ix2 0 q) = b 4 q) (hbv150 : ∀ q, v150 (ix2 0 q) = b 5 q) (hbv164 : ∀ q, v164 (ix2 0 q) = b 6 q) (hbv178 : ∀ q, v178 (ix2 0 q) = b 7 q)
    (k : Fin (k0_t1_loop i).trips) (k' : Fin 8) (hk : k.val = k'.val) (acc : BitVec 32) (f9 : BufTy.Contents (Elt Ideal) arg9.view.ty) (h : Fin 8) (r : Fin 80) (q : Fin 256) :
    arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) k acc f9)) (ix3 h r q)
      = arg9.view.read (Elt Ideal) f9 (ix3 h r q) + ∑ s : Fin 256, rowOf x2 h k' s r * Ideal.exp2 (scoreOf x0 x1 h (key k' s) q - b h q) := by
  unfold tripL_k0_t1 trip_k0_t1
  dsimp only
  refine (read_pieces80 arg9 f9 _ _ _ _ _ _ _ _ h r q).trans ?_
  fin_cases h
  · exact shifted_entry arg4 harg4 arg9 x2 f9 0 k' (below (score (View.readAt (Elt Ideal) arg3.view (Rect.unit (s := S1x2048x1024) (k0_off1 i k) S1x256x128.size (k0_off1_inb i k)).toLoadRect (harg3.unread x1)) (View.readAt (Elt Ideal) arg2.view (Rect.unit (s := S1x1024x256) ![0, 0, 0] S1x128x256.size inb_S1x1024x256_S1x128x256_0_0_0).toLoadRect (harg2.unread x0))) v80) (fun s q => scoreOf x0 x1 0 (key k' s) q - b 0 q) (fun s q => by rw [below_apply, hbv80, score_read arg2 harg2 arg3 harg3 x0 x1 0 k' (off1 i k k' hk) (offQ := ![0, 0, 0]) rfl (k0_off1_inb i k) inb_S1x1024x256_S1x128x256_0_0_0]) (off9 i k k' hk) (k0_off9_inb i k) rfl inb_S8x80x256_S1x80x256_0_0_0 r q
  · exact shifted_entry arg4 harg4 arg9 x2 f9 1 k' (below (score (View.readAt (Elt Ideal) arg3.view (Rect.unit (s := S1x2048x1024) (k0_off2 i k) S1x256x128.size (k0_off2_inb i k)).toLoadRect (harg3.unread x1)) (View.readAt (Elt Ideal) arg2.view (Rect.unit (s := S1x1024x256) ![0, 128, 0] S1x128x256.size inb_S1x1024x256_S1x128x256_0_128_0).toLoadRect (harg2.unread x0))) v94) (fun s q => scoreOf x0 x1 1 (key k' s) q - b 1 q) (fun s q => by rw [below_apply, hbv94, score_read arg2 harg2 arg3 harg3 x0 x1 1 k' (off2 i k k' hk) (offQ := ![0, 128, 0]) rfl (k0_off2_inb i k) inb_S1x1024x256_S1x128x256_0_128_0]) (off10 i k k' hk) (k0_off10_inb i k) rfl inb_S8x80x256_S1x80x256_1_0_0 r q
  · exact shifted_entry arg4 harg4 arg9 x2 f9 2 k' (below (score (View.readAt (Elt Ideal) arg3.view (Rect.unit (s := S1x2048x1024) (k0_off3 i k) S1x256x128.size (k0_off3_inb i k)).toLoadRect (harg3.unread x1)) (View.readAt (Elt Ideal) arg2.view (Rect.unit (s := S1x1024x256) ![0, 256, 0] S1x128x256.size inb_S1x1024x256_S1x128x256_0_256_0).toLoadRect (harg2.unread x0))) v108) (fun s q => scoreOf x0 x1 2 (key k' s) q - b 2 q) (fun s q => by rw [below_apply, hbv108, score_read arg2 harg2 arg3 harg3 x0 x1 2 k' (off3 i k k' hk) (offQ := ![0, 256, 0]) rfl (k0_off3_inb i k) inb_S1x1024x256_S1x128x256_0_256_0]) (off11 i k k' hk) (k0_off11_inb i k) rfl inb_S8x80x256_S1x80x256_2_0_0 r q
  · exact shifted_entry arg4 harg4 arg9 x2 f9 3 k' (below (score (View.readAt (Elt Ideal) arg3.view (Rect.unit (s := S1x2048x1024) (k0_off4 i k) S1x256x128.size (k0_off4_inb i k)).toLoadRect (harg3.unread x1)) (View.readAt (Elt Ideal) arg2.view (Rect.unit (s := S1x1024x256) ![0, 384, 0] S1x128x256.size inb_S1x1024x256_S1x128x256_0_384_0).toLoadRect (harg2.unread x0))) v122) (fun s q => scoreOf x0 x1 3 (key k' s) q - b 3 q) (fun s q => by rw [below_apply, hbv122, score_read arg2 harg2 arg3 harg3 x0 x1 3 k' (off4 i k k' hk) (offQ := ![0, 384, 0]) rfl (k0_off4_inb i k) inb_S1x1024x256_S1x128x256_0_384_0]) (off12 i k k' hk) (k0_off12_inb i k) rfl inb_S8x80x256_S1x80x256_3_0_0 r q
  · exact shifted_entry arg4 harg4 arg9 x2 f9 4 k' (below (score (View.readAt (Elt Ideal) arg3.view (Rect.unit (s := S1x2048x1024) (k0_off5 i k) S1x256x128.size (k0_off5_inb i k)).toLoadRect (harg3.unread x1)) (View.readAt (Elt Ideal) arg2.view (Rect.unit (s := S1x1024x256) ![0, 512, 0] S1x128x256.size inb_S1x1024x256_S1x128x256_0_512_0).toLoadRect (harg2.unread x0))) v136) (fun s q => scoreOf x0 x1 4 (key k' s) q - b 4 q) (fun s q => by rw [below_apply, hbv136, score_read arg2 harg2 arg3 harg3 x0 x1 4 k' (off5 i k k' hk) (offQ := ![0, 512, 0]) rfl (k0_off5_inb i k) inb_S1x1024x256_S1x128x256_0_512_0]) (off13 i k k' hk) (k0_off13_inb i k) rfl inb_S8x80x256_S1x80x256_4_0_0 r q
  · exact shifted_entry arg4 harg4 arg9 x2 f9 5 k' (below (score (View.readAt (Elt Ideal) arg3.view (Rect.unit (s := S1x2048x1024) (k0_off6 i k) S1x256x128.size (k0_off6_inb i k)).toLoadRect (harg3.unread x1)) (View.readAt (Elt Ideal) arg2.view (Rect.unit (s := S1x1024x256) ![0, 640, 0] S1x128x256.size inb_S1x1024x256_S1x128x256_0_640_0).toLoadRect (harg2.unread x0))) v150) (fun s q => scoreOf x0 x1 5 (key k' s) q - b 5 q) (fun s q => by rw [below_apply, hbv150, score_read arg2 harg2 arg3 harg3 x0 x1 5 k' (off6 i k k' hk) (offQ := ![0, 640, 0]) rfl (k0_off6_inb i k) inb_S1x1024x256_S1x128x256_0_640_0]) (off14 i k k' hk) (k0_off14_inb i k) rfl inb_S8x80x256_S1x80x256_5_0_0 r q
  · exact shifted_entry arg4 harg4 arg9 x2 f9 6 k' (below (score (View.readAt (Elt Ideal) arg3.view (Rect.unit (s := S1x2048x1024) (k0_off7 i k) S1x256x128.size (k0_off7_inb i k)).toLoadRect (harg3.unread x1)) (View.readAt (Elt Ideal) arg2.view (Rect.unit (s := S1x1024x256) ![0, 768, 0] S1x128x256.size inb_S1x1024x256_S1x128x256_0_768_0).toLoadRect (harg2.unread x0))) v164) (fun s q => scoreOf x0 x1 6 (key k' s) q - b 6 q) (fun s q => by rw [below_apply, hbv164, score_read arg2 harg2 arg3 harg3 x0 x1 6 k' (off7 i k k' hk) (offQ := ![0, 768, 0]) rfl (k0_off7_inb i k) inb_S1x1024x256_S1x128x256_0_768_0]) (off15 i k k' hk) (k0_off15_inb i k) rfl inb_S8x80x256_S1x80x256_6_0_0 r q
  · exact shifted_entry arg4 harg4 arg9 x2 f9 7 k' (below (score (View.readAt (Elt Ideal) arg3.view (Rect.unit (s := S1x2048x1024) (k0_off8 i k) S1x256x128.size (k0_off8_inb i k)).toLoadRect (harg3.unread x1)) (View.readAt (Elt Ideal) arg2.view (Rect.unit (s := S1x1024x256) ![0, 896, 0] S1x128x256.size inb_S1x1024x256_S1x128x256_0_896_0).toLoadRect (harg2.unread x0))) v178) (fun s q => scoreOf x0 x1 7 (key k' s) q - b 7 q) (fun s q => by rw [below_apply, hbv178, score_read arg2 harg2 arg3 harg3 x0 x1 7 k' (off8 i k k' hk) (offQ := ![0, 896, 0]) rfl (k0_off8_inb i k) inb_S1x1024x256_S1x128x256_0_896_0]) (off16 i k k' hk) (k0_off16_inb i k) rfl inb_S8x80x256_S1x80x256_7_0_0 r q

set_option maxHeartbeats 4000000 in
/-- One trip of the shifted loop over the query tile's own block: each head's accumulator grows by the block's weighted rows. -/
theorem trip_t3 (v80 v94 v108 v122 v136 v150 v164 v178 : FVec Ideal S1x256 .f32) (b : Fin 8 → Fin 256 → EReal) (hbv80 : ∀ q, v80 (ix2 0 q) = b 0 q) (hbv94 : ∀ q, v94 (ix2 0 q) = b 1 q) (hbv108 : ∀ q, v108 (ix2 0 q) = b 2 q) (hbv122 : ∀ q, v122 (ix2 0 q) = b 3 q) (hbv136 : ∀ q, v136 (ix2 0 q) = b 4 q) (hbv150 : ∀ q, v150 (ix2 0 q) = b 5 q) (hbv164 : ∀ q, v164 (ix2 0 q) = b 6 q) (hbv178 : ∀ q, v178 (ix2 0 q) = b 7 q)
    (k : Fin (k0_t3_loop i).trips) (k' : Fin 8) (hk : (i 1).val = k'.val) (acc : BitVec 32) (f9 : BufTy.Contents (Elt Ideal) arg9.view.ty) (h : Fin 8) (r : Fin 80) (q : Fin 256) :
    arg9.view.read (Elt Ideal) (arg9.view.writes (Elt Ideal) f9 (tripL_k0_t3 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) k acc f9)) (ix3 h r q)
      = arg9.view.read (Elt Ideal) f9 (ix3 h r q) + ∑ s : Fin 256, rowOf x2 h k' s r * Ideal.exp2 (if (Scf.iv v56 1#32 k * 256#32 + v12 (ix2 s q)).toInt ≤ (v16 (ix2 s q)).toInt then scoreOf x0 x1 h (key k' s) q - b h q else ⊥) := by
  unfold tripL_k0_t3 trip_k0_t3
  dsimp only
  refine (read_pieces80 arg9 f9 _ _ _ _ _ _ _ _ h r q).trans ?_
  fin_cases h
  · exact shifted_entry arg4 harg4 arg9 x2 f9 0 k' (causal v12 v16 (Scf.iv v56 1#32 k) (below (score (View.readAt (Elt Ideal) arg3.view (Rect.unit (s := S1x2048x1024) (k0_off33 i k) S1x256x128.size (k0_off33_inb i k)).toLoadRect (harg3.unread x1)) (View.readAt (Elt Ideal) arg2.view (Rect.unit (s := S1x1024x256) ![0, 0, 0] S1x128x256.size inb_S1x1024x256_S1x128x256_0_0_0).toLoadRect (harg2.unread x0))) v80)) (fun s q => if (Scf.iv v56 1#32 k * 256#32 + v12 (ix2 s q)).toInt ≤ (v16 (ix2 s q)).toInt then scoreOf x0 x1 0 (key k' s) q - b 0 q else ⊥) (fun s q => by rw [causal_apply, below_apply, hbv80, score_read arg2 harg2 arg3 harg3 x0 x1 0 k' (off33 i k k' hk) (offQ := ![0, 0, 0]) rfl (k0_off33_inb i k) inb_S1x1024x256_S1x128x256_0_0_0]) (off41 i k k' hk) (k0_off41_inb i k) rfl inb_S8x80x256_S1x80x256_0_0_0 r q
  · exact shifted_entry arg4 harg4 arg9 x2 f9 1 k' (causal v12 v16 (Scf.iv v56 1#32 k) (below (score (View.readAt (Elt Ideal) arg3.view (Rect.unit (s := S1x2048x1024) (k0_off34 i k) S1x256x128.size (k0_off34_inb i k)).toLoadRect (harg3.unread x1)) (View.readAt (Elt Ideal) arg2.view (Rect.unit (s := S1x1024x256) ![0, 128, 0] S1x128x256.size inb_S1x1024x256_S1x128x256_0_128_0).toLoadRect (harg2.unread x0))) v94)) (fun s q => if (Scf.iv v56 1#32 k * 256#32 + v12 (ix2 s q)).toInt ≤ (v16 (ix2 s q)).toInt then scoreOf x0 x1 1 (key k' s) q - b 1 q else ⊥) (fun s q => by rw [causal_apply, below_apply, hbv94, score_read arg2 harg2 arg3 harg3 x0 x1 1 k' (off34 i k k' hk) (offQ := ![0, 128, 0]) rfl (k0_off34_inb i k) inb_S1x1024x256_S1x128x256_0_128_0]) (off42 i k k' hk) (k0_off42_inb i k) rfl inb_S8x80x256_S1x80x256_1_0_0 r q
  · exact shifted_entry arg4 harg4 arg9 x2 f9 2 k' (causal v12 v16 (Scf.iv v56 1#32 k) (below (score (View.readAt (Elt Ideal) arg3.view (Rect.unit (s := S1x2048x1024) (k0_off35 i k) S1x256x128.size (k0_off35_inb i k)).toLoadRect (harg3.unread x1)) (View.readAt (Elt Ideal) arg2.view (Rect.unit (s := S1x1024x256) ![0, 256, 0] S1x128x256.size inb_S1x1024x256_S1x128x256_0_256_0).toLoadRect (harg2.unread x0))) v108)) (fun s q => if (Scf.iv v56 1#32 k * 256#32 + v12 (ix2 s q)).toInt ≤ (v16 (ix2 s q)).toInt then scoreOf x0 x1 2 (key k' s) q - b 2 q else ⊥) (fun s q => by rw [causal_apply, below_apply, hbv108, score_read arg2 harg2 arg3 harg3 x0 x1 2 k' (off35 i k k' hk) (offQ := ![0, 256, 0]) rfl (k0_off35_inb i k) inb_S1x1024x256_S1x128x256_0_256_0]) (off43 i k k' hk) (k0_off43_inb i k) rfl inb_S8x80x256_S1x80x256_2_0_0 r q
  · exact shifted_entry arg4 harg4 arg9 x2 f9 3 k' (causal v12 v16 (Scf.iv v56 1#32 k) (below (score (View.readAt (Elt Ideal) arg3.view (Rect.unit (s := S1x2048x1024) (k0_off36 i k) S1x256x128.size (k0_off36_inb i k)).toLoadRect (harg3.unread x1)) (View.readAt (Elt Ideal) arg2.view (Rect.unit (s := S1x1024x256) ![0, 384, 0] S1x128x256.size inb_S1x1024x256_S1x128x256_0_384_0).toLoadRect (harg2.unread x0))) v122)) (fun s q => if (Scf.iv v56 1#32 k * 256#32 + v12 (ix2 s q)).toInt ≤ (v16 (ix2 s q)).toInt then scoreOf x0 x1 3 (key k' s) q - b 3 q else ⊥) (fun s q => by rw [causal_apply, below_apply, hbv122, score_read arg2 harg2 arg3 harg3 x0 x1 3 k' (off36 i k k' hk) (offQ := ![0, 384, 0]) rfl (k0_off36_inb i k) inb_S1x1024x256_S1x128x256_0_384_0]) (off44 i k k' hk) (k0_off44_inb i k) rfl inb_S8x80x256_S1x80x256_3_0_0 r q
  · exact shifted_entry arg4 harg4 arg9 x2 f9 4 k' (causal v12 v16 (Scf.iv v56 1#32 k) (below (score (View.readAt (Elt Ideal) arg3.view (Rect.unit (s := S1x2048x1024) (k0_off37 i k) S1x256x128.size (k0_off37_inb i k)).toLoadRect (harg3.unread x1)) (View.readAt (Elt Ideal) arg2.view (Rect.unit (s := S1x1024x256) ![0, 512, 0] S1x128x256.size inb_S1x1024x256_S1x128x256_0_512_0).toLoadRect (harg2.unread x0))) v136)) (fun s q => if (Scf.iv v56 1#32 k * 256#32 + v12 (ix2 s q)).toInt ≤ (v16 (ix2 s q)).toInt then scoreOf x0 x1 4 (key k' s) q - b 4 q else ⊥) (fun s q => by rw [causal_apply, below_apply, hbv136, score_read arg2 harg2 arg3 harg3 x0 x1 4 k' (off37 i k k' hk) (offQ := ![0, 512, 0]) rfl (k0_off37_inb i k) inb_S1x1024x256_S1x128x256_0_512_0]) (off45 i k k' hk) (k0_off45_inb i k) rfl inb_S8x80x256_S1x80x256_4_0_0 r q
  · exact shifted_entry arg4 harg4 arg9 x2 f9 5 k' (causal v12 v16 (Scf.iv v56 1#32 k) (below (score (View.readAt (Elt Ideal) arg3.view (Rect.unit (s := S1x2048x1024) (k0_off38 i k) S1x256x128.size (k0_off38_inb i k)).toLoadRect (harg3.unread x1)) (View.readAt (Elt Ideal) arg2.view (Rect.unit (s := S1x1024x256) ![0, 640, 0] S1x128x256.size inb_S1x1024x256_S1x128x256_0_640_0).toLoadRect (harg2.unread x0))) v150)) (fun s q => if (Scf.iv v56 1#32 k * 256#32 + v12 (ix2 s q)).toInt ≤ (v16 (ix2 s q)).toInt then scoreOf x0 x1 5 (key k' s) q - b 5 q else ⊥) (fun s q => by rw [causal_apply, below_apply, hbv150, score_read arg2 harg2 arg3 harg3 x0 x1 5 k' (off38 i k k' hk) (offQ := ![0, 640, 0]) rfl (k0_off38_inb i k) inb_S1x1024x256_S1x128x256_0_640_0]) (off46 i k k' hk) (k0_off46_inb i k) rfl inb_S8x80x256_S1x80x256_5_0_0 r q
  · exact shifted_entry arg4 harg4 arg9 x2 f9 6 k' (causal v12 v16 (Scf.iv v56 1#32 k) (below (score (View.readAt (Elt Ideal) arg3.view (Rect.unit (s := S1x2048x1024) (k0_off39 i k) S1x256x128.size (k0_off39_inb i k)).toLoadRect (harg3.unread x1)) (View.readAt (Elt Ideal) arg2.view (Rect.unit (s := S1x1024x256) ![0, 768, 0] S1x128x256.size inb_S1x1024x256_S1x128x256_0_768_0).toLoadRect (harg2.unread x0))) v164)) (fun s q => if (Scf.iv v56 1#32 k * 256#32 + v12 (ix2 s q)).toInt ≤ (v16 (ix2 s q)).toInt then scoreOf x0 x1 6 (key k' s) q - b 6 q else ⊥) (fun s q => by rw [causal_apply, below_apply, hbv164, score_read arg2 harg2 arg3 harg3 x0 x1 6 k' (off39 i k k' hk) (offQ := ![0, 768, 0]) rfl (k0_off39_inb i k) inb_S1x1024x256_S1x128x256_0_768_0]) (off47 i k k' hk) (k0_off47_inb i k) rfl inb_S8x80x256_S1x80x256_6_0_0 r q
  · exact shifted_entry arg4 harg4 arg9 x2 f9 7 k' (causal v12 v16 (Scf.iv v56 1#32 k) (below (score (View.readAt (Elt Ideal) arg3.view (Rect.unit (s := S1x2048x1024) (k0_off40 i k) S1x256x128.size (k0_off40_inb i k)).toLoadRect (harg3.unread x1)) (View.readAt (Elt Ideal) arg2.view (Rect.unit (s := S1x1024x256) ![0, 896, 0] S1x128x256.size inb_S1x1024x256_S1x128x256_0_896_0).toLoadRect (harg2.unread x0))) v178)) (fun s q => if (Scf.iv v56 1#32 k * 256#32 + v12 (ix2 s q)).toInt ≤ (v16 (ix2 s q)).toInt then scoreOf x0 x1 7 (key k' s) q - b 7 q else ⊥) (fun s q => by rw [causal_apply, below_apply, hbv178, score_read arg2 harg2 arg3 harg3 x0 x1 7 k' (off40 i k k' hk) (offQ := ![0, 896, 0]) rfl (k0_off40_inb i k) inb_S1x1024x256_S1x128x256_0_896_0]) (off48 i k k' hk) (k0_off48_inb i k) rfl inb_S8x80x256_S1x80x256_7_0_0 r q

end Cert.KernelIdeal.Mla
-- ==== Proof.MlaOnline.lean ====
module

public import proofs.«01_k».proof.Proof.MlaOffsets

@[expose] public section
set_option maxRecDepth 16384
noncomputable section
namespace Cert.KernelIdeal.Mla
open Idealize.ShloMosaic Idealize.ShloMosaic.TcCoe Idealize.ShloMosaic.Tactic
open Cert.KernelIdeal.Gen

variable (𝒱 : Variants) (c : Dev nD) (bd : Option 𝒱.V) (i : grid0.Coords) (arg2 : Memref sig .tc .vmem S1x1024x256 .bf16) (harg2 : arg2.IsWhole) (arg3 : Memref sig .tc .vmem S1x2048x1024 .bf16) (harg3 : arg3.IsWhole) (arg4 : Memref sig .tc .vmem S1x8x512x256 .bf16) (harg4 : arg4.IsWhole) (arg5 : Memref sig .tc .vmem S1x32x128 .f32) (harg5 : arg5.IsWhole) (arg6 : Memref sig .tc .vmem S1x256x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x80x256 .f32) (harg9 : arg9.IsWhole)
  (v12 v16 : IVec S256x256 32) (v37 v56 : BitVec 32)
  (x0 : Vec Ideal S1x1024x256 .bf16) (x1 : Vec Ideal S1x2048x1024 .bf16) (x2 : Vec Ideal S1x8x512x256 .bf16)

/-- The new maximum of a head, entry by entry. -/
theorem max_entry (f7 : BufTy.Contents (Elt Ideal) arg7.view.ty) (h : Fin 8) (sc : FVec Ideal S256x256 .f32) (S : Fin 256 → Fin 256 → EReal) (hS : ∀ s q, sc (ix2 s q) = S s q)
    {offM : Fin 3 → ℕ} (hM : offM = ![h.val, 0, 0]) (inbM : ∀ a, offM a + S1x1x256.size a ≤ S8x1x256.size a) (q : Fin 256) :
    putMax (F := Ideal) (View.readAt (Elt Ideal) arg7.view (Rect.unit (s := S8x1x256) offM S1x1x256.size inbM).toLoadRect f7) sc (ix3 0 0 q)
      = max (arg7.view.read (Elt Ideal) f7 (ix3 h 0 q)) (Finset.univ.fold max ⊥ fun s : Fin 256 => S s q) := by
  rw [putMax_apply, newMax_apply, ← row_read arg7 f7 h hM inbM]
  congr 1
  · pointwise
  · exact congrArg (Finset.fold max ⊥ · Finset.univ) (funext fun s => hS s q)

/-- The new sum of the weights of a head, entry by entry. -/
theorem sum_entry (f7 : BufTy.Contents (Elt Ideal) arg7.view.ty) (f8 : BufTy.Contents (Elt Ideal) arg8.view.ty) (h k' : Fin 8) (sc : FVec Ideal S256x256 .f32) (S : Fin 256 → Fin 256 → EReal) (hS : ∀ s q, sc (ix2 s q) = S s q)
    {offM : Fin 3 → ℕ} (hM : offM = ![h.val, 0, 0]) (inbM : ∀ a, offM a + S1x1x256.size a ≤ S8x1x256.size a)
    {offV : Fin 4 → ℕ} (hV : offV = ![0, k'.val, 64 * h.val, 0]) (inbV : ∀ a, offV a + S1x1x64x256.size a ≤ S1x8x512x256.size a) (q : Fin 256) :
    putSum (F := Ideal) (View.readAt (Elt Ideal) arg7.view (Rect.unit (s := S8x1x256) offM S1x1x256.size inbM).toLoadRect f7) (View.readAt (Elt Ideal) arg8.view (Rect.unit (s := S8x1x256) offM S1x1x256.size inbM).toLoadRect f8)
      (View.readAt (Elt Ideal) arg4.view (Rect.unit (s := S1x8x512x256) offV S1x1x64x256.size inbV).toLoadRect (harg4.unread x2)) sc (ix3 0 0 q)
      = Ideal.exp2 (arg7.view.read (Elt Ideal) f7 (ix3 h 0 q) - max (arg7.view.read (Elt Ideal) f7 (ix3 h 0 q)) (Finset.univ.fold max ⊥ fun s : Fin 256 => S s q)) * arg8.view.read (Elt Ideal) f8 (ix3 h 0 q)
        + ∑ s : Fin 256, 1 * Ideal.exp2 (S s q - max (arg7.view.read (Elt Ideal) f7 (ix3 h 0 q)) (Finset.univ.fold max ⊥ fun s : Fin 256 => S s q)) := by
  rw [putSum_apply, max_entry arg7 f7 h sc S hS hM inbM, row_read arg7 f7 h hM inbM, row_read arg8 f8 h hM inbM]
  exact congrArg _ (Finset.sum_congr rfl fun s _ => by rw [hS])

/-- The new accumulator of a head, entry by entry. -/
theorem acc_entry (f7 : BufTy.Contents (Elt Ideal) arg7.view.ty) (f9 : BufTy.Contents (Elt Ideal) arg9.view.ty) (h k' : Fin 8) (sc : FVec Ideal S256x256 .f32) (S : Fin 256 → Fin 256 → EReal) (hS : ∀ s q, sc (ix2 s q) = S s q)
    {offM : Fin 3 → ℕ} (hM : offM = ![h.val, 0, 0]) (inbM : ∀ a, offM a + S1x1x256.size a ≤ S8x1x256.size a) (inbA : ∀ a, offM a + S1x64x256.size a ≤ S8x80x256.size a)
    {offV : Fin 4 → ℕ} (hV : offV = ![0, k'.val, 64 * h.val, 0]) (inbV : ∀ a, offV a + S1x1x64x256.size a ≤ S1x8x512x256.size a) (r : Fin 64) (q : Fin 256) :
    putAcc (F := Ideal) (View.readAt (Elt Ideal) arg7.view (Rect.unit (s := S8x1x256) offM S1x1x256.size inbM).toLoadRect f7) (View.readAt (Elt Ideal) arg9.view (Rect.unit (s := S8x80x256) offM S1x64x256.size inbA).toLoadRect f9)
      (View.readAt (Elt Ideal) arg4.view (Rect.unit (s := S1x8x512x256) offV S1x1x64x256.size inbV).toLoadRect (harg4.unread x2)) sc (ix3 0 r q)
      = Ideal.exp2 (arg7.view.read (Elt Ideal) f7 (ix3 h 0 q) - max (arg7.view.read (Elt Ideal) f7 (ix3 h 0 q)) (Finset.univ.fold max ⊥ fun s : Fin 256 => S s q)) * arg9.view.read (Elt Ideal) f9 (ix3 h ⟨r.val, by omega⟩ q)
        + ∑ s : Fin 256, valueOf x2 h k' s r * Ideal.exp2 (S s q - max (arg7.view.read (Elt Ideal) f7 (ix3 h 0 q)) (Finset.univ.fold max ⊥ fun s : Fin 256 => S s q)) := by
  rw [putAcc_apply, max_entry arg7 f7 h sc S hS hM inbM, row_read arg7 f7 h hM inbM, acc_read64 arg9 f9 h hM inbA]
  exact congrArg _ (Finset.sum_congr rfl fun s _ => by rw [hS, value_read arg4 harg4 x2 h k' hV inbV])

set_option maxHeartbeats 4000000 in
theorem trip_t5_max (k : Fin (k0_t5_loop i).trips) (k' : Fin 8) (hk : k.val = k'.val) (acc : BitVec 32) (f7 : BufTy.Contents (Elt Ideal) arg7.view.ty) (f8 : BufTy.Contents (Elt Ideal) arg8.view.ty) (f9 : BufTy.Contents (Elt Ideal) arg9.view.ty) (h : Fin 8) (q : Fin 256) :
    arg7.view.read (Elt Ideal) (arg7.view.writes (Elt Ideal) f7 (tripL_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).1) (ix3 h 0 q) = max (arg7.view.read (Elt Ideal) f7 (ix3 h 0 q)) (Finset.univ.fold max ⊥ fun s : Fin 256 => scoreOf x0 x1 h (key k' s) q) := by
  unfold tripL_k0_t5 trip_k0_t5
  dsimp only
  refine (read_pieces1 arg7 f7 _ _ _ _ _ _ _ _ h q).trans ?_
  fin_cases h
  · exact max_entry arg7 f7 0 (score (View.readAt (Elt Ideal) arg3.view (Rect.unit (s := S1x2048x1024) (k0_off65 i k) S1x256x128.size (k0_off65_inb i k)).toLoadRect (harg3.unread x1)) (View.readAt (Elt Ideal) arg2.view (Rect.unit (s := S1x1024x256) ![0, 0, 0] S1x128x256.size inb_S1x1024x256_S1x128x256_0_0_0).toLoadRect (harg2.unread x0))) (fun s q => scoreOf x0 x1 0 (key k' s) q) (fun s q => by rw [score_read arg2 harg2 arg3 harg3 x0 x1 0 k' (off65 i k k' hk) (offQ := ![0, 0, 0]) rfl (k0_off65_inb i k) inb_S1x1024x256_S1x128x256_0_0_0]) rfl inb_S8x1x256_S1x1x256_0_0_0 q
  · exact max_entry arg7 f7 1 (score (View.readAt (Elt Ideal) arg3.view (Rect.unit (s := S1x2048x1024) (k0_off66 i k) S1x256x128.size (k0_off66_inb i k)).toLoadRect (harg3.unread x1)) (View.readAt (Elt Ideal) arg2.view (Rect.unit (s := S1x1024x256) ![0, 128, 0] S1x128x256.size inb_S1x1024x256_S1x128x256_0_128_0).toLoadRect (harg2.unread x0))) (fun s q => scoreOf x0 x1 1 (key k' s) q) (fun s q => by rw [score_read arg2 harg2 arg3 harg3 x0 x1 1 k' (off66 i k k' hk) (offQ := ![0, 128, 0]) rfl (k0_off66_inb i k) inb_S1x1024x256_S1x128x256_0_128_0]) rfl inb_S8x1x256_S1x1x256_1_0_0 q
  · exact max_entry arg7 f7 2 (score (View.readAt (Elt Ideal) arg3.view (Rect.unit (s := S1x2048x1024) (k0_off67 i k) S1x256x128.size (k0_off67_inb i k)).toLoadRect (harg3.unread x1)) (View.readAt (Elt Ideal) arg2.view (Rect.unit (s := S1x1024x256) ![0, 256, 0] S1x128x256.size inb_S1x1024x256_S1x128x256_0_256_0).toLoadRect (harg2.unread x0))) (fun s q => scoreOf x0 x1 2 (key k' s) q) (fun s q => by rw [score_read arg2 harg2 arg3 harg3 x0 x1 2 k' (off67 i k k' hk) (offQ := ![0, 256, 0]) rfl (k0_off67_inb i k) inb_S1x1024x256_S1x128x256_0_256_0]) rfl inb_S8x1x256_S1x1x256_2_0_0 q
  · exact max_entry arg7 f7 3 (score (View.readAt (Elt Ideal) arg3.view (Rect.unit (s := S1x2048x1024) (k0_off68 i k) S1x256x128.size (k0_off68_inb i k)).toLoadRect (harg3.unread x1)) (View.readAt (Elt Ideal) arg2.view (Rect.unit (s := S1x1024x256) ![0, 384, 0] S1x128x256.size inb_S1x1024x256_S1x128x256_0_384_0).toLoadRect (harg2.unread x0))) (fun s q => scoreOf x0 x1 3 (key k' s) q) (fun s q => by rw [score_read arg2 harg2 arg3 harg3 x0 x1 3 k' (off68 i k k' hk) (offQ := ![0, 384, 0]) rfl (k0_off68_inb i k) inb_S1x1024x256_S1x128x256_0_384_0]) rfl inb_S8x1x256_S1x1x256_3_0_0 q
  · exact max_entry arg7 f7 4 (score (View.readAt (Elt Ideal) arg3.view (Rect.unit (s := S1x2048x1024) (k0_off69 i k) S1x256x128.size (k0_off69_inb i k)).toLoadRect (harg3.unread x1)) (View.readAt (Elt Ideal) arg2.view (Rect.unit (s := S1x1024x256) ![0, 512, 0] S1x128x256.size inb_S1x1024x256_S1x128x256_0_512_0).toLoadRect (harg2.unread x0))) (fun s q => scoreOf x0 x1 4 (key k' s) q) (fun s q => by rw [score_read arg2 harg2 arg3 harg3 x0 x1 4 k' (off69 i k k' hk) (offQ := ![0, 512, 0]) rfl (k0_off69_inb i k) inb_S1x1024x256_S1x128x256_0_512_0]) rfl inb_S8x1x256_S1x1x256_4_0_0 q
  · exact max_entry arg7 f7 5 (score (View.readAt (Elt Ideal) arg3.view (Rect.unit (s := S1x2048x1024) (k0_off70 i k) S1x256x128.size (k0_off70_inb i k)).toLoadRect (harg3.unread x1)) (View.readAt (Elt Ideal) arg2.view (Rect.unit (s := S1x1024x256) ![0, 640, 0] S1x128x256.size inb_S1x1024x256_S1x128x256_0_640_0).toLoadRect (harg2.unread x0))) (fun s q => scoreOf x0 x1 5 (key k' s) q) (fun s q => by rw [score_read arg2 harg2 arg3 harg3 x0 x1 5 k' (off70 i k k' hk) (offQ := ![0, 640, 0]) rfl (k0_off70_inb i k) inb_S1x1024x256_S1x128x256_0_640_0]) rfl inb_S8x1x256_S1x1x256_5_0_0 q
  · exact max_entry arg7 f7 6 (score (View.readAt (Elt Ideal) arg3.view (Rect.unit (s := S1x2048x1024) (k0_off71 i k) S1x256x128.size (k0_off71_inb i k)).toLoadRect (harg3.unread x1)) (View.readAt (Elt Ideal) arg2.view (Rect.unit (s := S1x1024x256) ![0, 768, 0] S1x128x256.size inb_S1x1024x256_S1x128x256_0_768_0).toLoadRect (harg2.unread x0))) (fun s q => scoreOf x0 x1 6 (key k' s) q) (fun s q => by rw [score_read arg2 harg2 arg3 harg3 x0 x1 6 k' (off71 i k k' hk) (offQ := ![0, 768, 0]) rfl (k0_off71_inb i k) inb_S1x1024x256_S1x128x256_0_768_0]) rfl inb_S8x1x256_S1x1x256_6_0_0 q
  · exact max_entry arg7 f7 7 (score (View.readAt (Elt Ideal) arg3.view (Rect.unit (s := S1x2048x1024) (k0_off72 i k) S1x256x128.size (k0_off72_inb i k)).toLoadRect (harg3.unread x1)) (View.readAt (Elt Ideal) arg2.view (Rect.unit (s := S1x1024x256) ![0, 896, 0] S1x128x256.size inb_S1x1024x256_S1x128x256_0_896_0).toLoadRect (harg2.unread x0))) (fun s q => scoreOf x0 x1 7 (key k' s) q) (fun s q => by rw [score_read arg2 harg2 arg3 harg3 x0 x1 7 k' (off72 i k k' hk) (offQ := ![0, 896, 0]) rfl (k0_off72_inb i k) inb_S1x1024x256_S1x128x256_0_896_0]) rfl inb_S8x1x256_S1x1x256_7_0_0 q

set_option maxHeartbeats 4000000 in
theorem trip_t5_sum (k : Fin (k0_t5_loop i).trips) (k' : Fin 8) (hk : k.val = k'.val) (acc : BitVec 32) (f7 : BufTy.Contents (Elt Ideal) arg7.view.ty) (f8 : BufTy.Contents (Elt Ideal) arg8.view.ty) (f9 : BufTy.Contents (Elt Ideal) arg9.view.ty) (h : Fin 8) (q : Fin 256) :
    arg8.view.read (Elt Ideal) (arg8.view.writes (Elt Ideal) f8 (tripL_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).2.1) (ix3 h 0 q)
      = Ideal.exp2 (arg7.view.read (Elt Ideal) f7 (ix3 h 0 q) - max (arg7.view.read (Elt Ideal) f7 (ix3 h 0 q)) (Finset.univ.fold max ⊥ fun s : Fin 256 => scoreOf x0 x1 h (key k' s) q)) * arg8.view.read (Elt Ideal) f8 (ix3 h 0 q) + ∑ s : Fin 256, 1 * Ideal.exp2 ((scoreOf x0 x1 h (key k' s) q) - max (arg7.view.read (Elt Ideal) f7 (ix3 h 0 q)) (Finset.univ.fold max ⊥ fun s : Fin 256 => scoreOf x0 x1 h (key k' s) q)) := by
  unfold tripL_k0_t5 trip_k0_t5
  dsimp only
  refine (read_pieces1 arg8 f8 _ _ _ _ _ _ _ _ h q).trans ?_
  fin_cases h
  · exact sum_entry arg4 harg4 arg7 arg8 x2 f7 f8 0 k' (score (View.readAt (Elt Ideal) arg3.view (Rect.unit (s := S1x2048x1024) (k0_off65 i k) S1x256x128.size (k0_off65_inb i k)).toLoadRect (harg3.unread x1)) (View.readAt (Elt Ideal) arg2.view (Rect.unit (s := S1x1024x256) ![0, 0, 0] S1x128x256.size inb_S1x1024x256_S1x128x256_0_0_0).toLoadRect (harg2.unread x0))) (fun s q => scoreOf x0 x1 0 (key k' s) q) (fun s q => by rw [score_read arg2 harg2 arg3 harg3 x0 x1 0 k' (off65 i k k' hk) (offQ := ![0, 0, 0]) rfl (k0_off65_inb i k) inb_S1x1024x256_S1x128x256_0_0_0]) rfl inb_S8x1x256_S1x1x256_0_0_0 (off73 i k k' hk) (k0_off73_inb i k) q
  · exact sum_entry arg4 harg4 arg7 arg8 x2 f7 f8 1 k' (score (View.readAt (Elt Ideal) arg3.view (Rect.unit (s := S1x2048x1024) (k0_off66 i k) S1x256x128.size (k0_off66_inb i k)).toLoadRect (harg3.unread x1)) (View.readAt (Elt Ideal) arg2.view (Rect.unit (s := S1x1024x256) ![0, 128, 0] S1x128x256.size inb_S1x1024x256_S1x128x256_0_128_0).toLoadRect (harg2.unread x0))) (fun s q => scoreOf x0 x1 1 (key k' s) q) (fun s q => by rw [score_read arg2 harg2 arg3 harg3 x0 x1 1 k' (off66 i k k' hk) (offQ := ![0, 128, 0]) rfl (k0_off66_inb i k) inb_S1x1024x256_S1x128x256_0_128_0]) rfl inb_S8x1x256_S1x1x256_1_0_0 (off74 i k k' hk) (k0_off74_inb i k) q
  · exact sum_entry arg4 harg4 arg7 arg8 x2 f7 f8 2 k' (score (View.readAt (Elt Ideal) arg3.view (Rect.unit (s := S1x2048x1024) (k0_off67 i k) S1x256x128.size (k0_off67_inb i k)).toLoadRect (harg3.unread x1)) (View.readAt (Elt Ideal) arg2.view (Rect.unit (s := S1x1024x256) ![0, 256, 0] S1x128x256.size inb_S1x1024x256_S1x128x256_0_256_0).toLoadRect (harg2.unread x0))) (fun s q => scoreOf x0 x1 2 (key k' s) q) (fun s q => by rw [score_read arg2 harg2 arg3 harg3 x0 x1 2 k' (off67 i k k' hk) (offQ := ![0, 256, 0]) rfl (k0_off67_inb i k) inb_S1x1024x256_S1x128x256_0_256_0]) rfl inb_S8x1x256_S1x1x256_2_0_0 (off75 i k k' hk) (k0_off75_inb i k) q
  · exact sum_entry arg4 harg4 arg7 arg8 x2 f7 f8 3 k' (score (View.readAt (Elt Ideal) arg3.view (Rect.unit (s := S1x2048x1024) (k0_off68 i k) S1x256x128.size (k0_off68_inb i k)).toLoadRect (harg3.unread x1)) (View.readAt (Elt Ideal) arg2.view (Rect.unit (s := S1x1024x256) ![0, 384, 0] S1x128x256.size inb_S1x1024x256_S1x128x256_0_384_0).toLoadRect (harg2.unread x0))) (fun s q => scoreOf x0 x1 3 (key k' s) q) (fun s q => by rw [score_read arg2 harg2 arg3 harg3 x0 x1 3 k' (off68 i k k' hk) (offQ := ![0, 384, 0]) rfl (k0_off68_inb i k) inb_S1x1024x256_S1x128x256_0_384_0]) rfl inb_S8x1x256_S1x1x256_3_0_0 (off76 i k k' hk) (k0_off76_inb i k) q
  · exact sum_entry arg4 harg4 arg7 arg8 x2 f7 f8 4 k' (score (View.readAt (Elt Ideal) arg3.view (Rect.unit (s := S1x2048x1024) (k0_off69 i k) S1x256x128.size (k0_off69_inb i k)).toLoadRect (harg3.unread x1)) (View.readAt (Elt Ideal) arg2.view (Rect.unit (s := S1x1024x256) ![0, 512, 0] S1x128x256.size inb_S1x1024x256_S1x128x256_0_512_0).toLoadRect (harg2.unread x0))) (fun s q => scoreOf x0 x1 4 (key k' s) q) (fun s q => by rw [score_read arg2 harg2 arg3 harg3 x0 x1 4 k' (off69 i k k' hk) (offQ := ![0, 512, 0]) rfl (k0_off69_inb i k) inb_S1x1024x256_S1x128x256_0_512_0]) rfl inb_S8x1x256_S1x1x256_4_0_0 (off77 i k k' hk) (k0_off77_inb i k) q
  · exact sum_entry arg4 harg4 arg7 arg8 x2 f7 f8 5 k' (score (View.readAt (Elt Ideal) arg3.view (Rect.unit (s := S1x2048x1024) (k0_off70 i k) S1x256x128.size (k0_off70_inb i k)).toLoadRect (harg3.unread x1)) (View.readAt (Elt Ideal) arg2.view (Rect.unit (s := S1x1024x256) ![0, 640, 0] S1x128x256.size inb_S1x1024x256_S1x128x256_0_640_0).toLoadRect (harg2.unread x0))) (fun s q => scoreOf x0 x1 5 (key k' s) q) (fun s q => by rw [score_read arg2 harg2 arg3 harg3 x0 x1 5 k' (off70 i k k' hk) (offQ := ![0, 640, 0]) rfl (k0_off70_inb i k) inb_S1x1024x256_S1x128x256_0_640_0]) rfl inb_S8x1x256_S1x1x256_5_0_0 (off78 i k k' hk) (k0_off78_inb i k) q
  · exact sum_entry arg4 harg4 arg7 arg8 x2 f7 f8 6 k' (score (View.readAt (Elt Ideal) arg3.view (Rect.unit (s := S1x2048x1024) (k0_off71 i k) S1x256x128.size (k0_off71_inb i k)).toLoadRect (harg3.unread x1)) (View.readAt (Elt Ideal) arg2.view (Rect.unit (s := S1x1024x256) ![0, 768, 0] S1x128x256.size inb_S1x1024x256_S1x128x256_0_768_0).toLoadRect (harg2.unread x0))) (fun s q => scoreOf x0 x1 6 (key k' s) q) (fun s q => by rw [score_read arg2 harg2 arg3 harg3 x0 x1 6 k' (off71 i k k' hk) (offQ := ![0, 768, 0]) rfl (k0_off71_inb i k) inb_S1x1024x256_S1x128x256_0_768_0]) rfl inb_S8x1x256_S1x1x256_6_0_0 (off79 i k k' hk) (k0_off79_inb i k) q
  · exact sum_entry arg4 harg4 arg7 arg8 x2 f7 f8 7 k' (score (View.readAt (Elt Ideal) arg3.view (Rect.unit (s := S1x2048x1024) (k0_off72 i k) S1x256x128.size (k0_off72_inb i k)).toLoadRect (harg3.unread x1)) (View.readAt (Elt Ideal) arg2.view (Rect.unit (s := S1x1024x256) ![0, 896, 0] S1x128x256.size inb_S1x1024x256_S1x128x256_0_896_0).toLoadRect (harg2.unread x0))) (fun s q => scoreOf x0 x1 7 (key k' s) q) (fun s q => by rw [score_read arg2 harg2 arg3 harg3 x0 x1 7 k' (off72 i k k' hk) (offQ := ![0, 896, 0]) rfl (k0_off72_inb i k) inb_S1x1024x256_S1x128x256_0_896_0]) rfl inb_S8x1x256_S1x1x256_7_0_0 (off80 i k k' hk) (k0_off80_inb i k) q

set_option maxHeartbeats 4000000 in
theorem trip_t5_acc (k : Fin (k0_t5_loop i).trips) (k' : Fin 8) (hk : k.val = k'.val) (acc : BitVec 32) (f7 : BufTy.Contents (Elt Ideal) arg7.view.ty) (f8 : BufTy.Contents (Elt Ideal) arg8.view.ty) (f9 : BufTy.Contents (Elt Ideal) arg9.view.ty) (h : Fin 8) (r : Fin 64) (q : Fin 256) :
    arg9.view.read (Elt Ideal) (arg9.view.writes (Elt Ideal) f9 (tripL_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).2.2) (ix3 h ⟨r.val, by omega⟩ q)
      = Ideal.exp2 (arg7.view.read (Elt Ideal) f7 (ix3 h 0 q) - max (arg7.view.read (Elt Ideal) f7 (ix3 h 0 q)) (Finset.univ.fold max ⊥ fun s : Fin 256 => scoreOf x0 x1 h (key k' s) q)) * arg9.view.read (Elt Ideal) f9 (ix3 h ⟨r.val, by omega⟩ q) + ∑ s : Fin 256, valueOf x2 h k' s r * Ideal.exp2 ((scoreOf x0 x1 h (key k' s) q) - max (arg7.view.read (Elt Ideal) f7 (ix3 h 0 q)) (Finset.univ.fold max ⊥ fun s : Fin 256 => scoreOf x0 x1 h (key k' s) q)) := by
  unfold tripL_k0_t5 trip_k0_t5
  dsimp only
  refine (read_pieces64 arg9 f9 _ _ _ _ _ _ _ _ h r q).trans ?_
  fin_cases h
  · exact acc_entry arg4 harg4 arg7 arg9 x2 f7 f9 0 k' (score (View.readAt (Elt Ideal) arg3.view (Rect.unit (s := S1x2048x1024) (k0_off65 i k) S1x256x128.size (k0_off65_inb i k)).toLoadRect (harg3.unread x1)) (View.readAt (Elt Ideal) arg2.view (Rect.unit (s := S1x1024x256) ![0, 0, 0] S1x128x256.size inb_S1x1024x256_S1x128x256_0_0_0).toLoadRect (harg2.unread x0))) (fun s q => scoreOf x0 x1 0 (key k' s) q) (fun s q => by rw [score_read arg2 harg2 arg3 harg3 x0 x1 0 k' (off65 i k k' hk) (offQ := ![0, 0, 0]) rfl (k0_off65_inb i k) inb_S1x1024x256_S1x128x256_0_0_0]) rfl inb_S8x1x256_S1x1x256_0_0_0 inb_S8x80x256_S1x64x256_0_0_0 (off73 i k k' hk) (k0_off73_inb i k) r q
  · exact acc_entry arg4 harg4 arg7 arg9 x2 f7 f9 1 k' (score (View.readAt (Elt Ideal) arg3.view (Rect.unit (s := S1x2048x1024) (k0_off66 i k) S1x256x128.size (k0_off66_inb i k)).toLoadRect (harg3.unread x1)) (View.readAt (Elt Ideal) arg2.view (Rect.unit (s := S1x1024x256) ![0, 128, 0] S1x128x256.size inb_S1x1024x256_S1x128x256_0_128_0).toLoadRect (harg2.unread x0))) (fun s q => scoreOf x0 x1 1 (key k' s) q) (fun s q => by rw [score_read arg2 harg2 arg3 harg3 x0 x1 1 k' (off66 i k k' hk) (offQ := ![0, 128, 0]) rfl (k0_off66_inb i k) inb_S1x1024x256_S1x128x256_0_128_0]) rfl inb_S8x1x256_S1x1x256_1_0_0 inb_S8x80x256_S1x64x256_1_0_0 (off74 i k k' hk) (k0_off74_inb i k) r q
  · exact acc_entry arg4 harg4 arg7 arg9 x2 f7 f9 2 k' (score (View.readAt (Elt Ideal) arg3.view (Rect.unit (s := S1x2048x1024) (k0_off67 i k) S1x256x128.size (k0_off67_inb i k)).toLoadRect (harg3.unread x1)) (View.readAt (Elt Ideal) arg2.view (Rect.unit (s := S1x1024x256) ![0, 256, 0] S1x128x256.size inb_S1x1024x256_S1x128x256_0_256_0).toLoadRect (harg2.unread x0))) (fun s q => scoreOf x0 x1 2 (key k' s) q) (fun s q => by rw [score_read arg2 harg2 arg3 harg3 x0 x1 2 k' (off67 i k k' hk) (offQ := ![0, 256, 0]) rfl (k0_off67_inb i k) inb_S1x1024x256_S1x128x256_0_256_0]) rfl inb_S8x1x256_S1x1x256_2_0_0 inb_S8x80x256_S1x64x256_2_0_0 (off75 i k k' hk) (k0_off75_inb i k) r q
  · exact acc_entry arg4 harg4 arg7 arg9 x2 f7 f9 3 k' (score (View.readAt (Elt Ideal) arg3.view (Rect.unit (s := S1x2048x1024) (k0_off68 i k) S1x256x128.size (k0_off68_inb i k)).toLoadRect (harg3.unread x1)) (View.readAt (Elt Ideal) arg2.view (Rect.unit (s := S1x1024x256) ![0, 384, 0] S1x128x256.size inb_S1x1024x256_S1x128x256_0_384_0).toLoadRect (harg2.unread x0))) (fun s q => scoreOf x0 x1 3 (key k' s) q) (fun s q => by rw [score_read arg2 harg2 arg3 harg3 x0 x1 3 k' (off68 i k k' hk) (offQ := ![0, 384, 0]) rfl (k0_off68_inb i k) inb_S1x1024x256_S1x128x256_0_384_0]) rfl inb_S8x1x256_S1x1x256_3_0_0 inb_S8x80x256_S1x64x256_3_0_0 (off76 i k k' hk) (k0_off76_inb i k) r q
  · exact acc_entry arg4 harg4 arg7 arg9 x2 f7 f9 4 k' (score (View.readAt (Elt Ideal) arg3.view (Rect.unit (s := S1x2048x1024) (k0_off69 i k) S1x256x128.size (k0_off69_inb i k)).toLoadRect (harg3.unread x1)) (View.readAt (Elt Ideal) arg2.view (Rect.unit (s := S1x1024x256) ![0, 512, 0] S1x128x256.size inb_S1x1024x256_S1x128x256_0_512_0).toLoadRect (harg2.unread x0))) (fun s q => scoreOf x0 x1 4 (key k' s) q) (fun s q => by rw [score_read arg2 harg2 arg3 harg3 x0 x1 4 k' (off69 i k k' hk) (offQ := ![0, 512, 0]) rfl (k0_off69_inb i k) inb_S1x1024x256_S1x128x256_0_512_0]) rfl inb_S8x1x256_S1x1x256_4_0_0 inb_S8x80x256_S1x64x256_4_0_0 (off77 i k k' hk) (k0_off77_inb i k) r q
  · exact acc_entry arg4 harg4 arg7 arg9 x2 f7 f9 5 k' (score (View.readAt (Elt Ideal) arg3.view (Rect.unit (s := S1x2048x1024) (k0_off70 i k) S1x256x128.size (k0_off70_inb i k)).toLoadRect (harg3.unread x1)) (View.readAt (Elt Ideal) arg2.view (Rect.unit (s := S1x1024x256) ![0, 640, 0] S1x128x256.size inb_S1x1024x256_S1x128x256_0_640_0).toLoadRect (harg2.unread x0))) (fun s q => scoreOf x0 x1 5 (key k' s) q) (fun s q => by rw [score_read arg2 harg2 arg3 harg3 x0 x1 5 k' (off70 i k k' hk) (offQ := ![0, 640, 0]) rfl (k0_off70_inb i k) inb_S1x1024x256_S1x128x256_0_640_0]) rfl inb_S8x1x256_S1x1x256_5_0_0 inb_S8x80x256_S1x64x256_5_0_0 (off78 i k k' hk) (k0_off78_inb i k) r q
  · exact acc_entry arg4 harg4 arg7 arg9 x2 f7 f9 6 k' (score (View.readAt (Elt Ideal) arg3.view (Rect.unit (s := S1x2048x1024) (k0_off71 i k) S1x256x128.size (k0_off71_inb i k)).toLoadRect (harg3.unread x1)) (View.readAt (Elt Ideal) arg2.view (Rect.unit (s := S1x1024x256) ![0, 768, 0] S1x128x256.size inb_S1x1024x256_S1x128x256_0_768_0).toLoadRect (harg2.unread x0))) (fun s q => scoreOf x0 x1 6 (key k' s) q) (fun s q => by rw [score_read arg2 harg2 arg3 harg3 x0 x1 6 k' (off71 i k k' hk) (offQ := ![0, 768, 0]) rfl (k0_off71_inb i k) inb_S1x1024x256_S1x128x256_0_768_0]) rfl inb_S8x1x256_S1x1x256_6_0_0 inb_S8x80x256_S1x64x256_6_0_0 (off79 i k k' hk) (k0_off79_inb i k) r q
  · exact acc_entry arg4 harg4 arg7 arg9 x2 f7 f9 7 k' (score (View.readAt (Elt Ideal) arg3.view (Rect.unit (s := S1x2048x1024) (k0_off72 i k) S1x256x128.size (k0_off72_inb i k)).toLoadRect (harg3.unread x1)) (View.readAt (Elt Ideal) arg2.view (Rect.unit (s := S1x1024x256) ![0, 896, 0] S1x128x256.size inb_S1x1024x256_S1x128x256_0_896_0).toLoadRect (harg2.unread x0))) (fun s q => scoreOf x0 x1 7 (key k' s) q) (fun s q => by rw [score_read arg2 harg2 arg3 harg3 x0 x1 7 k' (off72 i k k' hk) (offQ := ![0, 896, 0]) rfl (k0_off72_inb i k) inb_S1x1024x256_S1x128x256_0_896_0]) rfl inb_S8x1x256_S1x1x256_7_0_0 inb_S8x80x256_S1x64x256_7_0_0 (off80 i k k' hk) (k0_off80_inb i k) r q

set_option maxHeartbeats 4000000 in
theorem trip_t7_max (k : Fin (k0_t7_loop i).trips) (k' : Fin 8) (hk : (i 1).val = k'.val) (acc : BitVec 32) (f7 : BufTy.Contents (Elt Ideal) arg7.view.ty) (f8 : BufTy.Contents (Elt Ideal) arg8.view.ty) (f9 : BufTy.Contents (Elt Ideal) arg9.view.ty) (h : Fin 8) (q : Fin 256) :
    arg7.view.read (Elt Ideal) (arg7.view.writes (Elt Ideal) f7 (tripL_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).1) (ix3 h 0 q) = max (arg7.view.read (Elt Ideal) f7 (ix3 h 0 q)) (Finset.univ.fold max ⊥ fun s : Fin 256 => if (Scf.iv v56 1#32 k * 256#32 + v12 (ix2 s q)).toInt ≤ (v16 (ix2 s q)).toInt then scoreOf x0 x1 h (key k' s) q else ⊥) := by
  unfold tripL_k0_t7 trip_k0_t7
  dsimp only
  refine (read_pieces1 arg7 f7 _ _ _ _ _ _ _ _ h q).trans ?_
  fin_cases h
  · exact max_entry arg7 f7 0 (causal v12 v16 (Scf.iv v56 1#32 k) (score (View.readAt (Elt Ideal) arg3.view (Rect.unit (s := S1x2048x1024) (k0_off97 i k) S1x256x128.size (k0_off97_inb i k)).toLoadRect (harg3.unread x1)) (View.readAt (Elt Ideal) arg2.view (Rect.unit (s := S1x1024x256) ![0, 0, 0] S1x128x256.size inb_S1x1024x256_S1x128x256_0_0_0).toLoadRect (harg2.unread x0)))) (fun s q => if (Scf.iv v56 1#32 k * 256#32 + v12 (ix2 s q)).toInt ≤ (v16 (ix2 s q)).toInt then scoreOf x0 x1 0 (key k' s) q else ⊥) (fun s q => by rw [causal_apply, score_read arg2 harg2 arg3 harg3 x0 x1 0 k' (off97 i k k' hk) (offQ := ![0, 0, 0]) rfl (k0_off97_inb i k) inb_S1x1024x256_S1x128x256_0_0_0]) rfl inb_S8x1x256_S1x1x256_0_0_0 q
  · exact max_entry arg7 f7 1 (causal v12 v16 (Scf.iv v56 1#32 k) (score (View.readAt (Elt Ideal) arg3.view (Rect.unit (s := S1x2048x1024) (k0_off98 i k) S1x256x128.size (k0_off98_inb i k)).toLoadRect (harg3.unread x1)) (View.readAt (Elt Ideal) arg2.view (Rect.unit (s := S1x1024x256) ![0, 128, 0] S1x128x256.size inb_S1x1024x256_S1x128x256_0_128_0).toLoadRect (harg2.unread x0)))) (fun s q => if (Scf.iv v56 1#32 k * 256#32 + v12 (ix2 s q)).toInt ≤ (v16 (ix2 s q)).toInt then scoreOf x0 x1 1 (key k' s) q else ⊥) (fun s q => by rw [causal_apply, score_read arg2 harg2 arg3 harg3 x0 x1 1 k' (off98 i k k' hk) (offQ := ![0, 128, 0]) rfl (k0_off98_inb i k) inb_S1x1024x256_S1x128x256_0_128_0]) rfl inb_S8x1x256_S1x1x256_1_0_0 q
  · exact max_entry arg7 f7 2 (causal v12 v16 (Scf.iv v56 1#32 k) (score (View.readAt (Elt Ideal) arg3.view (Rect.unit (s := S1x2048x1024) (k0_off99 i k) S1x256x128.size (k0_off99_inb i k)).toLoadRect (harg3.unread x1)) (View.readAt (Elt Ideal) arg2.view (Rect.unit (s := S1x1024x256) ![0, 256, 0] S1x128x256.size inb_S1x1024x256_S1x128x256_0_256_0).toLoadRect (harg2.unread x0)))) (fun s q => if (Scf.iv v56 1#32 k * 256#32 + v12 (ix2 s q)).toInt ≤ (v16 (ix2 s q)).toInt then scoreOf x0 x1 2 (key k' s) q else ⊥) (fun s q => by rw [causal_apply, score_read arg2 harg2 arg3 harg3 x0 x1 2 k' (off99 i k k' hk) (offQ := ![0, 256, 0]) rfl (k0_off99_inb i k) inb_S1x1024x256_S1x128x256_0_256_0]) rfl inb_S8x1x256_S1x1x256_2_0_0 q
  · exact max_entry arg7 f7 3 (causal v12 v16 (Scf.iv v56 1#32 k) (score (View.readAt (Elt Ideal) arg3.view (Rect.unit (s := S1x2048x1024) (k0_off100 i k) S1x256x128.size (k0_off100_inb i k)).toLoadRect (harg3.unread x1)) (View.readAt (Elt Ideal) arg2.view (Rect.unit (s := S1x1024x256) ![0, 384, 0] S1x128x256.size inb_S1x1024x256_S1x128x256_0_384_0).toLoadRect (harg2.unread x0)))) (fun s q => if (Scf.iv v56 1#32 k * 256#32 + v12 (ix2 s q)).toInt ≤ (v16 (ix2 s q)).toInt then scoreOf x0 x1 3 (key k' s) q else ⊥) (fun s q => by rw [causal_apply, score_read arg2 harg2 arg3 harg3 x0 x1 3 k' (off100 i k k' hk) (offQ := ![0, 384, 0]) rfl (k0_off100_inb i k) inb_S1x1024x256_S1x128x256_0_384_0]) rfl inb_S8x1x256_S1x1x256_3_0_0 q
  · exact max_entry arg7 f7 4 (causal v12 v16 (Scf.iv v56 1#32 k) (score (View.readAt (Elt Ideal) arg3.view (Rect.unit (s := S1x2048x1024) (k0_off101 i k) S1x256x128.size (k0_off101_inb i k)).toLoadRect (harg3.unread x1)) (View.readAt (Elt Ideal) arg2.view (Rect.unit (s := S1x1024x256) ![0, 512, 0] S1x128x256.size inb_S1x1024x256_S1x128x256_0_512_0).toLoadRect (harg2.unread x0)))) (fun s q => if (Scf.iv v56 1#32 k * 256#32 + v12 (ix2 s q)).toInt ≤ (v16 (ix2 s q)).toInt then scoreOf x0 x1 4 (key k' s) q else ⊥) (fun s q => by rw [causal_apply, score_read arg2 harg2 arg3 harg3 x0 x1 4 k' (off101 i k k' hk) (offQ := ![0, 512, 0]) rfl (k0_off101_inb i k) inb_S1x1024x256_S1x128x256_0_512_0]) rfl inb_S8x1x256_S1x1x256_4_0_0 q
  · exact max_entry arg7 f7 5 (causal v12 v16 (Scf.iv v56 1#32 k) (score (View.readAt (Elt Ideal) arg3.view (Rect.unit (s := S1x2048x1024) (k0_off102 i k) S1x256x128.size (k0_off102_inb i k)).toLoadRect (harg3.unread x1)) (View.readAt (Elt Ideal) arg2.view (Rect.unit (s := S1x1024x256) ![0, 640, 0] S1x128x256.size inb_S1x1024x256_S1x128x256_0_640_0).toLoadRect (harg2.unread x0)))) (fun s q => if (Scf.iv v56 1#32 k * 256#32 + v12 (ix2 s q)).toInt ≤ (v16 (ix2 s q)).toInt then scoreOf x0 x1 5 (key k' s) q else ⊥) (fun s q => by rw [causal_apply, score_read arg2 harg2 arg3 harg3 x0 x1 5 k' (off102 i k k' hk) (offQ := ![0, 640, 0]) rfl (k0_off102_inb i k) inb_S1x1024x256_S1x128x256_0_640_0]) rfl inb_S8x1x256_S1x1x256_5_0_0 q
  · exact max_entry arg7 f7 6 (causal v12 v16 (Scf.iv v56 1#32 k) (score (View.readAt (Elt Ideal) arg3.view (Rect.unit (s := S1x2048x1024) (k0_off103 i k) S1x256x128.size (k0_off103_inb i k)).toLoadRect (harg3.unread x1)) (View.readAt (Elt Ideal) arg2.view (Rect.unit (s := S1x1024x256) ![0, 768, 0] S1x128x256.size inb_S1x1024x256_S1x128x256_0_768_0).toLoadRect (harg2.unread x0)))) (fun s q => if (Scf.iv v56 1#32 k * 256#32 + v12 (ix2 s q)).toInt ≤ (v16 (ix2 s q)).toInt then scoreOf x0 x1 6 (key k' s) q else ⊥) (fun s q => by rw [causal_apply, score_read arg2 harg2 arg3 harg3 x0 x1 6 k' (off103 i k k' hk) (offQ := ![0, 768, 0]) rfl (k0_off103_inb i k) inb_S1x1024x256_S1x128x256_0_768_0]) rfl inb_S8x1x256_S1x1x256_6_0_0 q
  · exact max_entry arg7 f7 7 (causal v12 v16 (Scf.iv v56 1#32 k) (score (View.readAt (Elt Ideal) arg3.view (Rect.unit (s := S1x2048x1024) (k0_off104 i k) S1x256x128.size (k0_off104_inb i k)).toLoadRect (harg3.unread x1)) (View.readAt (Elt Ideal) arg2.view (Rect.unit (s := S1x1024x256) ![0, 896, 0] S1x128x256.size inb_S1x1024x256_S1x128x256_0_896_0).toLoadRect (harg2.unread x0)))) (fun s q => if (Scf.iv v56 1#32 k * 256#32 + v12 (ix2 s q)).toInt ≤ (v16 (ix2 s q)).toInt then scoreOf x0 x1 7 (key k' s) q else ⊥) (fun s q => by rw [causal_apply, score_read arg2 harg2 arg3 harg3 x0 x1 7 k' (off104 i k k' hk) (offQ := ![0, 896, 0]) rfl (k0_off104_inb i k) inb_S1x1024x256_S1x128x256_0_896_0]) rfl inb_S8x1x256_S1x1x256_7_0_0 q

set_option maxHeartbeats 4000000 in
theorem trip_t7_sum (k : Fin (k0_t7_loop i).trips) (k' : Fin 8) (hk : (i 1).val = k'.val) (acc : BitVec 32) (f7 : BufTy.Contents (Elt Ideal) arg7.view.ty) (f8 : BufTy.Contents (Elt Ideal) arg8.view.ty) (f9 : BufTy.Contents (Elt Ideal) arg9.view.ty) (h : Fin 8) (q : Fin 256) :
    arg8.view.read (Elt Ideal) (arg8.view.writes (Elt Ideal) f8 (tripL_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).2.1) (ix3 h 0 q)
      = Ideal.exp2 (arg7.view.read (Elt Ideal) f7 (ix3 h 0 q) - max (arg7.view.read (Elt Ideal) f7 (ix3 h 0 q)) (Finset.univ.fold max ⊥ fun s : Fin 256 => if (Scf.iv v56 1#32 k * 256#32 + v12 (ix2 s q)).toInt ≤ (v16 (ix2 s q)).toInt then scoreOf x0 x1 h (key k' s) q else ⊥)) * arg8.view.read (Elt Ideal) f8 (ix3 h 0 q) + ∑ s : Fin 256, 1 * Ideal.exp2 ((if (Scf.iv v56 1#32 k * 256#32 + v12 (ix2 s q)).toInt ≤ (v16 (ix2 s q)).toInt then scoreOf x0 x1 h (key k' s) q else ⊥) - max (arg7.view.read (Elt Ideal) f7 (ix3 h 0 q)) (Finset.univ.fold max ⊥ fun s : Fin 256 => if (Scf.iv v56 1#32 k * 256#32 + v12 (ix2 s q)).toInt ≤ (v16 (ix2 s q)).toInt then scoreOf x0 x1 h (key k' s) q else ⊥)) := by
  unfold tripL_k0_t7 trip_k0_t7
  dsimp only
  refine (read_pieces1 arg8 f8 _ _ _ _ _ _ _ _ h q).trans ?_
  fin_cases h
  · exact sum_entry arg4 harg4 arg7 arg8 x2 f7 f8 0 k' (causal v12 v16 (Scf.iv v56 1#32 k) (score (View.readAt (Elt Ideal) arg3.view (Rect.unit (s := S1x2048x1024) (k0_off97 i k) S1x256x128.size (k0_off97_inb i k)).toLoadRect (harg3.unread x1)) (View.readAt (Elt Ideal) arg2.view (Rect.unit (s := S1x1024x256) ![0, 0, 0] S1x128x256.size inb_S1x1024x256_S1x128x256_0_0_0).toLoadRect (harg2.unread x0)))) (fun s q => if (Scf.iv v56 1#32 k * 256#32 + v12 (ix2 s q)).toInt ≤ (v16 (ix2 s q)).toInt then scoreOf x0 x1 0 (key k' s) q else ⊥) (fun s q => by rw [causal_apply, score_read arg2 harg2 arg3 harg3 x0 x1 0 k' (off97 i k k' hk) (offQ := ![0, 0, 0]) rfl (k0_off97_inb i k) inb_S1x1024x256_S1x128x256_0_0_0]) rfl inb_S8x1x256_S1x1x256_0_0_0 (off105 i k k' hk) (k0_off105_inb i k) q
  · exact sum_entry arg4 harg4 arg7 arg8 x2 f7 f8 1 k' (causal v12 v16 (Scf.iv v56 1#32 k) (score (View.readAt (Elt Ideal) arg3.view (Rect.unit (s := S1x2048x1024) (k0_off98 i k) S1x256x128.size (k0_off98_inb i k)).toLoadRect (harg3.unread x1)) (View.readAt (Elt Ideal) arg2.view (Rect.unit (s := S1x1024x256) ![0, 128, 0] S1x128x256.size inb_S1x1024x256_S1x128x256_0_128_0).toLoadRect (harg2.unread x0)))) (fun s q => if (Scf.iv v56 1#32 k * 256#32 + v12 (ix2 s q)).toInt ≤ (v16 (ix2 s q)).toInt then scoreOf x0 x1 1 (key k' s) q else ⊥) (fun s q => by rw [causal_apply, score_read arg2 harg2 arg3 harg3 x0 x1 1 k' (off98 i k k' hk) (offQ := ![0, 128, 0]) rfl (k0_off98_inb i k) inb_S1x1024x256_S1x128x256_0_128_0]) rfl inb_S8x1x256_S1x1x256_1_0_0 (off106 i k k' hk) (k0_off106_inb i k) q
  · exact sum_entry arg4 harg4 arg7 arg8 x2 f7 f8 2 k' (causal v12 v16 (Scf.iv v56 1#32 k) (score (View.readAt (Elt Ideal) arg3.view (Rect.unit (s := S1x2048x1024) (k0_off99 i k) S1x256x128.size (k0_off99_inb i k)).toLoadRect (harg3.unread x1)) (View.readAt (Elt Ideal) arg2.view (Rect.unit (s := S1x1024x256) ![0, 256, 0] S1x128x256.size inb_S1x1024x256_S1x128x256_0_256_0).toLoadRect (harg2.unread x0)))) (fun s q => if (Scf.iv v56 1#32 k * 256#32 + v12 (ix2 s q)).toInt ≤ (v16 (ix2 s q)).toInt then scoreOf x0 x1 2 (key k' s) q else ⊥) (fun s q => by rw [causal_apply, score_read arg2 harg2 arg3 harg3 x0 x1 2 k' (off99 i k k' hk) (offQ := ![0, 256, 0]) rfl (k0_off99_inb i k) inb_S1x1024x256_S1x128x256_0_256_0]) rfl inb_S8x1x256_S1x1x256_2_0_0 (off107 i k k' hk) (k0_off107_inb i k) q
  · exact sum_entry arg4 harg4 arg7 arg8 x2 f7 f8 3 k' (causal v12 v16 (Scf.iv v56 1#32 k) (score (View.readAt (Elt Ideal) arg3.view (Rect.unit (s := S1x2048x1024) (k0_off100 i k) S1x256x128.size (k0_off100_inb i k)).toLoadRect (harg3.unread x1)) (View.readAt (Elt Ideal) arg2.view (Rect.unit (s := S1x1024x256) ![0, 384, 0] S1x128x256.size inb_S1x1024x256_S1x128x256_0_384_0).toLoadRect (harg2.unread x0)))) (fun s q => if (Scf.iv v56 1#32 k * 256#32 + v12 (ix2 s q)).toInt ≤ (v16 (ix2 s q)).toInt then scoreOf x0 x1 3 (key k' s) q else ⊥) (fun s q => by rw [causal_apply, score_read arg2 harg2 arg3 harg3 x0 x1 3 k' (off100 i k k' hk) (offQ := ![0, 384, 0]) rfl (k0_off100_inb i k) inb_S1x1024x256_S1x128x256_0_384_0]) rfl inb_S8x1x256_S1x1x256_3_0_0 (off108 i k k' hk) (k0_off108_inb i k) q
  · exact sum_entry arg4 harg4 arg7 arg8 x2 f7 f8 4 k' (causal v12 v16 (Scf.iv v56 1#32 k) (score (View.readAt (Elt Ideal) arg3.view (Rect.unit (s := S1x2048x1024) (k0_off101 i k) S1x256x128.size (k0_off101_inb i k)).toLoadRect (harg3.unread x1)) (View.readAt (Elt Ideal) arg2.view (Rect.unit (s := S1x1024x256) ![0, 512, 0] S1x128x256.size inb_S1x1024x256_S1x128x256_0_512_0).toLoadRect (harg2.unread x0)))) (fun s q => if (Scf.iv v56 1#32 k * 256#32 + v12 (ix2 s q)).toInt ≤ (v16 (ix2 s q)).toInt then scoreOf x0 x1 4 (key k' s) q else ⊥) (fun s q => by rw [causal_apply, score_read arg2 harg2 arg3 harg3 x0 x1 4 k' (off101 i k k' hk) (offQ := ![0, 512, 0]) rfl (k0_off101_inb i k) inb_S1x1024x256_S1x128x256_0_512_0]) rfl inb_S8x1x256_S1x1x256_4_0_0 (off109 i k k' hk) (k0_off109_inb i k) q
  · exact sum_entry arg4 harg4 arg7 arg8 x2 f7 f8 5 k' (causal v12 v16 (Scf.iv v56 1#32 k) (score (View.readAt (Elt Ideal) arg3.view (Rect.unit (s := S1x2048x1024) (k0_off102 i k) S1x256x128.size (k0_off102_inb i k)).toLoadRect (harg3.unread x1)) (View.readAt (Elt Ideal) arg2.view (Rect.unit (s := S1x1024x256) ![0, 640, 0] S1x128x256.size inb_S1x1024x256_S1x128x256_0_640_0).toLoadRect (harg2.unread x0)))) (fun s q => if (Scf.iv v56 1#32 k * 256#32 + v12 (ix2 s q)).toInt ≤ (v16 (ix2 s q)).toInt then scoreOf x0 x1 5 (key k' s) q else ⊥) (fun s q => by rw [causal_apply, score_read arg2 harg2 arg3 harg3 x0 x1 5 k' (off102 i k k' hk) (offQ := ![0, 640, 0]) rfl (k0_off102_inb i k) inb_S1x1024x256_S1x128x256_0_640_0]) rfl inb_S8x1x256_S1x1x256_5_0_0 (off110 i k k' hk) (k0_off110_inb i k) q
  · exact sum_entry arg4 harg4 arg7 arg8 x2 f7 f8 6 k' (causal v12 v16 (Scf.iv v56 1#32 k) (score (View.readAt (Elt Ideal) arg3.view (Rect.unit (s := S1x2048x1024) (k0_off103 i k) S1x256x128.size (k0_off103_inb i k)).toLoadRect (harg3.unread x1)) (View.readAt (Elt Ideal) arg2.view (Rect.unit (s := S1x1024x256) ![0, 768, 0] S1x128x256.size inb_S1x1024x256_S1x128x256_0_768_0).toLoadRect (harg2.unread x0)))) (fun s q => if (Scf.iv v56 1#32 k * 256#32 + v12 (ix2 s q)).toInt ≤ (v16 (ix2 s q)).toInt then scoreOf x0 x1 6 (key k' s) q else ⊥) (fun s q => by rw [causal_apply, score_read arg2 harg2 arg3 harg3 x0 x1 6 k' (off103 i k k' hk) (offQ := ![0, 768, 0]) rfl (k0_off103_inb i k) inb_S1x1024x256_S1x128x256_0_768_0]) rfl inb_S8x1x256_S1x1x256_6_0_0 (off111 i k k' hk) (k0_off111_inb i k) q
  · exact sum_entry arg4 harg4 arg7 arg8 x2 f7 f8 7 k' (causal v12 v16 (Scf.iv v56 1#32 k) (score (View.readAt (Elt Ideal) arg3.view (Rect.unit (s := S1x2048x1024) (k0_off104 i k) S1x256x128.size (k0_off104_inb i k)).toLoadRect (harg3.unread x1)) (View.readAt (Elt Ideal) arg2.view (Rect.unit (s := S1x1024x256) ![0, 896, 0] S1x128x256.size inb_S1x1024x256_S1x128x256_0_896_0).toLoadRect (harg2.unread x0)))) (fun s q => if (Scf.iv v56 1#32 k * 256#32 + v12 (ix2 s q)).toInt ≤ (v16 (ix2 s q)).toInt then scoreOf x0 x1 7 (key k' s) q else ⊥) (fun s q => by rw [causal_apply, score_read arg2 harg2 arg3 harg3 x0 x1 7 k' (off104 i k k' hk) (offQ := ![0, 896, 0]) rfl (k0_off104_inb i k) inb_S1x1024x256_S1x128x256_0_896_0]) rfl inb_S8x1x256_S1x1x256_7_0_0 (off112 i k k' hk) (k0_off112_inb i k) q

set_option maxHeartbeats 4000000 in
theorem trip_t7_acc (k : Fin (k0_t7_loop i).trips) (k' : Fin 8) (hk : (i 1).val = k'.val) (acc : BitVec 32) (f7 : BufTy.Contents (Elt Ideal) arg7.view.ty) (f8 : BufTy.Contents (Elt Ideal) arg8.view.ty) (f9 : BufTy.Contents (Elt Ideal) arg9.view.ty) (h : Fin 8) (r : Fin 64) (q : Fin 256) :
    arg9.view.read (Elt Ideal) (arg9.view.writes (Elt Ideal) f9 (tripL_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) k acc f7 f8 f9).2.2) (ix3 h ⟨r.val, by omega⟩ q)
      = Ideal.exp2 (arg7.view.read (Elt Ideal) f7 (ix3 h 0 q) - max (arg7.view.read (Elt Ideal) f7 (ix3 h 0 q)) (Finset.univ.fold max ⊥ fun s : Fin 256 => if (Scf.iv v56 1#32 k * 256#32 + v12 (ix2 s q)).toInt ≤ (v16 (ix2 s q)).toInt then scoreOf x0 x1 h (key k' s) q else ⊥)) * arg9.view.read (Elt Ideal) f9 (ix3 h ⟨r.val, by omega⟩ q) + ∑ s : Fin 256, valueOf x2 h k' s r * Ideal.exp2 ((if (Scf.iv v56 1#32 k * 256#32 + v12 (ix2 s q)).toInt ≤ (v16 (ix2 s q)).toInt then scoreOf x0 x1 h (key k' s) q else ⊥) - max (arg7.view.read (Elt Ideal) f7 (ix3 h 0 q)) (Finset.univ.fold max ⊥ fun s : Fin 256 => if (Scf.iv v56 1#32 k * 256#32 + v12 (ix2 s q)).toInt ≤ (v16 (ix2 s q)).toInt then scoreOf x0 x1 h (key k' s) q else ⊥)) := by
  unfold tripL_k0_t7 trip_k0_t7
  dsimp only
  refine (read_pieces64 arg9 f9 _ _ _ _ _ _ _ _ h r q).trans ?_
  fin_cases h
  · exact acc_entry arg4 harg4 arg7 arg9 x2 f7 f9 0 k' (causal v12 v16 (Scf.iv v56 1#32 k) (score (View.readAt (Elt Ideal) arg3.view (Rect.unit (s := S1x2048x1024) (k0_off97 i k) S1x256x128.size (k0_off97_inb i k)).toLoadRect (harg3.unread x1)) (View.readAt (Elt Ideal) arg2.view (Rect.unit (s := S1x1024x256) ![0, 0, 0] S1x128x256.size inb_S1x1024x256_S1x128x256_0_0_0).toLoadRect (harg2.unread x0)))) (fun s q => if (Scf.iv v56 1#32 k * 256#32 + v12 (ix2 s q)).toInt ≤ (v16 (ix2 s q)).toInt then scoreOf x0 x1 0 (key k' s) q else ⊥) (fun s q => by rw [causal_apply, score_read arg2 harg2 arg3 harg3 x0 x1 0 k' (off97 i k k' hk) (offQ := ![0, 0, 0]) rfl (k0_off97_inb i k) inb_S1x1024x256_S1x128x256_0_0_0]) rfl inb_S8x1x256_S1x1x256_0_0_0 inb_S8x80x256_S1x64x256_0_0_0 (off105 i k k' hk) (k0_off105_inb i k) r q
  · exact acc_entry arg4 harg4 arg7 arg9 x2 f7 f9 1 k' (causal v12 v16 (Scf.iv v56 1#32 k) (score (View.readAt (Elt Ideal) arg3.view (Rect.unit (s := S1x2048x1024) (k0_off98 i k) S1x256x128.size (k0_off98_inb i k)).toLoadRect (harg3.unread x1)) (View.readAt (Elt Ideal) arg2.view (Rect.unit (s := S1x1024x256) ![0, 128, 0] S1x128x256.size inb_S1x1024x256_S1x128x256_0_128_0).toLoadRect (harg2.unread x0)))) (fun s q => if (Scf.iv v56 1#32 k * 256#32 + v12 (ix2 s q)).toInt ≤ (v16 (ix2 s q)).toInt then scoreOf x0 x1 1 (key k' s) q else ⊥) (fun s q => by rw [causal_apply, score_read arg2 harg2 arg3 harg3 x0 x1 1 k' (off98 i k k' hk) (offQ := ![0, 128, 0]) rfl (k0_off98_inb i k) inb_S1x1024x256_S1x128x256_0_128_0]) rfl inb_S8x1x256_S1x1x256_1_0_0 inb_S8x80x256_S1x64x256_1_0_0 (off106 i k k' hk) (k0_off106_inb i k) r q
  · exact acc_entry arg4 harg4 arg7 arg9 x2 f7 f9 2 k' (causal v12 v16 (Scf.iv v56 1#32 k) (score (View.readAt (Elt Ideal) arg3.view (Rect.unit (s := S1x2048x1024) (k0_off99 i k) S1x256x128.size (k0_off99_inb i k)).toLoadRect (harg3.unread x1)) (View.readAt (Elt Ideal) arg2.view (Rect.unit (s := S1x1024x256) ![0, 256, 0] S1x128x256.size inb_S1x1024x256_S1x128x256_0_256_0).toLoadRect (harg2.unread x0)))) (fun s q => if (Scf.iv v56 1#32 k * 256#32 + v12 (ix2 s q)).toInt ≤ (v16 (ix2 s q)).toInt then scoreOf x0 x1 2 (key k' s) q else ⊥) (fun s q => by rw [causal_apply, score_read arg2 harg2 arg3 harg3 x0 x1 2 k' (off99 i k k' hk) (offQ := ![0, 256, 0]) rfl (k0_off99_inb i k) inb_S1x1024x256_S1x128x256_0_256_0]) rfl inb_S8x1x256_S1x1x256_2_0_0 inb_S8x80x256_S1x64x256_2_0_0 (off107 i k k' hk) (k0_off107_inb i k) r q
  · exact acc_entry arg4 harg4 arg7 arg9 x2 f7 f9 3 k' (causal v12 v16 (Scf.iv v56 1#32 k) (score (View.readAt (Elt Ideal) arg3.view (Rect.unit (s := S1x2048x1024) (k0_off100 i k) S1x256x128.size (k0_off100_inb i k)).toLoadRect (harg3.unread x1)) (View.readAt (Elt Ideal) arg2.view (Rect.unit (s := S1x1024x256) ![0, 384, 0] S1x128x256.size inb_S1x1024x256_S1x128x256_0_384_0).toLoadRect (harg2.unread x0)))) (fun s q => if (Scf.iv v56 1#32 k * 256#32 + v12 (ix2 s q)).toInt ≤ (v16 (ix2 s q)).toInt then scoreOf x0 x1 3 (key k' s) q else ⊥) (fun s q => by rw [causal_apply, score_read arg2 harg2 arg3 harg3 x0 x1 3 k' (off100 i k k' hk) (offQ := ![0, 384, 0]) rfl (k0_off100_inb i k) inb_S1x1024x256_S1x128x256_0_384_0]) rfl inb_S8x1x256_S1x1x256_3_0_0 inb_S8x80x256_S1x64x256_3_0_0 (off108 i k k' hk) (k0_off108_inb i k) r q
  · exact acc_entry arg4 harg4 arg7 arg9 x2 f7 f9 4 k' (causal v12 v16 (Scf.iv v56 1#32 k) (score (View.readAt (Elt Ideal) arg3.view (Rect.unit (s := S1x2048x1024) (k0_off101 i k) S1x256x128.size (k0_off101_inb i k)).toLoadRect (harg3.unread x1)) (View.readAt (Elt Ideal) arg2.view (Rect.unit (s := S1x1024x256) ![0, 512, 0] S1x128x256.size inb_S1x1024x256_S1x128x256_0_512_0).toLoadRect (harg2.unread x0)))) (fun s q => if (Scf.iv v56 1#32 k * 256#32 + v12 (ix2 s q)).toInt ≤ (v16 (ix2 s q)).toInt then scoreOf x0 x1 4 (key k' s) q else ⊥) (fun s q => by rw [causal_apply, score_read arg2 harg2 arg3 harg3 x0 x1 4 k' (off101 i k k' hk) (offQ := ![0, 512, 0]) rfl (k0_off101_inb i k) inb_S1x1024x256_S1x128x256_0_512_0]) rfl inb_S8x1x256_S1x1x256_4_0_0 inb_S8x80x256_S1x64x256_4_0_0 (off109 i k k' hk) (k0_off109_inb i k) r q
  · exact acc_entry arg4 harg4 arg7 arg9 x2 f7 f9 5 k' (causal v12 v16 (Scf.iv v56 1#32 k) (score (View.readAt (Elt Ideal) arg3.view (Rect.unit (s := S1x2048x1024) (k0_off102 i k) S1x256x128.size (k0_off102_inb i k)).toLoadRect (harg3.unread x1)) (View.readAt (Elt Ideal) arg2.view (Rect.unit (s := S1x1024x256) ![0, 640, 0] S1x128x256.size inb_S1x1024x256_S1x128x256_0_640_0).toLoadRect (harg2.unread x0)))) (fun s q => if (Scf.iv v56 1#32 k * 256#32 + v12 (ix2 s q)).toInt ≤ (v16 (ix2 s q)).toInt then scoreOf x0 x1 5 (key k' s) q else ⊥) (fun s q => by rw [causal_apply, score_read arg2 harg2 arg3 harg3 x0 x1 5 k' (off102 i k k' hk) (offQ := ![0, 640, 0]) rfl (k0_off102_inb i k) inb_S1x1024x256_S1x128x256_0_640_0]) rfl inb_S8x1x256_S1x1x256_5_0_0 inb_S8x80x256_S1x64x256_5_0_0 (off110 i k k' hk) (k0_off110_inb i k) r q
  · exact acc_entry arg4 harg4 arg7 arg9 x2 f7 f9 6 k' (causal v12 v16 (Scf.iv v56 1#32 k) (score (View.readAt (Elt Ideal) arg3.view (Rect.unit (s := S1x2048x1024) (k0_off103 i k) S1x256x128.size (k0_off103_inb i k)).toLoadRect (harg3.unread x1)) (View.readAt (Elt Ideal) arg2.view (Rect.unit (s := S1x1024x256) ![0, 768, 0] S1x128x256.size inb_S1x1024x256_S1x128x256_0_768_0).toLoadRect (harg2.unread x0)))) (fun s q => if (Scf.iv v56 1#32 k * 256#32 + v12 (ix2 s q)).toInt ≤ (v16 (ix2 s q)).toInt then scoreOf x0 x1 6 (key k' s) q else ⊥) (fun s q => by rw [causal_apply, score_read arg2 harg2 arg3 harg3 x0 x1 6 k' (off103 i k k' hk) (offQ := ![0, 768, 0]) rfl (k0_off103_inb i k) inb_S1x1024x256_S1x128x256_0_768_0]) rfl inb_S8x1x256_S1x1x256_6_0_0 inb_S8x80x256_S1x64x256_6_0_0 (off111 i k k' hk) (k0_off111_inb i k) r q
  · exact acc_entry arg4 harg4 arg7 arg9 x2 f7 f9 7 k' (causal v12 v16 (Scf.iv v56 1#32 k) (score (View.readAt (Elt Ideal) arg3.view (Rect.unit (s := S1x2048x1024) (k0_off104 i k) S1x256x128.size (k0_off104_inb i k)).toLoadRect (harg3.unread x1)) (View.readAt (Elt Ideal) arg2.view (Rect.unit (s := S1x1024x256) ![0, 896, 0] S1x128x256.size inb_S1x1024x256_S1x128x256_0_896_0).toLoadRect (harg2.unread x0)))) (fun s q => if (Scf.iv v56 1#32 k * 256#32 + v12 (ix2 s q)).toInt ≤ (v16 (ix2 s q)).toInt then scoreOf x0 x1 7 (key k' s) q else ⊥) (fun s q => by rw [causal_apply, score_read arg2 harg2 arg3 harg3 x0 x1 7 k' (off104 i k k' hk) (offQ := ![0, 896, 0]) rfl (k0_off104_inb i k) inb_S1x1024x256_S1x128x256_0_896_0]) rfl inb_S8x1x256_S1x1x256_7_0_0 inb_S8x80x256_S1x64x256_7_0_0 (off112 i k k' hk) (k0_off112_inb i k) r q

end Cert.KernelIdeal.Mla
-- ==== Proof.MlaReal.lean ====
module

public import Idealize.ShloMosaic.PureOps.Ideal
public import Mathlib.Analysis.SpecialFunctions.Pow.Real

@[expose] public section
noncomputable section
namespace Cert.KernelIdeal.Mla
open Idealize.ShloMosaic

/-- Least or finite: a masked score, or a score. -/
def Low (w : EReal) : Prop := w = ⊥ ∨ ∃ x : ℝ, w = x

/-- The unscaled weight of a score, zero where it is masked. -/
def weight (w : EReal) : ℝ := if w = ⊥ then 0 else (2 : ℝ) ^ w.toReal

theorem weight_bot : weight ⊥ = 0 := if_pos rfl
theorem weight_coe (x : ℝ) : weight x = (2 : ℝ) ^ x := by
  rw [weight, if_neg (EReal.coe_ne_bot x), EReal.toReal_coe]

theorem weight_nonneg (w : EReal) : 0 ≤ weight w := by
  unfold weight; split
  · exact le_rfl
  · positivity

theorem weight_pos {w : EReal} (h : w ≠ ⊥) : 0 < weight w := by
  rw [weight, if_neg h]; positivity

theorem exp2_sub {w : EReal} (h : Low w) (M : ℝ) : Ideal.exp2 (w - M) = ((weight w * (2 : ℝ) ^ (-M) : ℝ) : EReal) := by
  rcases h with rfl | ⟨x, rfl⟩
  · rw [weight_bot, zero_mul, EReal.bot_sub, Ideal.exp2_bot]; rfl
  · rw [weight_coe, ← EReal.coe_sub, Ideal.exp2_coe, ← Real.rpow_add (by norm_num)]
    rfl

theorem exp2_sub_coe (M N : ℝ) : Ideal.exp2 ((M : EReal) - N) = (((2 : ℝ) ^ (M - N) : ℝ) : EReal) := by
  rw [← EReal.coe_sub, Ideal.exp2_coe]; rfl

theorem mul_sum_real {ι : Type*} (s : Finset ι) (f : ι → EReal) {c : ℝ} (hc : 0 ≤ c) :
    (c : EReal) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

theorem sum_coe {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

variable (w : Fin 8 → Fin 256 → EReal) {ρ : Type} (v : Fin 8 → Fin 256 → ρ → EReal)

/-- The blocks before the `n`-th. -/
def upto (n : ℕ) : Finset (Fin 8) := Finset.univ.filter fun k => k.val < n

theorem upto_zero : upto 0 = ∅ := by simp [upto]
theorem upto_eight : upto 8 = Finset.univ := by ext k; simp [upto]
theorem upto_succ (n : Fin 8) : upto (n.val + 1) = insert n (upto n.val) := by
  ext k; simp only [upto, Finset.mem_filter, Finset.mem_univ, true_and, Finset.mem_insert, Fin.ext_iff]; omega
theorem not_mem_upto (n : Fin 8) : n ∉ upto n.val := by simp [upto]

/-- The weights' sum over the blocks before the `n`-th, about `M`. -/
def sumAt (n : ℕ) (M : EReal) : EReal := ∑ k ∈ upto n, ∑ s : Fin 256, 1 * Ideal.exp2 (w k s - M)
/-- The weighted values' sum over the blocks before the `n`-th, about `M`. -/
def accAt (n : ℕ) (M : EReal) (r : ρ) : EReal := ∑ k ∈ upto n, ∑ s : Fin 256, v k s r * Ideal.exp2 (w k s - M)

theorem accAt_succ (n : Fin 8) (M : EReal) (r : ρ) : accAt w v (n.val + 1) M r = accAt w v n.val M r + ∑ s : Fin 256, v n s r * Ideal.exp2 (w n s - M) := by
  rw [accAt, upto_succ, Finset.sum_insert (not_mem_upto n), add_comm]; rfl
theorem sumAt_eq (n : ℕ) (M : EReal) : sumAt w n M = accAt w (fun _ _ (_ : Unit) => (1 : EReal)) n M () := rfl
theorem sumAt_succ (n : Fin 8) (M : EReal) : sumAt w (n.val + 1) M = sumAt w n.val M + ∑ s : Fin 256, 1 * Ideal.exp2 (w n s - M) := accAt_succ w (fun _ _ (_ : Unit) => (1 : EReal)) n M ()
theorem accAt_zero (M : EReal) (r : ρ) : accAt w v 0 M r = 0 := by rw [accAt, upto_zero, Finset.sum_empty]
theorem sumAt_zero (M : EReal) : sumAt w 0 M = 0 := accAt_zero w (fun _ _ (_ : Unit) => (1 : EReal)) M ()

/-- The blocks from the `n`-th on add nothing where every score there is masked. -/
theorem accAt_all (n : ℕ) (hn : ∀ k s, n ≤ k.val → w k s = ⊥) (M : ℝ) (r : ρ) : accAt w v n M r = accAt w v 8 M r := by
  rw [accAt, accAt, upto_eight]
  refine Finset.sum_subset (Finset.subset_univ _) fun k _ hk => Finset.sum_eq_zero fun s _ => ?_
  rw [hn k s (by simpa [upto] using hk), EReal.bot_sub, Ideal.exp2_bot, mul_zero]

/-- What the running softmax holds after `n` blocks. -/
def Held (n : ℕ) (m l : EReal) (a : ρ → EReal) : Prop :=
  (n = 0 ∧ m = ⊥ ∧ l = 0 ∧ ∀ r, a r = 0) ∨ ∃ M : ℝ, m = M ∧ l = sumAt w n M ∧ ∀ r, a r = accAt w v n M r

theorem fold_max_low (S : Fin 256 → EReal) (hS : ∀ s, Low (S s)) (T : Finset (Fin 256)) : Low (T.fold max ⊥ S) := by
  classical
  induction T using Finset.induction_on with
  | empty => exact Or.inl rfl
  | insert a T ha ih =>
    rw [Finset.fold_insert ha]
    rcases max_choice (S a) (T.fold max ⊥ S) with h | h <;> rw [h]
    · exact hS a
    · exact ih

theorem fold_max_real (S : Fin 256 → EReal) (hS : ∀ s, Low (S s)) (hne : ∃ s, S s ≠ ⊥) : ∃ M : ℝ, Finset.univ.fold max ⊥ S = M := by
  rcases fold_max_low S hS Finset.univ with h | h
  · obtain ⟨s, hs⟩ := hne
    have : S s ≤ Finset.univ.fold max ⊥ S := (Finset.le_fold_max (S s)).mpr (Or.inr ⟨s, Finset.mem_univ s, le_rfl⟩)
    rw [h] at this
    exact absurd (le_bot_iff.mp this) hs
  · exact h

theorem accAt_rescale (hw : ∀ k s, Low (w k s)) (n : ℕ) (M N : ℝ) (r : ρ) :
    Ideal.exp2 ((M : EReal) - N) * accAt w v n M r = accAt w v n N r := by
  rw [exp2_sub_coe, accAt, mul_sum_real _ _ (by positivity)]
  refine Finset.sum_congr rfl fun k _ => ?_
  rw [mul_sum_real _ _ (by positivity)]
  refine Finset.sum_congr rfl fun s _ => ?_
  rw [exp2_sub (hw k s), exp2_sub (hw k s), mul_left_comm, ← EReal.coe_mul]
  congr 2
  rw [mul_left_comm, ← Real.rpow_add (by norm_num)]
  congr 2; ring

/-- One block taken in. -/
theorem Held.step (hw : ∀ k s, Low (w k s)) (n : Fin 8) (hne : ∃ s, w n s ≠ ⊥) {m l : EReal} {a : ρ → EReal} (h : Held w v n.val m l a) {m' l' : EReal} {a' : ρ → EReal}
    (hm : m' = max m (Finset.univ.fold max ⊥ fun s => w n s))
    (hl : l' = Ideal.exp2 (m - m') * l + ∑ s : Fin 256, 1 * Ideal.exp2 (w n s - m'))
    (ha : ∀ r, a' r = Ideal.exp2 (m - m') * a r + ∑ s : Fin 256, v n s r * Ideal.exp2 (w n s - m')) :
    Held w v (n.val + 1) m' l' a' := by
  obtain ⟨N, hN⟩ := fold_max_real (w n) (hw n) hne
  rw [hN] at hm
  rcases h with ⟨h0, h1, h2, h3⟩ | ⟨M, h1, h2, h3⟩
  · rw [h1, max_eq_right bot_le] at hm
    refine Or.inr ⟨N, hm, ?_, fun r => ?_⟩
    · rw [hl, hm, h2, mul_zero, sumAt_succ, h0, sumAt_zero]
    · rw [ha, hm, h3, mul_zero, accAt_succ, h0, accAt_zero]
  · have hm' : m' = ((max M N : ℝ) : EReal) := by rw [hm, h1]; exact (EReal.coe_strictMono.monotone.map_max).symm
    refine Or.inr ⟨max M N, hm', ?_, fun r => ?_⟩
    · rw [hl, hm', h1, h2, sumAt_succ, sumAt_eq, accAt_rescale w _ hw]; rfl
    · rw [ha, hm', h1, h3, accAt_succ, accAt_rescale w v hw]

/-- The weights' sum. -/
def total : ℝ := ∑ k, ∑ s, weight (w k s)

theorem total_pos (hne : ∃ k s, w k s ≠ ⊥) : 0 < total w := by
  obtain ⟨k, s, h⟩ := hne
  exact Finset.sum_pos' (fun k _ => Finset.sum_nonneg fun s _ => weight_nonneg _)
    ⟨k, Finset.mem_univ k, Finset.sum_pos' (fun s _ => weight_nonneg _) ⟨s, Finset.mem_univ s, weight_pos h⟩⟩

/-- The weighted mean of the values. -/
def mean (r : ρ) : EReal := ∑ k, ∑ s, v k s r * ((weight (w k s) / total w : ℝ) : EReal)

theorem sumAt_real (hw : ∀ k s, Low (w k s)) (M : ℝ) : sumAt w 8 M = ((total w * (2 : ℝ) ^ (-M) : ℝ) : EReal) := by
  rw [sumAt, upto_eight, total, Finset.sum_mul, ← sum_coe]
  refine Finset.sum_congr rfl fun k _ => ?_
  rw [Finset.sum_mul, ← sum_coe]
  exact Finset.sum_congr rfl fun s _ => by rw [one_mul, exp2_sub (hw k s)]

theorem mul_accAt (hw : ∀ k s, Low (w k s)) (hne : ∃ k s, w k s ≠ ⊥) (M : ℝ) (r : ρ) :
    (((total w * (2 : ℝ) ^ (-M))⁻¹ : ℝ) : EReal) * accAt w v 8 M r = mean w v r := by
  have hE := total_pos w hne
  have h2 : (0 : ℝ) < (2 : ℝ) ^ (-M) := by positivity
  have hc : 0 ≤ (total w * (2 : ℝ) ^ (-M))⁻¹ := by positivity
  rw [accAt, upto_eight, mul_sum_real _ _ hc, mean]
  refine Finset.sum_congr rfl fun k _ => ?_
  rw [mul_sum_real _ _ hc]
  refine Finset.sum_congr rfl fun s _ => ?_
  rw [exp2_sub (hw k s), mul_left_comm, ← EReal.coe_mul]
  congr 2
  field_simp

theorem div_pos_real (x : EReal) {c : ℝ} (hc : 0 < c) : Ideal.div x c = ((c⁻¹ : ℝ) : EReal) * x := by
  rw [Ideal.div, if_neg (by exact_mod_cast hc.ne'), mul_comm, EReal.coe_inv]

/-- The quotient of the two sums is the mean, whatever they are taken about. -/
theorem quotient (hw : ∀ k s, Low (w k s)) (hne : ∃ k s, w k s ≠ ⊥) (M : ℝ) (r : ρ) :
    Ideal.div (accAt w v 8 M r) (sumAt w 8 M) = mean w v r := by
  have hE := total_pos w hne
  rw [sumAt_real w hw, div_pos_real _ (by positivity), mul_accAt w v hw hne]

theorem quotient_one (hw : ∀ k s, Low (w k s)) (hne : ∃ k s, w k s ≠ ⊥) (M : ℝ) (r : ρ) :
    accAt w v 8 M r * Ideal.div 1 (sumAt w 8 M) = mean w v r := by
  have hE := total_pos w hne
  rw [sumAt_real w hw, div_pos_real _ (by positivity), mul_one, mul_comm, mul_accAt w v hw hne]

end Cert.KernelIdeal.Mla
-- ==== Proof.MlaLoops.lean ====
module

public import proofs.«01_k».proof.Proof.MlaShifted
public import proofs.«01_k».proof.Proof.MlaOnline
public import proofs.«01_k».proof.Proof.MlaReal
public import Idealize.ShloMosaic.Lib.WordCmp

@[expose] public section
set_option maxRecDepth 16384
noncomputable section
namespace Cert.KernelIdeal.Mla
open Idealize.ShloMosaic Idealize.ShloMosaic.TcCoe Idealize.ShloMosaic.Tactic
open Cert.KernelIdeal.Gen

/-- A score of the query tile `a`, least where the key comes after the query. -/
def lowScore (x0 : Vec Ideal S1x1024x256 .bf16) (x1 : Vec Ideal S1x2048x1024 .bf16) (a : Fin 8) (h : Fin 8) (q : Fin 256) (k : Fin 8) (s : Fin 256) : EReal :=
  if 256 * k.val + s.val ≤ 256 * a.val + q.val then scoreOf x0 x1 h (key k s) q else ⊥

theorem lowScore_before (x0 : Vec Ideal S1x1024x256 .bf16) (x1 : Vec Ideal S1x2048x1024 .bf16) (a h : Fin 8) (q : Fin 256) (k : Fin 8) (s : Fin 256) (hk : k.val < a.val) :
    lowScore x0 x1 a h q k s = scoreOf x0 x1 h (key k s) q := if_pos (by omega)

theorem lowScore_after (x0 : Vec Ideal S1x1024x256 .bf16) (x1 : Vec Ideal S1x2048x1024 .bf16) (a h : Fin 8) (q : Fin 256) (k : Fin 8) (s : Fin 256) (hk : a.val + 1 ≤ k.val) :
    lowScore x0 x1 a h q k s = ⊥ := if_neg (by omega)

theorem toInt_small (n : ℕ) (hn : n < 4096) : (BitVec.ofNat 32 n).toInt = n := by
  have h : (BitVec.ofNat 32 n).toNat = n := by rw [BitVec.toNat_ofNat]; exact Nat.mod_eq_of_lt (by omega)
  rw [BitVec.toInt_eq_toNat_cond, h, if_pos (by omega)]

/-- The causal comparison, in the block that holds the query. -/
theorem causal_iff (a : Fin 8) (s q : Fin 256) (v12 v16 : IVec S256x256 32) (h12 : v12 (ix2 s q) = BitVec.ofNat 32 s.val) (h16 : v16 (ix2 s q) = BitVec.ofNat 32 (256 * a.val + q.val)) :
    (Scf.iv (BitVec.ofNat 32 a.val) 1#32 0 * 256#32 + v12 (ix2 s q)).toInt ≤ (v16 (ix2 s q)).toInt ↔ 256 * a.val + s.val ≤ 256 * a.val + q.val := by
  have h : Scf.iv (BitVec.ofNat 32 a.val) 1#32 0 * 256#32 + v12 (ix2 s q) = BitVec.ofNat 32 (256 * a.val + s.val) := by
    rw [h12]
    apply BitVec.eq_of_toNat_eq
    have := a.isLt
    simp only [Scf.iv, BitVec.toNat_add, BitVec.toNat_mul, BitVec.toNat_ofNat]
    omega
  rw [h, h16, toInt_small _ (by omega), toInt_small _ (by omega)]
  exact Int.ofNat_le

variable (𝒱 : Variants) (c : Dev nD) (bd : Option 𝒱.V) (i : grid0.Coords) (arg2 : Memref sig .tc .vmem S1x1024x256 .bf16) (harg2 : arg2.IsWhole) (arg3 : Memref sig .tc .vmem S1x2048x1024 .bf16) (harg3 : arg3.IsWhole) (arg4 : Memref sig .tc .vmem S1x8x512x256 .bf16) (harg4 : arg4.IsWhole) (arg5 : Memref sig .tc .vmem S1x32x128 .f32) (harg5 : arg5.IsWhole) (arg6 : Memref sig .tc .vmem S1x256x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x80x256 .f32) (harg9 : arg9.IsWhole)
  (v12 v16 : IVec S256x256 32) (v37 v56 : BitVec 32)
  (x0 : Vec Ideal S1x1024x256 .bf16) (x1 : Vec Ideal S1x2048x1024 .bf16) (x2 : Vec Ideal S1x8x512x256 .bf16)

theorem st_t1 (v80 v94 v108 v122 v136 v150 v164 v178 : FVec Ideal S1x256 .f32) (b : Fin 8 → Fin 256 → EReal) (hbv80 : ∀ q, v80 (ix2 0 q) = b 0 q) (hbv94 : ∀ q, v94 (ix2 0 q) = b 1 q) (hbv108 : ∀ q, v108 (ix2 0 q) = b 2 q) (hbv122 : ∀ q, v122 (ix2 0 q) = b 3 q) (hbv136 : ∀ q, v136 (ix2 0 q) = b 4 q) (hbv150 : ∀ q, v150 (ix2 0 q) = b 5 q) (hbv164 : ∀ q, v164 (ix2 0 q) = b 6 q) (hbv178 : ∀ q, v178 (ix2 0 q) = b 7 q)
    (G : BufTy.Contents (Elt Ideal) arg9.view.ty) (init : BitVec 32) (h : Fin 8) (r : Fin 80) (q : Fin 256) (n : ℕ) (hn : n ≤ (i 1).val) (ha : (i 1).val < 8) :
    arg9.view.read (Elt Ideal) (arg9.view.writes (Elt Ideal) G (st_k0_t1 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) G init n).2) (ix3 h r q)
      = arg9.view.read (Elt Ideal) G (ix3 h r q) + ∑ k ∈ upto n, ∑ s : Fin 256, rowOf x2 h k s r * Ideal.exp2 (scoreOf x0 x1 h (key k s) q - b h q) := by
  induction n with
  | zero => rw [upto_zero, Finset.sum_empty, add_zero]; rfl
  | succ n ih =>
    have hlt : n < (k0_t1_loop i).trips := lt_of_lt_of_eq hn (trips_t1 i).symm
    have h8 : n < 8 := by omega
    rw [st_k0_t1_succ (k := ⟨n, hlt⟩)]
    dsimp only
    rw [View.writes_append, trip_t1 𝒱 c bd i arg2 harg2 arg3 harg3 arg4 harg4 arg5 harg5 arg6 harg6 arg7 harg7 arg8 harg8 arg9 harg9 v12 v16 v37 v56 x0 x1 x2 v80 v94 v108 v122 v136 v150 v164 v178 b hbv80 hbv94 hbv108 hbv122 hbv136 hbv150 hbv164 hbv178 ⟨n, hlt⟩ ⟨n, h8⟩ rfl, ih (by omega),
      show n + 1 = (⟨n, h8⟩ : Fin 8).val + 1 from rfl, upto_succ, Finset.sum_insert (not_mem_upto _), add_assoc, add_comm (∑ k ∈ upto n, _)]

theorem st_t3 (v80 v94 v108 v122 v136 v150 v164 v178 : FVec Ideal S1x256 .f32) (b : Fin 8 → Fin 256 → EReal) (hbv80 : ∀ q, v80 (ix2 0 q) = b 0 q) (hbv94 : ∀ q, v94 (ix2 0 q) = b 1 q) (hbv108 : ∀ q, v108 (ix2 0 q) = b 2 q) (hbv122 : ∀ q, v122 (ix2 0 q) = b 3 q) (hbv136 : ∀ q, v136 (ix2 0 q) = b 4 q) (hbv150 : ∀ q, v150 (ix2 0 q) = b 5 q) (hbv164 : ∀ q, v164 (ix2 0 q) = b 6 q) (hbv178 : ∀ q, v178 (ix2 0 q) = b 7 q) (a : Fin 8) (ha : (i 1).val = a.val)
    (h12 : ∀ s q : Fin 256, v12 (ix2 s q) = BitVec.ofNat 32 s.val) (h16 : ∀ s q : Fin 256, v16 (ix2 s q) = BitVec.ofNat 32 (256 * a.val + q.val)) (h56 : v56 = BitVec.ofNat 32 a.val)
    (G : BufTy.Contents (Elt Ideal) arg9.view.ty) (init : BitVec 32) (h : Fin 8) (r : Fin 80) (q : Fin 256) (n : ℕ) (hn : n = 1) :
    arg9.view.read (Elt Ideal) (arg9.view.writes (Elt Ideal) G (st_k0_t3 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) G init n).2) (ix3 h r q)
      = arg9.view.read (Elt Ideal) G (ix3 h r q) + ∑ s : Fin 256, rowOf x2 h a s r * Ideal.exp2 (lowScore x0 x1 a h q a s - b h q) := by
  subst hn h56
  have hlt : 0 < (k0_t3_loop i).trips := lt_of_lt_of_eq Nat.one_pos (trips_t3 i).symm
  rw [st_k0_t3_succ (k := ⟨0, hlt⟩)]
  dsimp only
  rw [View.writes_append, trip_t3 𝒱 c bd i arg2 harg2 arg3 harg3 arg4 harg4 arg5 harg5 arg6 harg6 arg7 harg7 arg8 harg8 arg9 harg9 v12 v16 v37 _ x0 x1 x2 v80 v94 v108 v122 v136 v150 v164 v178 b hbv80 hbv94 hbv108 hbv122 hbv136 hbv150 hbv164 hbv178 ⟨0, hlt⟩ a ha]
  refine congrArg₂ (· + ·) rfl (Finset.sum_congr rfl fun s _ => ?_)
  rw [lowScore]
  congr 2
  by_cases hc : 256 * a.val + s.val ≤ 256 * a.val + q.val
  · rw [if_pos hc, if_pos ((causal_iff a s q v12 v16 (h12 s q) (h16 s q)).mpr hc)]
  · rw [if_neg hc, if_neg (fun hh => hc ((causal_iff a s q v12 v16 (h12 s q) (h16 s q)).mp hh)), EReal.bot_sub]

theorem zero_acc : (k0_pay563 : FVec Ideal S8x80x256 .f32) = fun _ => 0 := by
  funext j; idx_vars j; unfold k0_pay563; pointwise

set_option maxHeartbeats 4000000 in
/-- What the shifted loops leave in the accumulator. -/
theorem shifted_total (v80 v94 v108 v122 v136 v150 v164 v178 : FVec Ideal S1x256 .f32) (b : Fin 8 → Fin 256 → EReal) (hbv80 : ∀ q, v80 (ix2 0 q) = b 0 q) (hbv94 : ∀ q, v94 (ix2 0 q) = b 1 q) (hbv108 : ∀ q, v108 (ix2 0 q) = b 2 q) (hbv122 : ∀ q, v122 (ix2 0 q) = b 3 q) (hbv136 : ∀ q, v136 (ix2 0 q) = b 4 q) (hbv150 : ∀ q, v150 (ix2 0 q) = b 5 q) (hbv164 : ∀ q, v164 (ix2 0 q) = b 6 q) (hbv178 : ∀ q, v178 (ix2 0 q) = b 7 q) (a : Fin 8) (ha : (i 1).val = a.val)
    (h12 : ∀ s q : Fin 256, v12 (ix2 s q) = BitVec.ofNat 32 s.val) (h16 : ∀ s q : Fin 256, v16 (ix2 s q) = BitVec.ofNat 32 (256 * a.val + q.val)) (h56 : v56 = BitVec.ofNat 32 a.val)
    (v204 v211 : BitVec 32) (n1 n2 n3 n4 : ℕ) (hn1 : n1 = (i 1).val) (hn2 : n2 = 0) (hn3 : n3 = 1) (hn4 : n4 = 0) (S1 : BitVec 32 × List (View.Piece (Elt Ideal) S8x80x256 .f32)) (hS1 : S1 = st_k0_t1 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) (arg9.view.writes (Elt Ideal) arg9.view.junk [⟨Rect.unit ![0, 0, 0] S8x80x256.size inb_S8x80x256_S8x80x256_0_0_0, (k0_pay563 : FVec Ideal S8x80x256 .f32)⟩]) 0#32 n1) (S2 : BitVec 32 × List (View.Piece (Elt Ideal) S8x80x256 .f32)) (hS2 : S2 = st_k0_t2 (F := Ideal) 𝒱 c bd i arg2 harg2 arg3 harg3 arg4 harg4 arg5 harg5 arg6 harg6 arg7 harg7 arg8 harg8 arg9 harg9 v12 v16 v37 v56 onesRows v80 v94 v108 v122 v136 v150 v164 v178 v204 (harg2.unread x0) (harg3.unread x1) (harg4.unread x2) (arg9.view.writes (Elt Ideal) arg9.view.junk (S1.2 ++ [⟨Rect.unit ![0, 0, 0] S8x80x256.size inb_S8x80x256_S8x80x256_0_0_0, (k0_pay563 : FVec Ideal S8x80x256 .f32)⟩])) S1.1 n2) (S3 : BitVec 32 × List (View.Piece (Elt Ideal) S8x80x256 .f32)) (hS3 : S3 = st_k0_t3 (F := Ideal) 𝒱 c bd i arg2 harg2 arg3 harg3 arg4 harg4 arg5 harg5 arg6 harg6 arg7 harg7 arg8 harg8 arg9 harg9 v12 v16 v37 v56 onesRows v80 v94 v108 v122 v136 v150 v164 v178 (harg2.unread x0) (harg3.unread x1) (harg4.unread x2) (arg9.view.writes (Elt Ideal) arg9.view.junk (S2.2 ++ (S1.2 ++ [⟨Rect.unit ![0, 0, 0] S8x80x256.size inb_S8x80x256_S8x80x256_0_0_0, (k0_pay563 : FVec Ideal S8x80x256 .f32)⟩]))) 0#32 n3) (S4 : BitVec 32 × List (View.Piece (Elt Ideal) S8x80x256 .f32)) (hS4 : S4 = st_k0_t4 (F := Ideal) 𝒱 c bd i arg2 harg2 arg3 harg3 arg4 harg4 arg5 harg5 arg6 harg6 arg7 harg7 arg8 harg8 arg9 harg9 v12 v16 v37 v56 onesRows v80 v94 v108 v122 v136 v150 v164 v178 v211 (harg2.unread x0) (harg3.unread x1) (harg4.unread x2) (arg9.view.writes (Elt Ideal) arg9.view.junk (S3.2 ++ (S2.2 ++ (S1.2 ++ [⟨Rect.unit ![0, 0, 0] S8x80x256.size inb_S8x80x256_S8x80x256_0_0_0, (k0_pay563 : FVec Ideal S8x80x256 .f32)⟩])))) S3.1 n4) (h : Fin 8) (r : Fin 80) (q : Fin 256) :
    arg9.view.read (Elt Ideal) (arg9.view.writes (Elt Ideal) arg9.view.junk (S4.2 ++ (S3.2 ++ (S2.2 ++ (S1.2 ++ [⟨Rect.unit ![0, 0, 0] S8x80x256.size inb_S8x80x256_S8x80x256_0_0_0, (k0_pay563 : FVec Ideal S8x80x256 .f32)⟩]))))) (ix3 h r q)
      = ∑ k ∈ upto (a.val + 1), ∑ s : Fin 256, rowOf x2 h k s r * Ideal.exp2 (lowScore x0 x1 a h q k s - b h q) := by
  subst hn2 hn4
  have e4 : S4.2 = [] := by rw [hS4]; rfl
  have e2 : S2.2 = [] := by rw [hS2]; rfl
  rw [e4, List.nil_append, View.writes_append, hS3, st_t3 𝒱 c bd i arg2 harg2 arg3 harg3 arg4 harg4 arg5 harg5 arg6 harg6 arg7 harg7 arg8 harg8 arg9 harg9 v12 v16 v37 v56 x0 x1 x2 v80 v94 v108 v122 v136 v150 v164 v178 b hbv80 hbv94 hbv108 hbv122 hbv136 hbv150 hbv164 hbv178 a ha h12 h16 h56 _ _ h r q n3 hn3,
    e2, List.nil_append, View.writes_append, hS1, st_t1 𝒱 c bd i arg2 harg2 arg3 harg3 arg4 harg4 arg5 harg5 arg6 harg6 arg7 harg7 arg8 harg8 arg9 harg9 v12 v16 v37 v56 x0 x1 x2 v80 v94 v108 v122 v136 v150 v164 v178 b hbv80 hbv94 hbv108 hbv122 hbv136 hbv150 hbv164 hbv178 _ _ h r q n1 hn1.le (ha ▸ a.isLt),
    View.read_writes_full, zero_acc, zero_add, hn1, ha, upto_succ, Finset.sum_insert (not_mem_upto _), add_comm]
  refine congrArg₂ (· + ·) rfl (Finset.sum_congr rfl fun k hk => Finset.sum_congr rfl fun s _ => ?_)
  rw [lowScore_before x0 x1 a h q k s (by simpa [upto] using hk)]
theorem lowScore_low (hreal : ∀ h j q, ∃ x : ℝ, scoreOf x0 x1 h j q = x) (a h : Fin 8) (q : Fin 256) (k : Fin 8) (s : Fin 256) : Low (lowScore x0 x1 a h q k s) := by
  unfold lowScore; split
  · exact Or.inr (hreal _ _ _)
  · exact Or.inl rfl

theorem lowScore_first (hreal : ∀ h j q, ∃ x : ℝ, scoreOf x0 x1 h j q = x) (a h : Fin 8) (q : Fin 256) (k : Fin 8) (hk : k.val ≤ a.val) : ∃ s, lowScore x0 x1 a h q k s ≠ ⊥ := by
  refine ⟨0, ?_⟩
  obtain ⟨x, hx⟩ := hreal h (key k 0) q
  rw [lowScore, if_pos (by show 256 * k.val + 0 ≤ _; omega), hx]
  exact EReal.coe_ne_bot x

theorem st_t5 (hreal : ∀ h j q, ∃ x : ℝ, scoreOf x0 x1 h j q = x) (a : Fin 8) (ha : (i 1).val = a.val) (G7 : BufTy.Contents (Elt Ideal) arg7.view.ty) (G8 : BufTy.Contents (Elt Ideal) arg8.view.ty) (G9 : BufTy.Contents (Elt Ideal) arg9.view.ty) (init : BitVec 32) (h : Fin 8) (q : Fin 256)
    (h0 : Held (lowScore x0 x1 a h q) (fun k s (r : Fin 64) => valueOf x2 h k s r) 0 (arg7.view.read (Elt Ideal) G7 (ix3 h 0 q))
      (arg8.view.read (Elt Ideal) G8 (ix3 h 0 q)) (fun r => arg9.view.read (Elt Ideal) G9 (ix3 h ⟨r.val, by omega⟩ q)))
    (n : ℕ) (hn : n ≤ a.val) :
    Held (lowScore x0 x1 a h q) (fun k s (r : Fin 64) => valueOf x2 h k s r) n (arg7.view.read (Elt Ideal) (arg7.view.writes (Elt Ideal) G7 (st_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.1) (ix3 h 0 q))
      (arg8.view.read (Elt Ideal) (arg8.view.writes (Elt Ideal) G8 (st_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.2.1) (ix3 h 0 q)) (fun r => arg9.view.read (Elt Ideal) (arg9.view.writes (Elt Ideal) G9 (st_k0_t5 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.2.2) (ix3 h ⟨r.val, by omega⟩ q)) := by
  induction n with
  | zero => exact h0
  | succ n ih =>
    have hlt : n < (k0_t5_loop i).trips := lt_of_lt_of_eq (by omega) (trips_t5 i).symm
    have h8 : n < 8 := by omega
    have hS : ∀ s, scoreOf x0 x1 h (key ⟨n, h8⟩ s) q = lowScore x0 x1 a h q ⟨n, h8⟩ s := fun s => (lowScore_before x0 x1 a h q ⟨n, h8⟩ s hn).symm
    rw [st_k0_t5_succ (k := ⟨n, hlt⟩)]
    dsimp only
    simp only [View.writes_append]
    refine Held.step (lowScore x0 x1 a h q) (fun k s (r : Fin 64) => valueOf x2 h k s r) (lowScore_low x0 x1 hreal a h q) ⟨n, h8⟩ (lowScore_first x0 x1 hreal a h q ⟨n, h8⟩ (by show n ≤ _; omega)) (ih (by omega)) ?_ ?_ (fun r => ?_)
    · rw [trip_t5_max 𝒱 c bd i arg2 harg2 arg3 harg3 arg4 harg4 arg5 harg5 arg6 harg6 arg7 harg7 arg8 harg8 arg9 harg9 v12 v16 v37 v56 x0 x1 x2 ⟨n, hlt⟩ ⟨n, h8⟩ rfl]
      simp only [hS]
    · rw [trip_t5_sum 𝒱 c bd i arg2 harg2 arg3 harg3 arg4 harg4 arg5 harg5 arg6 harg6 arg7 harg7 arg8 harg8 arg9 harg9 v12 v16 v37 v56 x0 x1 x2 ⟨n, hlt⟩ ⟨n, h8⟩ rfl, trip_t5_max 𝒱 c bd i arg2 harg2 arg3 harg3 arg4 harg4 arg5 harg5 arg6 harg6 arg7 harg7 arg8 harg8 arg9 harg9 v12 v16 v37 v56 x0 x1 x2 ⟨n, hlt⟩ ⟨n, h8⟩ rfl]
      simp only [hS]
    · rw [trip_t5_acc 𝒱 c bd i arg2 harg2 arg3 harg3 arg4 harg4 arg5 harg5 arg6 harg6 arg7 harg7 arg8 harg8 arg9 harg9 v12 v16 v37 v56 x0 x1 x2 ⟨n, hlt⟩ ⟨n, h8⟩ rfl, trip_t5_max 𝒱 c bd i arg2 harg2 arg3 harg3 arg4 harg4 arg5 harg5 arg6 harg6 arg7 harg7 arg8 harg8 arg9 harg9 v12 v16 v37 v56 x0 x1 x2 ⟨n, hlt⟩ ⟨n, h8⟩ rfl]
      simp only [hS]

theorem st_t7 (hreal : ∀ h j q, ∃ x : ℝ, scoreOf x0 x1 h j q = x) (a : Fin 8) (ha : (i 1).val = a.val)
    (h12 : ∀ s q : Fin 256, v12 (ix2 s q) = BitVec.ofNat 32 s.val) (h16 : ∀ s q : Fin 256, v16 (ix2 s q) = BitVec.ofNat 32 (256 * a.val + q.val)) (h56 : v56 = BitVec.ofNat 32 a.val)
    (G7 : BufTy.Contents (Elt Ideal) arg7.view.ty) (G8 : BufTy.Contents (Elt Ideal) arg8.view.ty) (G9 : BufTy.Contents (Elt Ideal) arg9.view.ty) (init : BitVec 32) (h : Fin 8) (q : Fin 256)
    (h0 : Held (lowScore x0 x1 a h q) (fun k s (r : Fin 64) => valueOf x2 h k s r) a.val (arg7.view.read (Elt Ideal) G7 (ix3 h 0 q))
      (arg8.view.read (Elt Ideal) G8 (ix3 h 0 q)) (fun r => arg9.view.read (Elt Ideal) G9 (ix3 h ⟨r.val, by omega⟩ q)))
    (n : ℕ) (hn : n = 1) :
    Held (lowScore x0 x1 a h q) (fun k s (r : Fin 64) => valueOf x2 h k s r) (a.val + 1) (arg7.view.read (Elt Ideal) (arg7.view.writes (Elt Ideal) G7 (st_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.1) (ix3 h 0 q))
      (arg8.view.read (Elt Ideal) (arg8.view.writes (Elt Ideal) G8 (st_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.2.1) (ix3 h 0 q)) (fun r => arg9.view.read (Elt Ideal) (arg9.view.writes (Elt Ideal) G9 (st_k0_t7 (F := Ideal) 𝒱 c bd i arg2 harg2 arg3 harg3 arg4 harg4 arg5 harg5 arg6 harg6 arg7 harg7 arg8 harg8 arg9 harg9 v12 v16 v37 v56 (harg2.unread x0) (harg3.unread x1) (harg4.unread x2) G7 G8 G9 init n).2.2.2) (ix3 h ⟨r.val, by omega⟩ q)) := by
  subst hn h56
  have hlt : 0 < (k0_t7_loop i).trips := lt_of_lt_of_eq Nat.one_pos (trips_t7 i).symm
  have hS : ∀ s, (if (Scf.iv (BitVec.ofNat 32 a.val) 1#32 0 * 256#32 + v12 (ix2 s q)).toInt ≤ (v16 (ix2 s q)).toInt then scoreOf x0 x1 h (key a s) q else ⊥) = lowScore x0 x1 a h q a s := fun s => by
    rw [lowScore]; exact if_congr (causal_iff a s q v12 v16 (h12 s q) (h16 s q)) rfl rfl
  rw [st_k0_t7_succ (k := ⟨0, hlt⟩)]
  dsimp only
  simp only [View.writes_append]
  refine Held.step (lowScore x0 x1 a h q) (fun k s (r : Fin 64) => valueOf x2 h k s r) (lowScore_low x0 x1 hreal a h q) a (lowScore_first x0 x1 hreal a h q a le_rfl) (m := arg7.view.read (Elt Ideal) G7 (ix3 h 0 q)) (l := arg8.view.read (Elt Ideal) G8 (ix3 h 0 q)) (a := fun r : Fin 64 => arg9.view.read (Elt Ideal) G9 (ix3 h ⟨r.val, by omega⟩ q)) h0 ?_ ?_ (fun r => ?_)
  · refine (trip_t7_max 𝒱 c bd i arg2 harg2 arg3 harg3 arg4 harg4 arg5 harg5 arg6 harg6 arg7 harg7 arg8 harg8 arg9 harg9 v12 v16 v37 _ x0 x1 x2 ⟨0, hlt⟩ a ha _ _ _ _ h q).trans ?_
    simp only [hS]; rfl
  · rw [trip_t7_sum 𝒱 c bd i arg2 harg2 arg3 harg3 arg4 harg4 arg5 harg5 arg6 harg6 arg7 harg7 arg8 harg8 arg9 harg9 v12 v16 v37 _ x0 x1 x2 ⟨0, hlt⟩ a ha, trip_t7_max 𝒱 c bd i arg2 harg2 arg3 harg3 arg4 harg4 arg5 harg5 arg6 harg6 arg7 harg7 arg8 harg8 arg9 harg9 v12 v16 v37 _ x0 x1 x2 ⟨0, hlt⟩ a ha]
    simp only [hS]; rfl
  · rw [trip_t7_acc 𝒱 c bd i arg2 harg2 arg3 harg3 arg4 harg4 arg5 harg5 arg6 harg6 arg7 harg7 arg8 harg8 arg9 harg9 v12 v16 v37 _ x0 x1 x2 ⟨0, hlt⟩ a ha, trip_t7_max 𝒱 c bd i arg2 harg2 arg3 harg3 arg4 harg4 arg5 harg5 arg6 harg6 arg7 harg7 arg8 harg8 arg9 harg9 v12 v16 v37 _ x0 x1 x2 ⟨0, hlt⟩ a ha]
    simp only [hS]; rfl

theorem zero_sum : (k0_pay562 : FVec Ideal S8x1x256 .f32) = fun _ => 0 := by
  funext j; idx_vars j; unfold k0_pay562; pointwise
theorem least_max : (k0_pay561 : FVec Ideal S8x1x256 .f32) = fun _ => ⊥ := by
  funext j; idx_vars j; unfold k0_pay561; pointwise
  exact IdealRules.named_const.ideal_named_scalar κ "mask" (φ := .f32) 0xF149F2CA#32 ⊥ rfl

set_option maxHeartbeats 4000000 in
/-- What the running loops leave. -/
theorem online_total (hreal : ∀ h j q, ∃ x : ℝ, scoreOf x0 x1 h j q = x) (a : Fin 8) (ha : (i 1).val = a.val)
    (h12 : ∀ s q : Fin 256, v12 (ix2 s q) = BitVec.ofNat 32 s.val) (h16 : ∀ s q : Fin 256, v16 (ix2 s q) = BitVec.ofNat 32 (256 * a.val + q.val)) (h56 : v56 = BitVec.ofNat 32 a.val)
    (v204 v211 : BitVec 32) (n1 n2 n3 n4 : ℕ) (hn1 : n1 = a.val) (hn2 : n2 = 0) (hn3 : n3 = 1) (hn4 : n4 = 0)  (S1 : BitVec 32 × List (View.Piece (Elt Ideal) S8x1x256 .f32) × List (View.Piece (Elt Ideal) S8x1x256 .f32) × List (View.Piece (Elt Ideal) S8x80x256 .f32)) (hS1 : S1 = st_k0_t5 (F := Ideal) 𝒱 c bd i arg2 harg2 arg3 harg3 arg4 harg4 arg5 harg5 arg6 harg6 arg7 harg7 arg8 harg8 arg9 harg9 v12 v16 v37 v56  (harg2.unread x0) (harg3.unread x1) (harg4.unread x2) (arg7.view.writes (Elt Ideal) arg7.view.junk [⟨Rect.unit ![0, 0, 0] S8x1x256.size inb_S8x1x256_S8x1x256_0_0_0, (k0_pay561 : FVec Ideal S8x1x256 .f32)⟩]) (arg8.view.writes (Elt Ideal) arg8.view.junk [⟨Rect.unit ![0, 0, 0] S8x1x256.size inb_S8x1x256_S8x1x256_0_0_0, (k0_pay562 : FVec Ideal S8x1x256 .f32)⟩]) (arg9.view.writes (Elt Ideal) arg9.view.junk [⟨Rect.unit ![0, 0, 0] S8x80x256.size inb_S8x80x256_S8x80x256_0_0_0, (k0_pay563 : FVec Ideal S8x80x256 .f32)⟩]) 0#32 n1) (S2 : BitVec 32 × List (View.Piece (Elt Ideal) S8x1x256 .f32) × List (View.Piece (Elt Ideal) S8x1x256 .f32) × List (View.Piece (Elt Ideal) S8x80x256 .f32)) (hS2 : S2 = st_k0_t6 (F := Ideal) 𝒱 c bd i arg2 harg2 arg3 harg3 arg4 harg4 arg5 harg5 arg6 harg6 arg7 harg7 arg8 harg8 arg9 harg9 v12 v16 v37 v56 v204 (harg2.unread x0) (harg3.unread x1) (harg4.unread x2) (arg7.view.writes (Elt Ideal) arg7.view.junk (S1.2.1 ++ [⟨Rect.unit ![0, 0, 0] S8x1x256.size inb_S8x1x256_S8x1x256_0_0_0, (k0_pay561 : FVec Ideal S8x1x256 .f32)⟩])) (arg8.view.writes (Elt Ideal) arg8.view.junk (S1.2.2.1 ++ [⟨Rect.unit ![0, 0, 0] S8x1x256.size inb_S8x1x256_S8x1x256_0_0_0, (k0_pay562 : FVec Ideal S8x1x256 .f32)⟩])) (arg9.view.writes (Elt Ideal) arg9.view.junk (S1.2.2.2 ++ [⟨Rect.unit ![0, 0, 0] S8x80x256.size inb_S8x80x256_S8x80x256_0_0_0, (k0_pay563 : FVec Ideal S8x80x256 .f32)⟩])) S1.1 n2) (S3 : BitVec 32 × List (View.Piece (Elt Ideal) S8x1x256 .f32) × List (View.Piece (Elt Ideal) S8x1x256 .f32) × List (View.Piece (Elt Ideal) S8x80x256 .f32)) (hS3 : S3 = st_k0_t7 (F := Ideal) 𝒱 c bd i arg2 harg2 arg3 harg3 arg4 harg4 arg5 harg5 arg6 harg6 arg7 harg7 arg8 harg8 arg9 harg9 v12 v16 v37 v56  (harg2.unread x0) (harg3.unread x1) (harg4.unread x2) (arg7.view.writes (Elt Ideal) arg7.view.junk (S2.2.1 ++ (S1.2.1 ++ [⟨Rect.unit ![0, 0, 0] S8x1x256.size inb_S8x1x256_S8x1x256_0_0_0, (k0_pay561 : FVec Ideal S8x1x256 .f32)⟩]))) (arg8.view.writes (Elt Ideal) arg8.view.junk (S2.2.2.1 ++ (S1.2.2.1 ++ [⟨Rect.unit ![0, 0, 0] S8x1x256.size inb_S8x1x256_S8x1x256_0_0_0, (k0_pay562 : FVec Ideal S8x1x256 .f32)⟩]))) (arg9.view.writes (Elt Ideal) arg9.view.junk (S2.2.2.2 ++ (S1.2.2.2 ++ [⟨Rect.unit ![0, 0, 0] S8x80x256.size inb_S8x80x256_S8x80x256_0_0_0, (k0_pay563 : FVec Ideal S8x80x256 .f32)⟩]))) 0#32 n3) (S4 : BitVec 32 × List (View.Piece (Elt Ideal) S8x1x256 .f32) × List (View.Piece (Elt Ideal) S8x1x256 .f32) × List (View.Piece (Elt Ideal) S8x80x256 .f32)) (hS4 : S4 = st_k0_t8 (F := Ideal) 𝒱 c bd i arg2 harg2 arg3 harg3 arg4 harg4 arg5 harg5 arg6 harg6 arg7 harg7 arg8 harg8 arg9 harg9 v12 v16 v37 v56 v211 (harg2.unread x0) (harg3.unread x1) (harg4.unread x2) (arg7.view.writes (Elt Ideal) arg7.view.junk (S3.2.1 ++ (S2.2.1 ++ (S1.2.1 ++ [⟨Rect.unit ![0, 0, 0] S8x1x256.size inb_S8x1x256_S8x1x256_0_0_0, (k0_pay561 : FVec Ideal S8x1x256 .f32)⟩])))) (arg8.view.writes (Elt Ideal) arg8.view.junk (S3.2.2.1 ++ (S2.2.2.1 ++ (S1.2.2.1 ++ [⟨Rect.unit ![0, 0, 0] S8x1x256.size inb_S8x1x256_S8x1x256_0_0_0, (k0_pay562 : FVec Ideal S8x1x256 .f32)⟩])))) (arg9.view.writes (Elt Ideal) arg9.view.junk (S3.2.2.2 ++ (S2.2.2.2 ++ (S1.2.2.2 ++ [⟨Rect.unit ![0, 0, 0] S8x80x256.size inb_S8x80x256_S8x80x256_0_0_0, (k0_pay563 : FVec Ideal S8x80x256 .f32)⟩])))) S3.1 n4) (h : Fin 8) (q : Fin 256) :
    Held (lowScore x0 x1 a h q) (fun k s (r : Fin 64) => valueOf x2 h k s r) (a.val + 1) (arg7.view.read (Elt Ideal) (arg7.view.writes (Elt Ideal) arg7.view.junk (S4.2.1 ++ (S3.2.1 ++ (S2.2.1 ++ (S1.2.1 ++ [⟨Rect.unit ![0, 0, 0] S8x1x256.size inb_S8x1x256_S8x1x256_0_0_0, (k0_pay561 : FVec Ideal S8x1x256 .f32)⟩]))))) (ix3 h 0 q))
      (arg8.view.read (Elt Ideal) (arg8.view.writes (Elt Ideal) arg8.view.junk (S4.2.2.1 ++ (S3.2.2.1 ++ (S2.2.2.1 ++ (S1.2.2.1 ++ [⟨Rect.unit ![0, 0, 0] S8x1x256.size inb_S8x1x256_S8x1x256_0_0_0, (k0_pay562 : FVec Ideal S8x1x256 .f32)⟩]))))) (ix3 h 0 q)) (fun r => arg9.view.read (Elt Ideal) (arg9.view.writes (Elt Ideal) arg9.view.junk (S4.2.2.2 ++ (S3.2.2.2 ++ (S2.2.2.2 ++ (S1.2.2.2 ++ [⟨Rect.unit ![0, 0, 0] S8x80x256.size inb_S8x80x256_S8x80x256_0_0_0, (k0_pay563 : FVec Ideal S8x80x256 .f32)⟩]))))) (ix3 h ⟨r.val, by omega⟩ q)) := by
  subst hn2 hn4
  have e4 : S4.2 = ([], [], []) := by rw [hS4]; rfl
  have e2 : S2.2 = ([], [], []) := by rw [hS2]; rfl
  simp only [e4, e2, List.nil_append, View.writes_append] at hS3 ⊢
  rw [hS3]
  refine st_t7 𝒱 c bd i arg2 harg2 arg3 harg3 arg4 harg4 arg5 harg5 arg6 harg6 arg7 harg7 arg8 harg8 arg9 harg9 v12 v16 v37 v56 x0 x1 x2 hreal a ha h12 h16 h56 _ _ _ _ h q ?_ n3 hn3
  rw [← hn1, hS1]
  refine st_t5 𝒱 c bd i arg2 harg2 arg3 harg3 arg4 harg4 arg5 harg5 arg6 harg6 arg7 harg7 arg8 harg8 arg9 harg9 v12 v16 v37 v56 x0 x1 x2 hreal a ha _ _ _ _ h q ?_ n1 hn1.le
  refine Or.inl ⟨rfl, ?_, ?_, fun r => ?_⟩
  · rw [View.read_writes_full, least_max]
  · rw [View.read_writes_full, zero_sum]
  · rw [View.read_writes_full, zero_acc]

end Cert.KernelIdeal.Mla
-- ==== Proof.MlaBound.lean ====
module

public import proofs.«01_k».proof.Proof.MlaLoops

@[expose] public section
set_option maxRecDepth 16384
noncomputable section
namespace Cert.KernelIdeal.Mla
open Idealize.ShloMosaic Idealize.ShloMosaic.TcCoe Idealize.ShloMosaic.Tactic
open Cert.KernelIdeal.Gen

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem coe_sum {ι : Type} (s : Finset ι) (g : ι → ℝ) : ((∑ k ∈ s, g k : ℝ) : EReal) = ∑ k ∈ s, ((g k : ℝ) : EReal) := by
  classical
  induction s using Finset.induction_on with
  | empty => simp
  | insert a t ha ih => rw [Finset.sum_insert ha, Finset.sum_insert ha, EReal.coe_add, ih]

theorem IsReal.sum {ι : Type} (s : Finset ι) {f : ι → EReal} (hf : ∀ k, IsReal (f k)) : IsReal (∑ k ∈ s, f k) := by
  choose g hg using hf
  exact ⟨∑ k ∈ s, g k, by rw [Finset.sum_congr rfl fun k _ => hg k, coe_sum]⟩

/-- The root of a sum of squares of real numbers is a real number. -/
theorem IsReal.norm {ι : Type} [Fintype ι] {f : ι → EReal} (hf : ∀ k, IsReal (f k)) : IsReal (Ideal.sqrt (∑ k, f k * f k)) := by
  choose g hg using hf
  have e : ∑ k, f k * f k = ((∑ k, g k * g k : ℝ) : EReal) := by
    rw [coe_sum]; exact Finset.sum_congr rfl fun k _ => by rw [hg k, EReal.coe_mul]
  rw [e, Ideal.sqrt_coe, if_neg (not_lt.mpr (Finset.sum_nonneg fun k _ => mul_self_nonneg _))]
  exact ⟨_, rfl⟩

/-- The bound of the scores of one head, from its queries `qx` and the keys' norms `w`. -/
def boundOf (w : FVec Ideal S1x128 .f32) (qx : Vec Ideal S1x128x256 .bf16) : FVec Ideal S1x256 .f32 :=
  addf (mulf (sqrt (shapeCast S1x256 (multiReduction .add [0] S256 (mulf (extf .f32 (shapeCast S128x256 qx shapeCasts_S1x128x256_S128x256 : FVec Ideal S128x256 .bf16) bitsLt_bf16_f32 : FVec Ideal S128x256 .f32) (extf .f32 (shapeCast S128x256 qx shapeCasts_S1x128x256_S128x256 : FVec Ideal S128x256 .bf16) bitsLt_bf16_f32)) 0x00000000#32 reduces_S128x256_S256 (.inl rfl) rfl) shapeCasts_S256_S1x256 : FVec Ideal S1x256 .f32))
    (mulf (concatenate S1x256 1 [⟨S1x128, w⟩, ⟨S1x128, w⟩] concatenates_S1x128_S1x128_S1x256_d1) (broadcast S1x256 (Scalar.ofBits .f32 0x3F8020C5#32 : Ideal .f32))))
    (broadcast S1x256 (Scalar.ofBits .f32 0x3A83126F#32 : Ideal .f32))

theorem const_scale : Ideal.ofBits .f32 0x3F8020C5#32 = ((8396997 / 8388608 : ℝ) : EReal) := by
  simp [Ideal.ofBits, Ideal.ieee, -EReal.coe_mul]; norm_num

theorem const_slack : Ideal.ofBits .f32 0x3A83126F#32 = ((8589935 / 8589934592 : ℝ) : EReal) := by
  simp [Ideal.ofBits, Ideal.ieee, -EReal.coe_mul]; norm_num

theorem boundOf_real (w : FVec Ideal S1x128 .f32) (qx : Vec Ideal S1x128x256 .bf16) (hw : ∀ y, IsReal (w y)) (hq : ∀ y, IsReal (qx y)) (q : Fin 256) :
    IsReal (boundOf w qx (ix2 0 q)) := by
  unfold boundOf
  pointwise
  refine IsReal.add (IsReal.mul (IsReal.norm fun d => hq _) (IsReal.mul ?_ ⟨_, const_scale⟩)) ⟨_, const_slack⟩
  split <;> exact hw _

variable (arg2 : Memref sig .tc .vmem S1x1024x256 .bf16) (harg2 : arg2.IsWhole) (arg5 : Memref sig .tc .vmem S1x32x128 .f32) (harg5 : arg5.IsWhole)
variable (c : Dev nD) (x0 : Vec Ideal S1x1024x256 .bf16) (x3 : Vec Ideal S1x32x128 .f32)

/-- The bounds of the heads. -/
def bounds (h : Fin 8) (q : Fin 256) : EReal :=
  (![kernelRun.sl.v80 (F := Ideal) c arg2 harg2 arg5 harg5 x0 x3,
    kernelRun.sl.v94 (F := Ideal) c arg2 harg2 arg5 harg5 x0 x3,
    kernelRun.sl.v108 (F := Ideal) c arg2 harg2 arg5 harg5 x0 x3,
    kernelRun.sl.v122 (F := Ideal) c arg2 harg2 arg5 harg5 x0 x3,
    kernelRun.sl.v136 (F := Ideal) c arg2 harg2 arg5 harg5 x0 x3,
    kernelRun.sl.v150 (F := Ideal) c arg2 harg2 arg5 harg5 x0 x3,
    k0_pay576 (F := Ideal) (kernelRun.sl.v66 c arg5 harg5 x3) (kernelRun.sl.v157 c arg2 harg2 x0),
    k0_pay577 (F := Ideal) (kernelRun.sl.v66 c arg5 harg5 x3) (View.readAt (Elt Ideal) arg2.view (Rect.unit (s := S1x1024x256) ![0, 896, 0] S1x128x256.size inb_S1x1024x256_S1x128x256_0_896_0).toLoadRect (harg2.unread x0))] : Fin 8 → FVec Ideal S1x256 .f32) h (ix2 0 q)

theorem norms_real (h3 : ∀ y, IsReal (x3 y)) (y : S8x128.Idx) : IsReal (kernelRun.sl.v66 (F := Ideal) c arg5 harg5 x3 y) := by
  have h59 : ∀ y, IsReal (kernelRun.sl.v59 (F := Ideal) c arg5 harg5 x3 y) := fun y => by
    unfold kernelRun.sl.v59 shapeCast; rw [harg5.readAt_unread]; exact h3 _
  exact IsReal.max (IsReal.max (IsReal.max (h59 _) (h59 _)) (h59 _)) (h59 _)

theorem slice_real {off : Fin 2 → ℕ} (w : FVec Ideal S8x128 .f32) (hs) (hw : ∀ y, IsReal (w y)) (y : S1x128.Idx) :
    IsReal (extractStridedSlice S1x128 off w hs y) := hw _

theorem piece_real (h0 : ∀ y, IsReal (x0 y)) (B : LoadRect S1x1024x256) (y : B.shape.Idx) : IsReal (View.readAt (Elt Ideal) arg2.view B (harg2.unread x0) y) := by
  rw [harg2.readAt_unread]; exact h0 _

theorem bound_0 (h0 : ∀ y, IsReal (x0 y)) (h3 : ∀ y, IsReal (x3 y)) (q : Fin 256) : IsReal ((kernelRun.sl.v80 (F := Ideal) c arg2 harg2 arg5 harg5 x0 x3 : FVec Ideal S1x256 .f32) (ix2 0 q)) := by
  have e : (kernelRun.sl.v80 (F := Ideal) c arg2 harg2 arg5 harg5 x0 x3 : FVec Ideal S1x256 .f32) = boundOf (extractStridedSlice S1x128 ![0, 0] (kernelRun.sl.v66 (F := Ideal) c arg5 harg5 x3) slices_S8x128_o0_0_S1x128)
    (View.readAt (Elt Ideal) arg2.view (Rect.unit (s := S1x1024x256) ![0, 0, 0] S1x128x256.size inb_S1x1024x256_S1x128x256_0_0_0).toLoadRect (harg2.unread x0)) := by
    unfold boundOf kernelRun.sl.v80 kernelRun.sl.v78 kernelRun.sl.v73 kernelRun.sl.v72 kernelRun.sl.v71 kernelRun.sl.v70 kernelRun.sl.v69 kernelRun.sl.v68 kernelRun.sl.v77 kernelRun.sl.v76 kernelRun.sl.v75 kernelRun.sl.v74 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_1 (h0 : ∀ y, IsReal (x0 y)) (h3 : ∀ y, IsReal (x3 y)) (q : Fin 256) : IsReal ((kernelRun.sl.v94 (F := Ideal) c arg2 harg2 arg5 harg5 x0 x3 : FVec Ideal S1x256 .f32) (ix2 0 q)) := by
  have e : (kernelRun.sl.v94 (F := Ideal) c arg2 harg2 arg5 harg5 x0 x3 : FVec Ideal S1x256 .f32) = boundOf (extractStridedSlice S1x128 ![1, 0] (kernelRun.sl.v66 (F := Ideal) c arg5 harg5 x3) slices_S8x128_o1_0_S1x128)
    (View.readAt (Elt Ideal) arg2.view (Rect.unit (s := S1x1024x256) ![0, 128, 0] S1x128x256.size inb_S1x1024x256_S1x128x256_0_128_0).toLoadRect (harg2.unread x0)) := by
    unfold boundOf kernelRun.sl.v94 kernelRun.sl.v92 kernelRun.sl.v87 kernelRun.sl.v86 kernelRun.sl.v85 kernelRun.sl.v84 kernelRun.sl.v83 kernelRun.sl.v82 kernelRun.sl.v91 kernelRun.sl.v76 kernelRun.sl.v89 kernelRun.sl.v88 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_2 (h0 : ∀ y, IsReal (x0 y)) (h3 : ∀ y, IsReal (x3 y)) (q : Fin 256) : IsReal ((kernelRun.sl.v108 (F := Ideal) c arg2 harg2 arg5 harg5 x0 x3 : FVec Ideal S1x256 .f32) (ix2 0 q)) := by
  have e : (kernelRun.sl.v108 (F := Ideal) c arg2 harg2 arg5 harg5 x0 x3 : FVec Ideal S1x256 .f32) = boundOf (extractStridedSlice S1x128 ![2, 0] (kernelRun.sl.v66 (F := Ideal) c arg5 harg5 x3) slices_S8x128_o2_0_S1x128)
    (View.readAt (Elt Ideal) arg2.view (Rect.unit (s := S1x1024x256) ![0, 256, 0] S1x128x256.size inb_S1x1024x256_S1x128x256_0_256_0).toLoadRect (harg2.unread x0)) := by
    unfold boundOf kernelRun.sl.v108 kernelRun.sl.v106 kernelRun.sl.v101 kernelRun.sl.v100 kernelRun.sl.v99 kernelRun.sl.v98 kernelRun.sl.v97 kernelRun.sl.v96 kernelRun.sl.v105 kernelRun.sl.v76 kernelRun.sl.v103 kernelRun.sl.v102 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_3 (h0 : ∀ y, IsReal (x0 y)) (h3 : ∀ y, IsReal (x3 y)) (q : Fin 256) : IsReal ((kernelRun.sl.v122 (F := Ideal) c arg2 harg2 arg5 harg5 x0 x3 : FVec Ideal S1x256 .f32) (ix2 0 q)) := by
  have e : (kernelRun.sl.v122 (F := Ideal) c arg2 harg2 arg5 harg5 x0 x3 : FVec Ideal S1x256 .f32) = boundOf (extractStridedSlice S1x128 ![3, 0] (kernelRun.sl.v66 (F := Ideal) c arg5 harg5 x3) slices_S8x128_o3_0_S1x128)
    (View.readAt (Elt Ideal) arg2.view (Rect.unit (s := S1x1024x256) ![0, 384, 0] S1x128x256.size inb_S1x1024x256_S1x128x256_0_384_0).toLoadRect (harg2.unread x0)) := by
    unfold boundOf kernelRun.sl.v122 kernelRun.sl.v120 kernelRun.sl.v115 kernelRun.sl.v114 kernelRun.sl.v113 kernelRun.sl.v112 kernelRun.sl.v111 kernelRun.sl.v110 kernelRun.sl.v119 kernelRun.sl.v76 kernelRun.sl.v117 kernelRun.sl.v116 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_4 (h0 : ∀ y, IsReal (x0 y)) (h3 : ∀ y, IsReal (x3 y)) (q : Fin 256) : IsReal ((kernelRun.sl.v136 (F := Ideal) c arg2 harg2 arg5 harg5 x0 x3 : FVec Ideal S1x256 .f32) (ix2 0 q)) := by
  have e : (kernelRun.sl.v136 (F := Ideal) c arg2 harg2 arg5 harg5 x0 x3 : FVec Ideal S1x256 .f32) = boundOf (extractStridedSlice S1x128 ![4, 0] (kernelRun.sl.v66 (F := Ideal) c arg5 harg5 x3) slices_S8x128_o4_0_S1x128)
    (View.readAt (Elt Ideal) arg2.view (Rect.unit (s := S1x1024x256) ![0, 512, 0] S1x128x256.size inb_S1x1024x256_S1x128x256_0_512_0).toLoadRect (harg2.unread x0)) := by
    unfold boundOf kernelRun.sl.v136 kernelRun.sl.v134 kernelRun.sl.v129 kernelRun.sl.v128 kernelRun.sl.v127 kernelRun.sl.v126 kernelRun.sl.v125 kernelRun.sl.v124 kernelRun.sl.v133 kernelRun.sl.v76 kernelRun.sl.v131 kernelRun.sl.v130 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_5 (h0 : ∀ y, IsReal (x0 y)) (h3 : ∀ y, IsReal (x3 y)) (q : Fin 256) : IsReal ((kernelRun.sl.v150 (F := Ideal) c arg2 harg2 arg5 harg5 x0 x3 : FVec Ideal S1x256 .f32) (ix2 0 q)) := by
  have e : (kernelRun.sl.v150 (F := Ideal) c arg2 harg2 arg5 harg5 x0 x3 : FVec Ideal S1x256 .f32) = boundOf (extractStridedSlice S1x128 ![5, 0] (kernelRun.sl.v66 (F := Ideal) c arg5 harg5 x3) slices_S8x128_o5_0_S1x128)
    (View.readAt (Elt Ideal) arg2.view (Rect.unit (s := S1x1024x256) ![0, 640, 0] S1x128x256.size inb_S1x1024x256_S1x128x256_0_640_0).toLoadRect (harg2.unread x0)) := by
    unfold boundOf kernelRun.sl.v150 kernelRun.sl.v148 kernelRun.sl.v143 kernelRun.sl.v142 kernelRun.sl.v141 kernelRun.sl.v140 kernelRun.sl.v139 kernelRun.sl.v138 kernelRun.sl.v147 kernelRun.sl.v76 kernelRun.sl.v145 kernelRun.sl.v144 kernelRun.sl.v79 kernelRun.sl.cst_36 kernelRun.sl.cst_37; rfl
  rw [e]
  refine boundOf_real _ _ ?_ ?_ q
  · exact slice_real _ _ (norms_real arg5 harg5 c x3 h3)
  · intro y; apply piece_real arg2 harg2 x0 h0

theorem bound_6 (h0 : ∀ y, IsReal (x0 y)) (h3 : ∀ y, IsReal (x3 y)) (q : Fin 256) : IsReal ((k0_pay576 (F := Ideal) (kernelRun.sl.v66 c arg5 harg5 x3) (kernelRun.sl.v157 c arg2 harg2 x0) : FVec Ideal S1x256 .f32) (ix2 0 q)) := by
  have e : (k0_pay576 (F := Ideal) (kernelRun.sl.v66 c arg5 harg5 x3) (kernelRun.sl.v157 c arg2 harg2 x0) : FVec Ideal S1x256 .f32) = boundOf (extractStridedSlice S1x128 ![6, 0] (kernelRun.sl.v66 (F := Ideal) c arg5 harg5 x3) slices_S8x128_o6_0_S1x128)
    (View.readAt (Elt Ideal) arg2.view (Rect.unit (s := S1x1024x256) ![0, 768, 0] S1x128x256.size inb_S1x1024x256_S1x128x256_0_768_0).toLoadRect (harg2.unread x0)) := by
    unfold boundOf k0_pay576 kernelRun.sl.v157 kernelRun.sl.v156 kernelRun.sl.v155 kernelRun.sl.v154 kernelRun.sl.v153 kernelRun.sl.v152; rfl
  rw [e]
  refine boundOf_real _ _ ?_ ?_ q
  · exact slice_real _ _ (norms_real arg5 harg5 c x3 h3)
  · intro y; apply piece_real arg2 harg2 x0 h0

theorem bound_7 (h0 : ∀ y, IsReal (x0 y)) (h3 : ∀ y, IsReal (x3 y)) (q : Fin 256) : IsReal ((k0_pay577 (F := Ideal) (kernelRun.sl.v66 c arg5 harg5 x3) (View.readAt (Elt Ideal) arg2.view (Rect.unit (s := S1x1024x256) ![0, 896, 0] S1x128x256.size inb_S1x1024x256_S1x128x256_0_896_0).toLoadRect (harg2.unread x0)) : FVec Ideal S1x256 .f32) (ix2 0 q)) := by
  have e : (k0_pay577 (F := Ideal) (kernelRun.sl.v66 c arg5 harg5 x3) (View.readAt (Elt Ideal) arg2.view (Rect.unit (s := S1x1024x256) ![0, 896, 0] S1x128x256.size inb_S1x1024x256_S1x128x256_0_896_0).toLoadRect (harg2.unread x0)) : FVec Ideal S1x256 .f32) = boundOf (extractStridedSlice S1x128 ![7, 0] (kernelRun.sl.v66 (F := Ideal) c arg5 harg5 x3) slices_S8x128_o7_0_S1x128)
    (View.readAt (Elt Ideal) arg2.view (Rect.unit (s := S1x1024x256) ![0, 896, 0] S1x128x256.size inb_S1x1024x256_S1x128x256_0_896_0).toLoadRect (harg2.unread x0)) := by
    unfold boundOf k0_pay577; rfl
  rw [e]
  refine boundOf_real _ _ ?_ ?_ q
  · exact slice_real _ _ (norms_real arg5 harg5 c x3 h3)
  · intro y; apply piece_real arg2 harg2 x0 h0

theorem bounds_real (h0 : ∀ y, IsReal (x0 y)) (h3 : ∀ y, IsReal (x3 y)) (h : Fin 8) (q : Fin 256) :
    IsReal (bounds arg2 harg2 arg5 harg5 c x0 x3 h q) := by
  fin_cases h
  · exact bound_0 arg2 harg2 arg5 harg5 c x0 x3 h0 h3 q
  · exact bound_1 arg2 harg2 arg5 harg5 c x0 x3 h0 h3 q
  · exact bound_2 arg2 harg2 arg5 harg5 c x0 x3 h0 h3 q
  · exact bound_3 arg2 harg2 arg5 harg5 c x0 x3 h0 h3 q
  · exact bound_4 arg2 harg2 arg5 harg5 c x0 x3 h0 h3 q
  · exact bound_5 arg2 harg2 arg5 harg5 c x0 x3 h0 h3 q
  · exact bound_6 arg2 harg2 arg5 harg5 c x0 x3 h0 h3 q
  · exact bound_7 arg2 harg2 arg5 harg5 c x0 x3 h0 h3 q

end Cert.KernelIdeal.Mla
-- ==== Proof.MlaOut.lean ====
module

public import proofs.«01_k».proof.Proof.MlaBound

@[expose] public section
set_option maxRecDepth 16384
noncomputable section
namespace Cert.KernelIdeal.Mla
open Idealize.ShloMosaic Idealize.ShloMosaic.TcCoe Idealize.ShloMosaic.Tactic
open Cert.KernelIdeal.Gen

theorem write_apply (p0 p1 p2 p3 p4 p5 p6 p7 : FVec Ideal S64x256 .f32) (h : Fin 8) (r : Fin 64) (q : Fin 256) :
    k0_pay581 p0 p1 p2 p3 p4 p5 p6 p7 (ix3 0 q ⟨64 * h.val + r.val, by omega⟩)
      = (![p0, p1, p2, p3, p4, p5, p6, p7] : Fin 8 → FVec Ideal S64x256 .f32) h (ix2 r q) := by
  unfold k0_pay581
  pointwise
  obtain ⟨h, hh⟩ := h
  interval_cases h
  · rw [dif_pos (by show 64 * 0 + r.val < 64; omega)]
    exact congrArg p0 (congrArg (fun t => ix2 t q) (Fin.ext (by show 64 * 0 + r.val = r.val; omega)))
  · rw [dif_neg (by show ¬ 64 * 1 + r.val < 64; omega)]
    rw [dif_pos (by show 64 * 1 + r.val - 64 < 64; omega)]
    exact congrArg p1 (congrArg (fun t => ix2 t q) (Fin.ext (by show 64 * 1 + r.val - 64 = r.val; omega)))
  · rw [dif_neg (by show ¬ 64 * 2 + r.val < 64; omega)]
    rw [dif_neg (by show ¬ 64 * 2 + r.val - 64 < 64; omega)]
    rw [dif_pos (by show 64 * 2 + r.val - 64 - 64 < 64; omega)]
    exact congrArg p2 (congrArg (fun t => ix2 t q) (Fin.ext (by show 64 * 2 + r.val - 64 - 64 = r.val; omega)))
  · rw [dif_neg (by show ¬ 64 * 3 + r.val < 64; omega)]
    rw [dif_neg (by show ¬ 64 * 3 + r.val - 64 < 64; omega)]
    rw [dif_neg (by show ¬ 64 * 3 + r.val - 64 - 64 < 64; omega)]
    rw [dif_pos (by show 64 * 3 + r.val - 64 - 64 - 64 < 64; omega)]
    exact congrArg p3 (congrArg (fun t => ix2 t q) (Fin.ext (by show 64 * 3 + r.val - 64 - 64 - 64 = r.val; omega)))
  · rw [dif_neg (by show ¬ 64 * 4 + r.val < 64; omega)]
    rw [dif_neg (by show ¬ 64 * 4 + r.val - 64 < 64; omega)]
    rw [dif_neg (by show ¬ 64 * 4 + r.val - 64 - 64 < 64; omega)]
    rw [dif_neg (by show ¬ 64 * 4 + r.val - 64 - 64 - 64 < 64; omega)]
    rw [dif_pos (by show 64 * 4 + r.val - 64 - 64 - 64 - 64 < 64; omega)]
    exact congrArg p4 (congrArg (fun t => ix2 t q) (Fin.ext (by show 64 * 4 + r.val - 64 - 64 - 64 - 64 = r.val; omega)))
  · rw [dif_neg (by show ¬ 64 * 5 + r.val < 64; omega)]
    rw [dif_neg (by show ¬ 64 * 5 + r.val - 64 < 64; omega)]
    rw [dif_neg (by show ¬ 64 * 5 + r.val - 64 - 64 < 64; omega)]
    rw [dif_neg (by show ¬ 64 * 5 + r.val - 64 - 64 - 64 < 64; omega)]
    rw [dif_neg (by show ¬ 64 * 5 + r.val - 64 - 64 - 64 - 64 < 64; omega)]
    rw [dif_pos (by show 64 * 5 + r.val - 64 - 64 - 64 - 64 - 64 < 64; omega)]
    exact congrArg p5 (congrArg (fun t => ix2 t q) (Fin.ext (by show 64 * 5 + r.val - 64 - 64 - 64 - 64 - 64 = r.val; omega)))
  · rw [dif_neg (by show ¬ 64 * 6 + r.val < 64; omega)]
    rw [dif_neg (by show ¬ 64 * 6 + r.val - 64 < 64; omega)]
    rw [dif_neg (by show ¬ 64 * 6 + r.val - 64 - 64 < 64; omega)]
    rw [dif_neg (by show ¬ 64 * 6 + r.val - 64 - 64 - 64 < 64; omega)]
    rw [dif_neg (by show ¬ 64 * 6 + r.val - 64 - 64 - 64 - 64 < 64; omega)]
    rw [dif_neg (by show ¬ 64 * 6 + r.val - 64 - 64 - 64 - 64 - 64 < 64; omega)]
    rw [dif_pos (by show 64 * 6 + r.val - 64 - 64 - 64 - 64 - 64 - 64 < 64; omega)]
    exact congrArg p6 (congrArg (fun t => ix2 t q) (Fin.ext (by show 64 * 6 + r.val - 64 - 64 - 64 - 64 - 64 - 64 = r.val; omega)))
  · rw [dif_neg (by show ¬ 64 * 7 + r.val < 64; omega)]
    rw [dif_neg (by show ¬ 64 * 7 + r.val - 64 < 64; omega)]
    rw [dif_neg (by show ¬ 64 * 7 + r.val - 64 - 64 < 64; omega)]
    rw [dif_neg (by show ¬ 64 * 7 + r.val - 64 - 64 - 64 < 64; omega)]
    rw [dif_neg (by show ¬ 64 * 7 + r.val - 64 - 64 - 64 - 64 < 64; omega)]
    rw [dif_neg (by show ¬ 64 * 7 + r.val - 64 - 64 - 64 - 64 - 64 < 64; omega)]
    rw [dif_neg (by show ¬ 64 * 7 + r.val - 64 - 64 - 64 - 64 - 64 - 64 < 64; omega)]
    exact congrArg p7 (congrArg (fun t => ix2 t q) (Fin.ext (by show 64 * 7 + r.val - 64 - 64 - 64 - 64 - 64 - 64 - 64 = r.val; omega)))

theorem times_apply (a : Vec Ideal S1x64x256 .f32) (l : Vec Ideal S1x1x256 .f32) (r : Fin 64) (q : Fin 256) :
    k0_pay141 a l (ix2 r q) = a (ix3 0 r q) * Ideal.div 1 (l (ix3 0 0 q)) := by
  unfold k0_pay141
  pointwise

theorem over_apply (a : Vec Ideal S1x64x256 .f32) (l : Vec Ideal S1x1x256 .f32) (r : Fin 64) (q : Fin 256) :
    k0_pay553 a l (ix2 r q) = Ideal.div (a (ix3 0 r q)) (l (ix3 0 0 q)) := by
  unfold k0_pay553
  pointwise

theorem acc_at (M : Memref sig .tc .vmem S8x80x256 .f32) (L : List (View.Piece (Elt Ideal) S8x80x256 .f32)) (h : Fin 8)
    {off : Fin 3 → ℕ} (ho : off = ![h.val, 0, 0]) (inb : ∀ a, off a + S1x64x256.size a ≤ S8x80x256.size a) (r : Fin 64) (q : Fin 256) :
    M.view.readCov (Val := Elt Ideal) L (Rect.unit (s := S8x80x256) off S1x64x256.size inb).toLoadRect (ix3 0 r q)
      = M.view.read (Elt Ideal) (M.view.writes (Elt Ideal) M.view.junk L) (ix3 h ⟨r.val, by omega⟩ q) :=
  acc_read64 M _ h ho inb r q

theorem last_at (M : Memref sig .tc .vmem S8x80x256 .f32) (L : List (View.Piece (Elt Ideal) S8x80x256 .f32)) (h : Fin 8)
    {off : Fin 3 → ℕ} (ho : off = ![h.val, 64, 0]) (inb : ∀ a, off a + S1x1x256.size a ≤ S8x80x256.size a) (q : Fin 256) :
    M.view.readCov (Val := Elt Ideal) L (Rect.unit (s := S8x80x256) off S1x1x256.size inb).toLoadRect (ix3 0 0 q)
      = M.view.read (Elt Ideal) (M.view.writes (Elt Ideal) M.view.junk L) (ix3 h 64 q) :=
  congrArg (M.view.read (Elt Ideal) _) ((unit_idx3 ho inb 0 0 q (by omega) (by decide) (by omega)).trans
    (by funext a; fin_cases a <;> first | rfl | exact Fin.ext (Nat.zero_add _)))

theorem one_at (M : Memref sig .tc .vmem S8x1x256 .f32) (L : List (View.Piece (Elt Ideal) S8x1x256 .f32)) (h : Fin 8)
    {off : Fin 3 → ℕ} (ho : off = ![h.val, 0, 0]) (inb : ∀ a, off a + S1x1x256.size a ≤ S8x1x256.size a) (q : Fin 256) :
    M.view.readCov (Val := Elt Ideal) L (Rect.unit (s := S8x1x256) off S1x1x256.size inb).toLoadRect (ix3 0 0 q)
      = M.view.read (Elt Ideal) (M.view.writes (Elt Ideal) M.view.junk L) (ix3 h 0 q) :=
  congrArg (M.view.read (Elt Ideal) _) ((unit_idx3 ho inb 0 0 q (by omega) (by decide) (by omega)).trans
    (by funext a; fin_cases a <;> first | rfl | exact Fin.ext (Nat.zero_add _)))

/-- The output of the shifted branch, from what its loops wrote. -/
def shiftedOut (M : Memref sig .tc .vmem S8x80x256 .f32) (L : List (View.Piece (Elt Ideal) S8x80x256 .f32)) : FVec Ideal S1x256x512 .bf16 :=
  k0_pay581
    (k0_pay141 (M.view.readCov L (Rect.unit (s := S8x80x256) ![0, 0, 0] S1x64x256.size inb_S8x80x256_S1x64x256_0_0_0).toLoadRect) (M.view.readCov L (Rect.unit (s := S8x80x256) ![0, 64, 0] S1x1x256.size inb_S8x80x256_S1x1x256_0_64_0).toLoadRect))
    (k0_pay141 (M.view.readCov L (Rect.unit (s := S8x80x256) ![1, 0, 0] S1x64x256.size inb_S8x80x256_S1x64x256_1_0_0).toLoadRect) (M.view.readCov L (Rect.unit (s := S8x80x256) ![1, 64, 0] S1x1x256.size inb_S8x80x256_S1x1x256_1_64_0).toLoadRect))
    (k0_pay141 (M.view.readCov L (Rect.unit (s := S8x80x256) ![2, 0, 0] S1x64x256.size inb_S8x80x256_S1x64x256_2_0_0).toLoadRect) (M.view.readCov L (Rect.unit (s := S8x80x256) ![2, 64, 0] S1x1x256.size inb_S8x80x256_S1x1x256_2_64_0).toLoadRect))
    (k0_pay141 (M.view.readCov L (Rect.unit (s := S8x80x256) ![3, 0, 0] S1x64x256.size inb_S8x80x256_S1x64x256_3_0_0).toLoadRect) (M.view.readCov L (Rect.unit (s := S8x80x256) ![3, 64, 0] S1x1x256.size inb_S8x80x256_S1x1x256_3_64_0).toLoadRect))
    (k0_pay141 (M.view.readCov L (Rect.unit (s := S8x80x256) ![4, 0, 0] S1x64x256.size inb_S8x80x256_S1x64x256_4_0_0).toLoadRect) (M.view.readCov L (Rect.unit (s := S8x80x256) ![4, 64, 0] S1x1x256.size inb_S8x80x256_S1x1x256_4_64_0).toLoadRect))
    (k0_pay141 (M.view.readCov L (Rect.unit (s := S8x80x256) ![5, 0, 0] S1x64x256.size inb_S8x80x256_S1x64x256_5_0_0).toLoadRect) (M.view.readCov L (Rect.unit (s := S8x80x256) ![5, 64, 0] S1x1x256.size inb_S8x80x256_S1x1x256_5_64_0).toLoadRect))
    (k0_pay141 (M.view.readCov L (Rect.unit (s := S8x80x256) ![6, 0, 0] S1x64x256.size inb_S8x80x256_S1x64x256_6_0_0).toLoadRect) (M.view.readCov L (Rect.unit (s := S8x80x256) ![6, 64, 0] S1x1x256.size inb_S8x80x256_S1x1x256_6_64_0).toLoadRect))
    (k0_pay141 (M.view.readCov L (Rect.unit (s := S8x80x256) ![7, 0, 0] S1x64x256.size inb_S8x80x256_S1x64x256_7_0_0).toLoadRect) (M.view.readCov L (Rect.unit (s := S8x80x256) ![7, 64, 0] S1x1x256.size inb_S8x80x256_S1x1x256_7_64_0).toLoadRect))

/-- The output of the online branch, from what its loops wrote. -/
def onlineOut (M8 : Memref sig .tc .vmem S8x1x256 .f32) (M9 : Memref sig .tc .vmem S8x80x256 .f32) (L8 : List (View.Piece (Elt Ideal) S8x1x256 .f32)) (L9 : List (View.Piece (Elt Ideal) S8x80x256 .f32)) : FVec Ideal S1x256x512 .bf16 :=
  k0_pay581
    (k0_pay553 (M9.view.readCov L9 (Rect.unit (s := S8x80x256) ![0, 0, 0] S1x64x256.size inb_S8x80x256_S1x64x256_0_0_0).toLoadRect) (M8.view.readCov L8 (Rect.unit (s := S8x1x256) ![0, 0, 0] S1x1x256.size inb_S8x1x256_S1x1x256_0_0_0).toLoadRect))
    (k0_pay553 (M9.view.readCov L9 (Rect.unit (s := S8x80x256) ![1, 0, 0] S1x64x256.size inb_S8x80x256_S1x64x256_1_0_0).toLoadRect) (M8.view.readCov L8 (Rect.unit (s := S8x1x256) ![1, 0, 0] S1x1x256.size inb_S8x1x256_S1x1x256_1_0_0).toLoadRect))
    (k0_pay553 (M9.view.readCov L9 (Rect.unit (s := S8x80x256) ![2, 0, 0] S1x64x256.size inb_S8x80x256_S1x64x256_2_0_0).toLoadRect) (M8.view.readCov L8 (Rect.unit (s := S8x1x256) ![2, 0, 0] S1x1x256.size inb_S8x1x256_S1x1x256_2_0_0).toLoadRect))
    (k0_pay553 (M9.view.readCov L9 (Rect.unit (s := S8x80x256) ![3, 0, 0] S1x64x256.size inb_S8x80x256_S1x64x256_3_0_0).toLoadRect) (M8.view.readCov L8 (Rect.unit (s := S8x1x256) ![3, 0, 0] S1x1x256.size inb_S8x1x256_S1x1x256_3_0_0).toLoadRect))
    (k0_pay553 (M9.view.readCov L9 (Rect.unit (s := S8x80x256) ![4, 0, 0] S1x64x256.size inb_S8x80x256_S1x64x256_4_0_0).toLoadRect) (M8.view.readCov L8 (Rect.unit (s := S8x1x256) ![4, 0, 0] S1x1x256.size inb_S8x1x256_S1x1x256_4_0_0).toLoadRect))
    (k0_pay553 (M9.view.readCov L9 (Rect.unit (s := S8x80x256) ![5, 0, 0] S1x64x256.size inb_S8x80x256_S1x64x256_5_0_0).toLoadRect) (M8.view.readCov L8 (Rect.unit (s := S8x1x256) ![5, 0, 0] S1x1x256.size inb_S8x1x256_S1x1x256_5_0_0).toLoadRect))
    (k0_pay553 (M9.view.readCov L9 (Rect.unit (s := S8x80x256) ![6, 0, 0] S1x64x256.size inb_S8x80x256_S1x64x256_6_0_0).toLoadRect) (M8.view.readCov L8 (Rect.unit (s := S8x1x256) ![6, 0, 0] S1x1x256.size inb_S8x1x256_S1x1x256_6_0_0).toLoadRect))
    (k0_pay553 (M9.view.readCov L9 (Rect.unit (s := S8x80x256) ![7, 0, 0] S1x64x256.size inb_S8x80x256_S1x64x256_7_0_0).toLoadRect) (M8.view.readCov L8 (Rect.unit (s := S8x1x256) ![7, 0, 0] S1x1x256.size inb_S8x1x256_S1x1x256_7_0_0).toLoadRect))

theorem shiftedOut_apply (M : Memref sig .tc .vmem S8x80x256 .f32) (L : List (View.Piece (Elt Ideal) S8x80x256 .f32)) (h : Fin 8) (r : Fin 64) (q : Fin 256) :
    shiftedOut M L (ix3 0 q ⟨64 * h.val + r.val, by omega⟩) = M.view.read (Elt Ideal) (M.view.writes (Elt Ideal) M.view.junk L) (ix3 h ⟨r.val, by omega⟩ q)
      * Ideal.div 1 (M.view.read (Elt Ideal) (M.view.writes (Elt Ideal) M.view.junk L) (ix3 h 64 q)) := by
  unfold shiftedOut
  rw [write_apply]
  fin_cases h
  · exact (times_apply _ _ r q).trans (congrArg₂ (fun a b => a * Ideal.div 1 b) (acc_at M L 0 rfl _ r q) (last_at M L 0 rfl _ q))
  · exact (times_apply _ _ r q).trans (congrArg₂ (fun a b => a * Ideal.div 1 b) (acc_at M L 1 rfl _ r q) (last_at M L 1 rfl _ q))
  · exact (times_apply _ _ r q).trans (congrArg₂ (fun a b => a * Ideal.div 1 b) (acc_at M L 2 rfl _ r q) (last_at M L 2 rfl _ q))
  · exact (times_apply _ _ r q).trans (congrArg₂ (fun a b => a * Ideal.div 1 b) (acc_at M L 3 rfl _ r q) (last_at M L 3 rfl _ q))
  · exact (times_apply _ _ r q).trans (congrArg₂ (fun a b => a * Ideal.div 1 b) (acc_at M L 4 rfl _ r q) (last_at M L 4 rfl _ q))
  · exact (times_apply _ _ r q).trans (congrArg₂ (fun a b => a * Ideal.div 1 b) (acc_at M L 5 rfl _ r q) (last_at M L 5 rfl _ q))
  · exact (times_apply _ _ r q).trans (congrArg₂ (fun a b => a * Ideal.div 1 b) (acc_at M L 6 rfl _ r q) (last_at M L 6 rfl _ q))
  · exact (times_apply _ _ r q).trans (congrArg₂ (fun a b => a * Ideal.div 1 b) (acc_at M L 7 rfl _ r q) (last_at M L 7 rfl _ q))

theorem onlineOut_apply (M8 : Memref sig .tc .vmem S8x1x256 .f32) (M9 : Memref sig .tc .vmem S8x80x256 .f32) (L8 : List (View.Piece (Elt Ideal) S8x1x256 .f32)) (L9 : List (View.Piece (Elt Ideal) S8x80x256 .f32)) (h : Fin 8) (r : Fin 64) (q : Fin 256) :
    onlineOut M8 M9 L8 L9 (ix3 0 q ⟨64 * h.val + r.val, by omega⟩) = Ideal.div (M9.view.read (Elt Ideal) (M9.view.writes (Elt Ideal) M9.view.junk L9) (ix3 h ⟨r.val, by omega⟩ q))
      (M8.view.read (Elt Ideal) (M8.view.writes (Elt Ideal) M8.view.junk L8) (ix3 h 0 q)) := by
  unfold onlineOut
  rw [write_apply]
  fin_cases h
  · exact (over_apply _ _ r q).trans (congrArg₂ Ideal.div (acc_at M9 L9 0 rfl _ r q) (one_at M8 L8 0 rfl _ q))
  · exact (over_apply _ _ r q).trans (congrArg₂ Ideal.div (acc_at M9 L9 1 rfl _ r q) (one_at M8 L8 1 rfl _ q))
  · exact (over_apply _ _ r q).trans (congrArg₂ Ideal.div (acc_at M9 L9 2 rfl _ r q) (one_at M8 L8 2 rfl _ q))
  · exact (over_apply _ _ r q).trans (congrArg₂ Ideal.div (acc_at M9 L9 3 rfl _ r q) (one_at M8 L8 3 rfl _ q))
  · exact (over_apply _ _ r q).trans (congrArg₂ Ideal.div (acc_at M9 L9 4 rfl _ r q) (one_at M8 L8 4 rfl _ q))
  · exact (over_apply _ _ r q).trans (congrArg₂ Ideal.div (acc_at M9 L9 5 rfl _ r q) (one_at M8 L8 5 rfl _ q))
  · exact (over_apply _ _ r q).trans (congrArg₂ Ideal.div (acc_at M9 L9 6 rfl _ r q) (one_at M8 L8 6 rfl _ q))
  · exact (over_apply _ _ r q).trans (congrArg₂ Ideal.div (acc_at M9 L9 7 rfl _ r q) (one_at M8 L8 7 rfl _ q))

end Cert.KernelIdeal.Mla
-- ==== Proof.MlaValue.lean ====
module

public import proofs.«01_k».proof.Proof.MlaOut

@[expose] public section
set_option maxRecDepth 16384
noncomputable section
namespace Cert.KernelIdeal.Mla
open Idealize.ShloMosaic Idealize.ShloMosaic.TcCoe Idealize.ShloMosaic.Tactic
open Cert.KernelIdeal.Gen

variable (c : Dev nD) (i : grid0.Coords) (arg2 : Memref sig .tc .vmem S1x1024x256 .bf16) (harg2 : arg2.IsWhole) (arg3 : Memref sig .tc .vmem S1x2048x1024 .bf16) (harg3 : arg3.IsWhole) (arg4 : Memref sig .tc .vmem S1x8x512x256 .bf16) (harg4 : arg4.IsWhole) (arg5 : Memref sig .tc .vmem S1x32x128 .f32) (harg5 : arg5.IsWhole) (arg6 : Memref sig .tc .vmem S1x256x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x80x256 .f32) (harg9 : arg9.IsWhole)
variable (x0 : Vec Ideal S1x1024x256 .bf16) (x1 : Vec Ideal S1x2048x1024 .bf16) (x2 : Vec Ideal S1x8x512x256 .bf16) (x3 : Vec Ideal S1x32x128 .f32)

theorem score_real (h0 : ∀ y, IsReal (x0 y)) (h1 : ∀ y, IsReal (x1 y)) (h : Fin 8) (j : Fin 2048) (q : Fin 256) : IsReal (scoreOf x0 x1 h j q) :=
  IsReal.sum _ fun d => (h1 _).mul (h0 _)

theorem past_count (a : Fin 8) (ha : (i 1).val = a.val) : kernelRun.sl.v56 i = BitVec.ofNat 32 a.val := by
  rw [← ha]; exact lb_t3 i

theorem keys_at (s q : Fin 256) : kernelRun.sl.v12 (ix2 s q) = BitVec.ofNat 32 s.val := by
  unfold kernelRun.sl.v12
  pointwise

theorem queries_at (a : Fin 8) (ha : (i 1).val = a.val) (s q : Fin 256) : k0_pay564 i (ix2 s q) = BitVec.ofNat 32 (256 * a.val + q.val) := by
  unfold k0_pay564
  pointwise
  rw [ha, BitVec.ofNat_add, BitVec.ofNat_mul]
  exact congrArg (· + BitVec.ofNat 32 q.val) (BitVec.mul_comm _ _)

set_option maxHeartbeats 4000000 in
theorem shifted_lists (a : Fin 8) (ha : (i 1).val = a.val) :
    ∃ L : List (View.Piece (Elt Ideal) S8x80x256 .f32),
      (∀ h r q, arg9.view.read (Elt Ideal) (arg9.view.writes (Elt Ideal) arg9.view.junk L) (ix3 h r q)
        = ∑ k ∈ upto (a.val + 1), ∑ s : Fin 256, rowOf x2 h k s r * Ideal.exp2 (lowScore x0 x1 a h q k s - bounds arg2 harg2 arg5 harg5 c x0 x3 h q)) ∧
      (kernelRun (F := Ideal) c i arg2 harg2 arg3 harg3 arg4 harg4 arg5 harg5 arg6 harg6 arg7 harg7 arg8 harg8 arg9 harg9 x0 x1 x2 x3).2.1 = shiftedOut arg9 L := by
  dsimp only [kernelRun, pack3]
  refine ⟨_, ?_, rfl⟩
  intro h r q
  refine shifted_total _ c _ i arg2 harg2 arg3 harg3 arg4 harg4 arg5 harg5 arg6 harg6 arg7 harg7 arg8 harg8 arg9 harg9 _ _ _ _ x0 x1 x2 _ _ _ _ _ _ _ _ (bounds arg2 harg2 arg5 harg5 c x0 x3) ?_ ?_ ?_ ?_ ?_ ?_ ?_ ?_ a ha ?_ ?_ ?_ _ _ _ _ _ _ ?_ ?_ ?_ ?_ _ rfl _ rfl _ rfl _ rfl h r q
  · exact fun _ => rfl
  · exact fun _ => rfl
  · exact fun _ => rfl
  · exact fun _ => rfl
  · exact fun _ => rfl
  · exact fun _ => rfl
  · exact fun _ => rfl
  · exact fun _ => rfl
  · exact keys_at
  · exact queries_at i a ha
  · exact past_count i a ha
  · exact trips_t1 i
  · exact trips_t2 i
  · exact trips_t3 i
  · exact trips_t4 i

set_option maxHeartbeats 4000000 in
theorem online_lists (hreal : ∀ h j q, IsReal (scoreOf x0 x1 h j q)) (a : Fin 8) (ha : (i 1).val = a.val) :
    ∃ (L8 : List (View.Piece (Elt Ideal) S8x1x256 .f32)) (L9 : List (View.Piece (Elt Ideal) S8x80x256 .f32)),
      (∀ h q, ∃ m, Held (lowScore x0 x1 a h q) (fun k s (r : Fin 64) => valueOf x2 h k s r) (a.val + 1) m
        (arg8.view.read (Elt Ideal) (arg8.view.writes (Elt Ideal) arg8.view.junk L8) (ix3 h 0 q))
        (fun r => arg9.view.read (Elt Ideal) (arg9.view.writes (Elt Ideal) arg9.view.junk L9) (ix3 h ⟨r.val, by omega⟩ q))) ∧
      (kernelRun (F := Ideal) c i arg2 harg2 arg3 harg3 arg4 harg4 arg5 harg5 arg6 harg6 arg7 harg7 arg8 harg8 arg9 harg9 x0 x1 x2 x3).2.2.1 = onlineOut arg8 arg9 L8 L9 := by
  dsimp only [kernelRun, pack3]
  refine ⟨_, _, ?_, rfl⟩
  intro h q
  refine ⟨_, online_total Variants.none c none i arg2 harg2 arg3 harg3 arg4 harg4 arg5 harg5 arg6 harg6 arg7 harg7 arg8 harg8 arg9 harg9 kernelRun.sl.v12 (k0_pay564 i) (kernelRun.sl.v37 i) (kernelRun.sl.v56 i) x0 x1 x2 hreal a ha ?_ ?_ ?_ (kernelRun.sl.v204_1 i) (kernelRun.sl.v211_1 i) (k0_t5_loop i).trips (k0_t6_loop i).trips (k0_t7_loop i).trips (k0_t8_loop i).trips ?_ ?_ ?_ ?_ _ rfl _ rfl _ rfl _ rfl h q⟩
  · exact keys_at
  · exact queries_at i a ha
  · exact past_count i a ha
  · exact (trips_t5 i).trans ha
  · exact trips_t6 i
  · exact trips_t7 i
  · exact trips_t8 i

theorem mean_of_held {w : Fin 8 → Fin 256 → EReal} {v : Fin 8 → Fin 256 → Fin 64 → EReal} (hw : ∀ k s, Low (w k s)) (hne : ∃ k s, w k s ≠ ⊥) (n : ℕ) (h0 : n ≠ 0) (hn : ∀ k s, n ≤ k.val → w k s = ⊥)
    {m l : EReal} {acc : Fin 64 → EReal} (h : Held w v n m l acc) (r : Fin 64) : Ideal.div (acc r) l = mean w v r := by
  rcases h with ⟨h, _⟩ | ⟨M, _, hl, hacc⟩
  · exact absurd h h0
  · rw [hl, hacc r, sumAt_eq, accAt_all w v n hn, accAt_all w _ n hn, ← sumAt_eq]
    exact quotient w v hw hne M r

/-- The output of the shifted branch is the attention. -/
theorem shifted_mean (h0 : ∀ y, IsReal (x0 y)) (h1 : ∀ y, IsReal (x1 y)) (h3 : ∀ y, IsReal (x3 y)) (a : Fin 8) (ha : (i 1).val = a.val) (h : Fin 8) (r : Fin 64) (q : Fin 256) :
    (kernelRun (F := Ideal) c i arg2 harg2 arg3 harg3 arg4 harg4 arg5 harg5 arg6 harg6 arg7 harg7 arg8 harg8 arg9 harg9 x0 x1 x2 x3).2.1 (ix3 0 q ⟨64 * h.val + r.val, by omega⟩)
      = mean (lowScore x0 x1 a h q) (fun k s (r : Fin 64) => valueOf x2 h k s r) r := by
  obtain ⟨L, hL, e⟩ := shifted_lists c i arg2 harg2 arg3 harg3 arg4 harg4 arg5 harg5 arg6 harg6 arg7 harg7 arg8 harg8 arg9 harg9 x0 x1 x2 x3 a ha
  have hreal := score_real x0 x1 h0 h1
  obtain ⟨M, hM⟩ := bounds_real arg2 harg2 arg5 harg5 c x0 x3 h0 h3 h q
  have hn : ∀ k s, a.val + 1 ≤ k.val → lowScore x0 x1 a h q k s = ⊥ := fun k s hk => lowScore_after x0 x1 a h q k s hk
  have hw := lowScore_low x0 x1 hreal a h q
  have hne : ∃ k s, lowScore x0 x1 a h q k s ≠ ⊥ := ⟨a, lowScore_first x0 x1 hreal a h q a le_rfl⟩
  have e1 : arg9.view.read (Elt Ideal) (arg9.view.writes (Elt Ideal) arg9.view.junk L) (ix3 h ⟨r.val, by omega⟩ q) = accAt (lowScore x0 x1 a h q) (fun k s (r : Fin 64) => valueOf x2 h k s r) 8 M r := by
    rw [hL, hM, ← accAt_all (lowScore x0 x1 a h q) (fun k s (r : Fin 64) => valueOf x2 h k s r) (a.val + 1) hn M r]
    exact Finset.sum_congr rfl fun k _ => Finset.sum_congr rfl fun s _ => congrArg (· * _) (dif_pos r.isLt)
  have e2 : arg9.view.read (Elt Ideal) (arg9.view.writes (Elt Ideal) arg9.view.junk L) (ix3 h 64 q) = sumAt (lowScore x0 x1 a h q) 8 M := by
    rw [hL, hM, sumAt_eq, ← accAt_all (lowScore x0 x1 a h q) (fun _ _ (_ : Unit) => (1 : EReal)) (a.val + 1) hn M ()]
    exact Finset.sum_congr rfl fun k _ => Finset.sum_congr rfl fun s _ => congrArg (· * _) (dif_neg (by decide))
  rw [e, shiftedOut_apply, e1, e2]
  exact quotient_one _ _ hw hne M r

/-- The output of the online branch is the attention. -/
theorem online_mean (h0 : ∀ y, IsReal (x0 y)) (h1 : ∀ y, IsReal (x1 y)) (a : Fin 8) (ha : (i 1).val = a.val) (h : Fin 8) (r : Fin 64) (q : Fin 256) :
    (kernelRun (F := Ideal) c i arg2 harg2 arg3 harg3 arg4 harg4 arg5 harg5 arg6 harg6 arg7 harg7 arg8 harg8 arg9 harg9 x0 x1 x2 x3).2.2.1 (ix3 0 q ⟨64 * h.val + r.val, by omega⟩)
      = mean (lowScore x0 x1 a h q) (fun k s (r : Fin 64) => valueOf x2 h k s r) r := by
  have hreal := score_real x0 x1 h0 h1
  obtain ⟨L8, L9, hH, e⟩ := online_lists c i arg2 harg2 arg3 harg3 arg4 harg4 arg5 harg5 arg6 harg6 arg7 harg7 arg8 harg8 arg9 harg9 x0 x1 x2 x3 hreal a ha
  obtain ⟨m, hm⟩ := hH h q
  rw [e, onlineOut_apply]
  exact mean_of_held (lowScore_low x0 x1 hreal a h q) ⟨a, lowScore_first x0 x1 hreal a h q a le_rfl⟩ (a.val + 1) (Nat.succ_ne_zero _)
    (fun k s hk => lowScore_after x0 x1 a h q k s hk) hm r

end Cert.KernelIdeal.Mla
-- ==== Proof.RefSoftmax.lean ====
/- The softmax with base e of scores scaled by the logarithm of two, about any real shift, as the weights of base two. -/
module

public import proofs.«01_k».proof.Proof.MlaBound

@[expose] public section
noncomputable section
namespace Cert.KernelIdeal.Mla
open Idealize.ShloMosaic

/-- A sum over all the keys, block by block. -/
theorem sum_keys {A : Type*} [AddCommMonoid A] (f : Fin 2048 → A) : ∑ j : Fin 2048, f j = ∑ k : Fin 8, ∑ s : Fin 256, f (key k s) := by
  rw [← (finProdFinEquiv (m := 8) (n := 256)).sum_comp f, Fintype.sum_prod_type]
  refine Finset.sum_congr rfl fun k _ => Finset.sum_congr rfl fun s _ => congrArg f (Fin.ext ?_)
  show s.val + 256 * k.val = 256 * k.val + s.val
  exact Nat.add_comm _ _

/-- A maximum over finitely many scores, each least or finite and not all least, is finite. -/
theorem fold_max_low_of {ι : Type*} [Fintype ι] (S : ι → EReal) (hS : ∀ s, Low (S s)) (T : Finset ι) : Low (T.fold max ⊥ S) := by
  classical
  induction T using Finset.induction_on with
  | empty => exact Or.inl rfl
  | insert a T ha ih =>
    rw [Finset.fold_insert ha]
    rcases max_choice (S a) (T.fold max ⊥ S) with h | h <;> rw [h]
    · exact hS a
    · exact ih

theorem fold_max_real_of {ι : Type*} [Fintype ι] (S : ι → EReal) (hS : ∀ s, Low (S s)) (hne : ∃ s, S s ≠ ⊥) : ∃ M : ℝ, Finset.univ.fold max ⊥ S = M := by
  rcases fold_max_low_of S hS Finset.univ with h | h
  · obtain ⟨s, hs⟩ := hne
    have : S s ≤ Finset.univ.fold max ⊥ S := (Finset.le_fold_max (S s)).mpr (Or.inr ⟨s, Finset.mem_univ s, le_rfl⟩)
    rw [h] at this
    exact absurd (le_bot_iff.mp this) hs
  · exact h

theorem log_two_pos : 0 < Real.log 2 := Real.log_pos (by norm_num)

theorem bot_mul_log : (⊥ : EReal) * ((Real.log 2 : ℝ) : EReal) = ⊥ := EReal.bot_mul_coe_of_pos log_two_pos

theorem low_mul_log {w : EReal} (h : Low w) : Low (w * ((Real.log 2 : ℝ) : EReal)) := by
  rcases h with rfl | ⟨x, rfl⟩
  · exact Or.inl bot_mul_log
  · exact Or.inr ⟨x * Real.log 2, (EReal.coe_mul _ _).symm⟩

theorem mul_log_ne_bot {w : EReal} (h : Low w) (hw : w ≠ ⊥) : w * ((Real.log 2 : ℝ) : EReal) ≠ ⊥ := by
  rcases h with rfl | ⟨x, rfl⟩
  · exact absurd rfl hw
  · rw [← EReal.coe_mul]; exact EReal.coe_ne_bot _

theorem exp_sub {w : EReal} (h : Low w) (M : ℝ) :
    Ideal.exp (w * ((Real.log 2 : ℝ) : EReal) - M) = ((weight w * Real.exp (-M) : ℝ) : EReal) := by
  rcases h with rfl | ⟨x, rfl⟩
  · rw [bot_mul_log, weight_bot, zero_mul, EReal.bot_sub, Ideal.exp_bot]; rfl
  · rw [weight_coe, ← EReal.coe_mul, ← EReal.coe_sub, Ideal.exp_coe, Real.rpow_def_of_pos (by norm_num), ← Real.exp_add]
    congr 2; ring

variable (w : Fin 8 → Fin 256 → EReal) (hw : ∀ k s, Low (w k s)) (hne : ∃ k s, w k s ≠ ⊥)
include hw hne

/-- The softmax's entry is the weight over the weights' sum, whatever real shift the scores are taken about. -/
theorem softmax_weight (y : Fin 2048 → EReal) (hy : ∀ k s, y (key k s) = w k s * ((Real.log 2 : ℝ) : EReal)) (M : ℝ) (k : Fin 8) (s : Fin 256) :
    Ideal.div (Ideal.exp (y (key k s) - M)) (∑ j : Fin 2048, Ideal.exp (y j - M)) = ((weight (w k s) / total w : ℝ) : EReal) := by
  have e : ∀ k s, Ideal.exp (y (key k s) - M) = ((weight (w k s) * Real.exp (-M) : ℝ) : EReal) := fun k s => by rw [hy, exp_sub (hw k s)]
  have ht : ∑ j : Fin 2048, Ideal.exp (y j - M) = ((total w * Real.exp (-M) : ℝ) : EReal) := by
    rw [sum_keys, total, Finset.sum_mul, ← sum_coe]
    refine Finset.sum_congr rfl fun k _ => ?_
    rw [Finset.sum_mul, ← sum_coe]
    exact Finset.sum_congr rfl fun s _ => e k s
  have hp := total_pos w hne
  have hE := Real.exp_pos (-M)
  rw [ht, e, div_pos_real _ (mul_pos hp hE), ← EReal.coe_mul]
  congr 1
  field_simp

/-- The largest scaled score is finite. -/
theorem row_max_real (y : Fin 2048 → EReal) (hy : ∀ k s, y (key k s) = w k s * ((Real.log 2 : ℝ) : EReal)) :
    ∃ M : ℝ, Finset.univ.fold max ⊥ y = M := by
  obtain ⟨k, s, h⟩ := hne
  refine fold_max_real_of y (fun j => ?_) ⟨key k s, by rw [hy]; exact mul_log_ne_bot (hw k s) h⟩
  have ej : j = key ⟨j.val / 256, by omega⟩ ⟨j.val % 256, by omega⟩ := Fin.ext (by show j.val = 256 * (j.val / 256) + j.val % 256; omega)
  rw [ej, hy]
  exact low_mul_log (hw _ _)

end Cert.KernelIdeal.Mla
end
-- ==== Proof.RefRead.lean ====
/- The reference's queries, keys and values, its scores and its masked scores, read at an index. -/
module

public import proofs.«01_k».proof.Proof.Gen.ReferenceIdeal.Read
public import proofs.«01_k».proof.Proof.RefSoftmax

@[expose] public section
set_option maxRecDepth 16384
noncomputable section
namespace Cert.ReferenceIdeal.Soft
open Idealize.ShloMosaic Idealize.ShloMosaic.Tactic
open Cert.ReferenceIdeal Cert.ReferenceIdeal.Read Cert.KernelIdeal.Mla

variable (x0 : (⟨S8x1024x2048, .bf16⟩ : BufTy).Contents (Elt Ideal)) (x1 : (⟨S8x2048x1024, .bf16⟩ : BufTy).Contents (Elt Ideal)) (x2 : (⟨S8x8x512x256, .bf16⟩ : BufTy).Contents (Elt Ideal))

theorem query_at (b h : Fin 8) (d : Fin 128) (q : Fin 2048) :
    val_main_v1 (F := Ideal) x0 (ix4 b h d q) = x0 (ix3 b ⟨128 * h.val + d.val, by omega⟩ q) := by
  rw [val_main_v1_apply]
  refine congrArg x0 (funext fun a => Fin.ext ?_)
  match a with
  | ⟨0, _⟩ => show (((b.val * 8 + h.val) * 128 + d.val) * 2048 + q.val) / 2097152 = b.val; omega
  | ⟨1, _⟩ => show (((b.val * 8 + h.val) * 128 + d.val) * 2048 + q.val) / 2048 % 1024 = 128 * h.val + d.val; omega
  | ⟨2, _⟩ => show (((b.val * 8 + h.val) * 128 + d.val) * 2048 + q.val) % 2048 = q.val; omega

theorem key_at (b h : Fin 8) (s : Fin 2048) (d : Fin 128) :
    val_main_v3 (F := Ideal) x1 (ix4 b s h d) = x1 (ix3 b s ⟨128 * h.val + d.val, by omega⟩) := by
  rw [val_main_v3_apply]
  refine congrArg x1 (funext fun a => Fin.ext ?_)
  match a with
  | ⟨0, _⟩ => show (((b.val * 2048 + s.val) * 8 + h.val) * 128 + d.val) / 2097152 = b.val; omega
  | ⟨1, _⟩ => show (((b.val * 2048 + s.val) * 8 + h.val) * 128 + d.val) / 1024 % 2048 = s.val; omega
  | ⟨2, _⟩ => show (((b.val * 2048 + s.val) * 8 + h.val) * 128 + d.val) % 1024 = 128 * h.val + d.val; omega

theorem split_at (b k h : Fin 8) (s : Fin 256) (r : Fin 64) :
    val_main_v6 (F := Ideal) x2 (ix5 b k s h r) = x2 (ix4 b k ⟨64 * h.val + r.val, by omega⟩ s) := by
  rw [val_main_v6_apply, val_main_v5_apply]
  refine congrArg x2 (funext fun a => Fin.ext ?_)
  match a with
  | ⟨0, _⟩ => show ((((b.val * 8 + k.val) * 8 + h.val) * 64 + r.val) * 256 + s.val) / 1048576 = b.val; omega
  | ⟨1, _⟩ => show ((((b.val * 8 + k.val) * 8 + h.val) * 64 + r.val) * 256 + s.val) / 131072 % 8 = k.val; omega
  | ⟨2, _⟩ => show ((((b.val * 8 + k.val) * 8 + h.val) * 64 + r.val) * 256 + s.val) / 256 % 512 = 64 * h.val + r.val; omega
  | ⟨3, _⟩ => show ((((b.val * 8 + k.val) * 8 + h.val) * 64 + r.val) * 256 + s.val) % 256 = s.val; omega

theorem value_at (b k h : Fin 8) (s : Fin 256) (r : Fin 64) :
    val_main_v7 (F := Ideal) x2 (ix4 b (key k s) h r) = x2 (ix4 b k ⟨64 * h.val + r.val, by omega⟩ s) := by
  rw [val_main_v7_apply, ← split_at x2]
  refine congrArg (val_main_v6 (F := Ideal) x2) (funext fun a => Fin.ext ?_)
  match a with
  | ⟨0, _⟩ => show (((b.val * 2048 + (256 * k.val + s.val)) * 8 + h.val) * 64 + r.val) / 1048576 = b.val; omega
  | ⟨1, _⟩ => show (((b.val * 2048 + (256 * k.val + s.val)) * 8 + h.val) * 64 + r.val) / 131072 % 8 = k.val; omega
  | ⟨2, _⟩ => show (((b.val * 2048 + (256 * k.val + s.val)) * 8 + h.val) * 64 + r.val) / 512 % 256 = s.val; omega
  | ⟨3, _⟩ => show (((b.val * 2048 + (256 * k.val + s.val)) * 8 + h.val) * 64 + r.val) / 64 % 8 = h.val; omega
  | ⟨4, _⟩ => show (((b.val * 2048 + (256 * k.val + s.val)) * 8 + h.val) * 64 + r.val) % 64 = r.val; omega

theorem score_at (b h : Fin 8) (q s : Fin 2048) :
    val_main_v8 (F := Ideal) x0 x1 (ix4 b h q s)
      = ∑ d : Fin 128, x1 (ix3 b s ⟨128 * h.val + d.val, by omega⟩) * x0 (ix3 b ⟨128 * h.val + d.val, by omega⟩ q) := by
  rw [val_main_v8_apply]
  refine Finset.sum_congr rfl fun d _ => ?_
  rw [mul_comm, ← query_at x0, ← key_at x1]
  refine congrArg₂ (· * ·) (congrArg (val_main_v3 (F := Ideal) x1) (funext fun a => ?_)) (congrArg (val_main_v1 (F := Ideal) x0) (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

theorem log_at (i : S8x8x2048x2048.Idx) : val_main_v10 (F := Ideal) i = ((Real.log 2 : ℝ) : EReal) := by
  rw [val_main_v10_apply, val_main_v9_apply, val_main_cst_apply]
  have e : (FloatOps.ofBits (F := Ideal) .f32 0x40000000#32) = ((2 : ℝ) : EReal) := by
    show Ideal.ofBits .f32 0x40000000#32 = _
    simp [Ideal.ofBits, Ideal.ieee, -EReal.coe_mul]; norm_num
  rw [e, Ideal.hostUnary_log_def, Ideal.log_coe, if_neg (by norm_num)]

theorem mask_at (b h : Fin 8) (q s : Fin 2048) : val_main_v19 (F := Ideal) (ix4 b h q s) = BitVec.ofBool (decide (s.val ≤ q.val)) := by
  rw [val_main_v19_apply, val_main_v18_apply, val_main_v17_apply, val_main_v15_apply, val_main_v16_apply, val_main_v13_apply, val_main_v14_apply, val_main_v12_apply, val_main_v12_apply]
  show IntOp.cmpi .sle (BitVec.ofNat 32 s.val) (BitVec.ofNat 32 q.val) = _
  have hs := s.isLt
  have hq := q.isLt
  show BitVec.ofBool ((BitVec.ofNat 32 s.val).sle (BitVec.ofNat 32 q.val)) = _
  congr 1
  rw [BitVec.sle_eq_decide]
  refine decide_eq_decide.mpr ?_
  have hb : ∀ n : ℕ, n < 2048 → (BitVec.ofNat 32 n).toInt = n := fun n hn => by
    have e : (BitVec.ofNat 32 n).toNat = n := by rw [BitVec.toNat_ofNat]; exact Nat.mod_eq_of_lt (by omega)
    rw [BitVec.toInt_eq_toNat_of_lt (by rw [e]; omega), e]
  rw [hb _ hs, hb _ hq]
  exact Int.ofNat_le

theorem masked_at (b h : Fin 8) (q s : Fin 2048) :
    val_main_v20 (F := Ideal) x0 x1 (ix4 b h q s)
      = if s.val ≤ q.val then val_main_v8 (F := Ideal) x0 x1 (ix4 b h q s) * ((Real.log 2 : ℝ) : EReal) else ⊥ := by
  have e : val_main_call0_v1 (F := Ideal) (ix4 b h q s) = ⊥ := by
    rw [val_main_call0_v1_apply, val_main_call0_v0_apply, val_main_cst_0_apply]
    show Ideal.ofBits .f32 0xFF800000#32 = ⊥
    simp [Ideal.ofBits, Ideal.ieee]
  rw [val_main_v20_apply, val_main_v11_apply, mask_at, log_at, e]
  by_cases hc : s.val ≤ q.val
  · rw [if_pos hc, decide_eq_true hc]; rfl
  · rw [if_neg hc, decide_eq_false hc]; rfl

end Cert.ReferenceIdeal.Soft
end
-- ==== Proof.RefValue.lean ====
/- The reference's result at an index: the mean of the values under the weights of the scores. -/
module

public import proofs.«01_k».proof.Proof.RefRead
public import Idealize.ShloMosaic.Lib.Pointwise

@[expose] public section
set_option maxRecDepth 16384
noncomputable section
namespace Cert.ReferenceIdeal.Soft
open Idealize.ShloMosaic Idealize.ShloMosaic.Tactic
open Cert.ReferenceIdeal Cert.ReferenceIdeal.Gen Cert.ReferenceIdeal.Read Cert.KernelIdeal.Mla

variable (x0 : (⟨S8x1024x2048, .bf16⟩ : BufTy).Contents (Elt Ideal)) (x1 : (⟨S8x2048x1024, .bf16⟩ : BufTy).Contents (Elt Ideal)) (x2 : (⟨S8x8x512x256, .bf16⟩ : BufTy).Contents (Elt Ideal))

theorem max_at (b h : Fin 8) (q : Fin 2048) :
    val_main_v21 (F := Ideal) x0 x1 (ix3 b h q) = Finset.univ.fold max ⊥ (fun j : Fin 2048 => val_main_v20 (F := Ideal) x0 x1 (ix4 b h q j)) := by
  have e : (val_main_cst_1 (F := Ideal)) (Shape.Idx.first h_S_) = ⊥ := by
    rw [val_main_cst_1_apply]
    show Ideal.ofBits .f32 0xFF800000#32 = ⊥
    simp [Ideal.ofBits, Ideal.ieee]
  unfold val_main_v21
  generalize val_main_v20 (F := Ideal) x0 x1 = y at *
  generalize val_main_cst_1 (F := Ideal) = z at *
  pointwise
  rw [← e]

theorem shift_at (b h : Fin 8) (q : Fin 2048) (j : Fin 2048) :
    val_main_v25 (F := Ideal) x0 x1 (ix4 b h q j) = Finset.univ.fold max ⊥ (fun j : Fin 2048 => val_main_v20 (F := Ideal) x0 x1 (ix4 b h q j)) := by
  rw [val_main_v25_apply, val_main_v24_apply, val_main_v23_apply, val_main_v22_apply, val_main_cst_2_apply, ← max_at x0 x1]
  have e : (FloatOps.ofBits (F := Ideal) .f32 0xFF800000#32) = (⊥ : EReal) := by
    show Ideal.ofBits .f32 0xFF800000#32 = ⊥
    simp [Ideal.ofBits, Ideal.ieee]
  rw [e]
  refine (max_eq_right bot_le).trans (congrArg (val_main_v21 (F := Ideal) x0 x1) (funext fun a => ?_))
  match a with | ⟨0, _⟩ => rfl | ⟨1, _⟩ => rfl | ⟨2, _⟩ => rfl

theorem exp_at (b h : Fin 8) (q j : Fin 2048) :
    val_main_v27 (F := Ideal) x0 x1 (ix4 b h q j)
      = Ideal.exp (val_main_v20 (F := Ideal) x0 x1 (ix4 b h q j) - Finset.univ.fold max ⊥ (fun j : Fin 2048 => val_main_v20 (F := Ideal) x0 x1 (ix4 b h q j))) := by
  rw [val_main_v27_apply, val_main_v26_apply, shift_at]; rfl

theorem sum_at (b h : Fin 8) (q j : Fin 2048) :
    val_main_v30 (F := Ideal) x0 x1 (ix4 b h q j) = ∑ j : Fin 2048, val_main_v27 (F := Ideal) x0 x1 (ix4 b h q j) := by
  rw [val_main_v30_apply, val_main_v29_apply, val_main_v28_apply, val_main_cst_3_apply]
  have e : (FloatOps.ofBits (F := Ideal) .f32 0x00000000#32) = (0 : EReal) := by
    show Ideal.ofBits .f32 0x00000000#32 = 0
    simp [Ideal.ofBits, Ideal.ieee]
  rw [e, zero_add]
  refine Finset.sum_congr rfl fun j _ => congrArg (val_main_v27 (F := Ideal) x0 x1) (funext fun a => ?_)
  match a with | ⟨0, _⟩ => rfl | ⟨1, _⟩ => rfl | ⟨2, _⟩ => rfl | ⟨3, _⟩ => rfl

theorem result_at (b h : Fin 8) (q : Fin 2048) (r : Fin 64) :
    val_main_v35 (F := Ideal) x0 x1 x2 (ix3 b q ⟨64 * h.val + r.val, by omega⟩)
      = ∑ j : Fin 2048, val_main_v7 (F := Ideal) x2 (ix4 b j h r) * val_main_v31 (F := Ideal) x0 x1 (ix4 b h q j) := by
  rw [val_main_v35_apply]
  show val_main_v34 (F := Ideal) x0 x1 x2 (ix3 b q ⟨64 * h.val + r.val, by omega⟩) = _
  have e : idx_main_v33 (idx_main_v34 (ix3 b q ⟨64 * h.val + r.val, by omega⟩)) = ix4 b h r q := funext fun a => Fin.ext (by
    match a with
    | ⟨0, _⟩ => show ((b.val * 2048 + q.val) * 512 + (64 * h.val + r.val)) / 1048576 = b.val; omega
    | ⟨1, _⟩ => show ((b.val * 2048 + q.val) * 512 + (64 * h.val + r.val)) / 64 % 8 = h.val; omega
    | ⟨2, _⟩ => show ((b.val * 2048 + q.val) * 512 + (64 * h.val + r.val)) % 64 = r.val; omega
    | ⟨3, _⟩ => show ((b.val * 2048 + q.val) * 512 + (64 * h.val + r.val)) / 512 % 2048 = q.val; omega)
  rw [val_main_v34_apply, val_main_v33_apply, e, val_main_v32_apply]
  refine Finset.sum_congr rfl fun j _ => congrArg₂ (· * ·) (congrArg (val_main_v7 (F := Ideal) x2) (funext fun a => ?_)) (congrArg (val_main_v31 (F := Ideal) x0 x1) (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- The reference's result, where the queries, keys and values are those of batch `b`'s blocks. -/
theorem result_mean (b a : Fin 8) (q0 : Vec Ideal Cert.KernelIdeal.S1x1024x256 .bf16) (k0 : Vec Ideal Cert.KernelIdeal.S1x2048x1024 .bf16) (v0 : Vec Ideal Cert.KernelIdeal.S1x8x512x256 .bf16)
    (hq : ∀ d c, q0 (ix3 0 d c) = x0 (ix3 b d ⟨256 * a.val + c.val, by omega⟩)) (hk : ∀ j d, k0 (ix3 0 j d) = x1 (ix3 b j d)) (hv : ∀ k d s, v0 (ix4 0 k d s) = x2 (ix4 b k d s))
    (hreal : ∀ h j c, IsReal (scoreOf q0 k0 h j c)) (h : Fin 8) (r : Fin 64) (c : Fin 256) :
    val_main_v35 (F := Ideal) x0 x1 x2 (ix3 b ⟨256 * a.val + c.val, by omega⟩ ⟨64 * h.val + r.val, by omega⟩)
      = mean (lowScore q0 k0 a h c) (fun k s (r : Fin 64) => valueOf v0 h k s r) r := by
  have hw := lowScore_low q0 k0 hreal a h c
  have hne : ∃ k s, lowScore q0 k0 a h c k s ≠ ⊥ := ⟨a, lowScore_first q0 k0 hreal a h c a le_rfl⟩
  have hy : ∀ k s, val_main_v20 (F := Ideal) x0 x1 (ix4 b h ⟨256 * a.val + c.val, by omega⟩ (key k s)) = lowScore q0 k0 a h c k s * ((Real.log 2 : ℝ) : EReal) := fun k s => by
    rw [masked_at, score_at]
    unfold lowScore
    by_cases hc : 256 * k.val + s.val ≤ 256 * a.val + c.val
    · rw [if_pos hc, if_pos (show (key k s).val ≤ 256 * a.val + c.val from hc)]
      refine congrArg (· * ((Real.log 2 : ℝ) : EReal)) (Finset.sum_congr rfl fun d _ => ?_)
      rw [hq, hk]
    · rw [if_neg hc, if_neg (show ¬(key k s).val ≤ 256 * a.val + c.val from hc)]
      exact bot_mul_log.symm
  obtain ⟨M, hM⟩ := row_max_real (lowScore q0 k0 a h c) hw hne (fun j => val_main_v20 (F := Ideal) x0 x1 (ix4 b h ⟨256 * a.val + c.val, by omega⟩ j)) hy
  rw [result_at, sum_keys]
  refine Finset.sum_congr rfl fun k _ => Finset.sum_congr rfl fun s _ => ?_
  refine congrArg₂ (· * ·) ?_ ?_
  · rw [value_at]; exact (hv _ _ _).symm
  · rw [val_main_v31_apply, Ideal.hostDivf_def, sum_at]
    simp only [exp_at]
    rw [hM]
    exact softmax_weight _ hw hne (fun j => val_main_v20 (F := Ideal) x0 x1 (ix4 b h ⟨256 * a.val + c.val, by omega⟩ j)) hy M k s

end Cert.ReferenceIdeal.Soft
end
-- ==== Proof.MlaFinal.lean ====
/- The kernel's result array at the end of the run: the reference's result of the argument arrays. -/
module

public import proofs.«01_k».proof.Proof.MlaFrame
public import proofs.«01_k».proof.Proof.MlaValue
public import proofs.«01_k».proof.Proof.RefValue
public import Idealize.ShloMosaic.Lib.Pipeline.ValueKit.Point

@[expose] public section

set_option maxRecDepth 16384

noncomputable section

namespace Cert.KernelIdeal.Mla

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (c : Dev nD)

/-- The batch and the block of queries of a point, and every window's block index there. -/
theorem idx : ∀ t : Fin cfg0.N, win0_0.index t = ![t.val / 8, 0, t.val % 8] ∧ win0_1.index t = ![t.val / 8, 0, 0] ∧ win0_2.index t = ![t.val / 8, 0, 0, 0] ∧ win0_3.index t = ![t.val / 8, 0, 0] ∧ win0_4.index t = ![t.val / 8, t.val % 8, 0] :=
  (by decide +kernel : ∀ t : Fin grid0.N, _)

theorem tile : ∀ t : Fin cfg0.N, (grid0.coords t 1).val = t.val % 8 ∧ t.val / 8 < 8 :=
  (by decide +kernel : ∀ t : Fin grid0.N, _)

theorem queries_read (t : Fin cfg0.N) (b a : Fin 8) (hb : b.val = t.val / 8) (ha : a.val = t.val % 8) (d : Fin 1024) (q : Fin 256) :
    (iblk m c 0 t : Vec Ideal S1x1024x256 .bf16) (ix3 0 d q) = m ((c : Thread nD τ).loc main_arg0) (ix3 b d ⟨256 * a.val + q.val, by omega⟩) := by
  obtain ⟨e, -⟩ := idx t
  blk_ext! [iblk, V, e, hb, ha]

theorem keys_read (t : Fin cfg0.N) (b : Fin 8) (hb : b.val = t.val / 8) (j : Fin 2048) (d : Fin 1024) :
    (iblk m c 1 t : Vec Ideal S1x2048x1024 .bf16) (ix3 0 j d) = m ((c : Thread nD τ).loc main_arg1) (ix3 b j d) := by
  obtain ⟨-, e, -⟩ := idx t
  blk_ext! [iblk, V, e, hb]

theorem values_read (t : Fin cfg0.N) (b : Fin 8) (hb : b.val = t.val / 8) (k : Fin 8) (d : Fin 512) (s : Fin 256) :
    (iblk m c 2 t : Vec Ideal S1x8x512x256 .bf16) (ix4 0 k d s) = m ((c : Thread nD τ).loc main_arg2) (ix4 b k d s) := by
  obtain ⟨-, -, e, -⟩ := idx t
  blk_ext! [iblk, V, e, hb]

/-- The reference's result of the argument arrays. -/
abbrev attended : Buf (Elt Ideal) ((c : Thread nD τ).loc main_v0) :=
  Cert.ReferenceIdeal.Read.val_main_v35 (F := Ideal) (m ((c : Thread nD τ).loc main_arg0)) (m ((c : Thread nD τ).loc main_arg1)) (m ((c : Thread nD τ).loc main_arg2))

/-- The queries, the keys and the keys' norms are finite. -/
def Finite : Prop :=
  (∀ y, IsReal (m ((c : Thread nD τ).loc main_arg0) y)) ∧ (∀ y, IsReal (m ((c : Thread nD τ).loc main_arg1) y)) ∧ ∀ y, IsReal (m ((c : Thread nD τ).loc main_arg3) y)

variable (hfin : Finite m c)
include hfin

theorem out_at (t : Fin cfg0.N) (b a : Fin 8) (hb : b.val = t.val / 8) (ha : a.val = t.val % 8) (h : Fin 8) (r : Fin 64) (q : Fin 256) :
    outAt m c t (ix3 0 q ⟨64 * h.val + r.val, by omega⟩) = attended m c (ix3 b ⟨256 * a.val + q.val, by omega⟩ ⟨64 * h.val + r.val, by omega⟩) := by
  have h0 : ∀ y, IsReal ((iblk m c 0 t : Vec Ideal S1x1024x256 .bf16) y) := fun y => hfin.1 _
  have h1 : ∀ y, IsReal ((iblk m c 1 t : Vec Ideal S1x2048x1024 .bf16) y) := fun y => hfin.2.1 _
  have h3 : ∀ y, IsReal ((iblk m c 3 t : Vec Ideal S1x32x128 .f32) y) := fun y => hfin.2.2 _
  have ha' : (grid0.coords t 1).val = a.val := (tile t).1.trans ha.symm
  have e := Cert.ReferenceIdeal.Soft.result_mean (m ((c : Thread nD τ).loc main_arg0)) (m ((c : Thread nD τ).loc main_arg1)) (m ((c : Thread nD τ).loc main_arg2)) b a
    (iblk m c 0 t) (iblk m c 1 t) (iblk m c 2 t) (queries_read m c t b a hb ha) (keys_read m c t b hb) (values_read m c t b hb) (score_real _ _ h0 h1) h r q
  refine Eq.trans ?_ e.symm
  unfold outAt runAt
  split
  · exact shifted_mean c (grid0.coords t) _ _ _ _ _ _ _ _ _ _ _ _ _ _ _ _ (iblk m c 0 t) (iblk m c 1 t) (iblk m c 2 t) (iblk m c 3 t) h0 h1 h3 a ha' h r q
  · exact online_mean c (grid0.coords t) _ _ _ _ _ _ _ _ _ _ _ _ _ _ _ _ (iblk m c 0 t) (iblk m c 1 t) (iblk m c 2 t) (iblk m c 3 t) h0 h1 a ha' h r q

theorem final : (dats m 0 c).arrAt 4 cfg0.N = attended m c := by
  refine (dats m 0 c).arrAt_eq_of_covers 4 _ (by decide +kernel) fun t hf y => ?_
  blk_simp
  rw [after0_4]
  have ht := (tile t).2
  obtain ⟨-, -, -, -, e⟩ := idx t
  have b0 : (y 0).val < 1 := (y 0).isLt
  have b1 : (y 1).val < 256 := (y 1).isLt
  have b2 : (y 2).val < 512 := (y 2).isLt
  have ey : y = ix3 (n0 := 1) (n1 := 256) (n2 := 512) 0 ⟨(y 1).val, b1⟩ ⟨64 * ((y 2).val / 64) + (y 2).val % 64, by omega⟩ := funext fun a => Fin.ext (by
    match a with
    | ⟨0, _⟩ => show (y 0).val = 0; omega
    | ⟨1, _⟩ => rfl
    | ⟨2, _⟩ => show (y 2).val = 64 * ((y 2).val / 64) + (y 2).val % 64; omega)
  have eo := out_at m c hfin t ⟨t.val / 8, ht⟩ ⟨t.val % 8, by omega⟩ rfl rfl ⟨(y 2).val / 64, by omega⟩ ⟨(y 2).val % 64, by omega⟩ ⟨(y 1).val, b1⟩
  have ey' : (win0_4.blk t).view.emb y = ix3 (n0 := 8) (n1 := 2048) (n2 := 512) ⟨t.val / 8, ht⟩ ⟨256 * (t.val % 8) + (y 1).val, by omega⟩ ⟨64 * ((y 2).val / 64) + (y 2).val % 64, by omega⟩ := by
    blk_ext [e]
  rw [ey']
  exact (congrArg (outAt m c t) ey).trans eo

end Cert.KernelIdeal.Mla
end
-- ==== Proof.MergeOut.lean ====
/- The gated merge: what the kernel's body stores, read at an index. -/
module

public import proofs.«01_k».proof.Defs
public import proofs.«01_k».proof.Proof.Gen.MergeIdeal.Value
public import Idealize.ShloMosaic.Lib.Pointwise
public import Idealize.ShloMosaic.Lib.Pipeline.ValueKit.Point

@[expose] public section
set_option maxRecDepth 16384
noncomputable section
namespace Cert.MergeIdeal.Gate
open Idealize.ShloMosaic Idealize.ShloMosaic.TcCoe Idealize.ShloMosaic.Tactic
open Cert.MergeIdeal.Gen

/-- A gated row times a matrix: entry `j` of `(o · silu g) W`. -/
def gated (o g : Fin 512 → EReal) (w : Fin 512 → Fin 1024 → EReal) (j : Fin 1024) : EReal :=
  ∑ k : Fin 512, o k * (g k * Ideal.logistic (g k)) * w k j

/-- The two branches, each weighted by its gate. -/
def mixed (oa ob ga gb : Fin 512 → EReal) (ma mb : Fin 1024 → EReal) (wa wb : Fin 512 → Fin 1024 → EReal) (j : Fin 1024) : EReal :=
  Ideal.logistic (ma j) * gated oa ga wa j + Ideal.logistic (mb j) * gated ob gb wb j

/-- A row times the output matrix. -/
def projected (h : Fin 1024 → EReal) (w : Fin 1024 → Fin 1024 → EReal) (j : Fin 1024) : EReal :=
  ∑ k : Fin 1024, h k * w k j

/-- The residual plus the normed row, entry by entry. -/
def normed (x z g : Fin 1024 → EReal) (j : Fin 1024) : EReal :=
  x j + z j * Ideal.rsqrt (Ideal.div (∑ k : Fin 1024, z k * z k) (Ideal.ofBits .f32 0x44800000#32) + Ideal.ofBits .f32 0x358637BD#32) * g j

theorem branch_b (v0 v6 : Vec Ideal S1x512x512 .bf16) (v23 : Vec Ideal S512x1024 .bf16) (r : Fin 512) (j : Fin 1024) :
    k0_pay2 v0 v6 v23 (ix2 r j) = gated (fun k => v0 (ix3 0 r k)) (fun k => v6 (ix3 0 r k)) (fun k j => v23 (ix2 k j)) j := by
  unfold k0_pay2 gated
  pointwise

theorem branch_a (v3 v9 : Vec Ideal S1x512x512 .bf16) (v16 : Vec Ideal S512x1024 .bf16) (v26 : Vec Ideal S1x512x1024 .bf16) (r : Fin 512) (j : Fin 1024) :
    k0_pay3 v3 v9 v16 v26 (ix2 r j) = Ideal.logistic (v26 (ix3 0 r j)) * gated (fun k => v9 (ix3 0 r k)) (fun k => v3 (ix3 0 r k)) (fun k j => v16 (ix2 k j)) j := by
  unfold k0_pay3 gated
  pointwise

theorem weight_b (v31 : Vec Ideal S1x512x1024 .bf16) (r : Fin 512) (j : Fin 1024) : k0_pay4 v31 (ix2 r j) = v31 (ix3 0 r j) := by
  unfold k0_pay4
  pointwise

theorem store_at (v25 v30 v33 : FVec Ideal S512x1024 .f32) (v38 : Vec Ideal S1024x1024 .bf16) (v41 : Vec Ideal S1x512x1024 .f32) (v43 : Vec Ideal S1x1024 .f32) (r : Fin 512) (j : Fin 1024) :
    k0_pay1 v25 v30 v33 v38 v41 v43 (ix3 0 r j)
      = normed (fun j => v41 (ix3 0 r j)) (projected (fun k => v30 (ix2 r k) + Ideal.logistic (v33 (ix2 r k)) * v25 (ix2 r k)) (fun k j => v38 (ix2 k j))) (fun j => v43 (ix2 0 j)) j := by
  unfold k0_pay1 normed projected
  pointwise

theorem out_at (x0 : Vec Ideal S1x512x1024 .f32) (x1 x2 x3 x4 : Vec Ideal S1x512x512 .bf16) (x5 x6 : Vec Ideal S1x512x1024 .bf16) (x7 x8 : Vec Ideal S512x1024 .bf16)
    (x9 : Vec Ideal S1024x1024 .bf16) (x10 : Vec Ideal S1x1024 .f32) (x11 : Vec Ideal S8x256x128 .bf16) (r : Fin 512) (j : Fin 1024) :
    out0_12 x0 x1 x2 x3 x4 x5 x6 x7 x8 x9 x10 x11 (ix3 0 r j)
      = normed (fun j => x0 (ix3 0 r j)) (projected (mixed (fun k => x1 (ix3 0 r k)) (fun k => x2 (ix3 0 r k)) (fun k => x3 (ix3 0 r k)) (fun k => x4 (ix3 0 r k)) (fun j => x5 (ix3 0 r j)) (fun j => x6 (ix3 0 r j)) (fun k j => x7 (ix2 k j)) (fun k j => x8 (ix2 k j)))
          (fun k j => x9 (ix2 k j))) (fun j => x10 (ix2 0 j)) j := by
  have z3 : ∀ a, (![0, 0, 0] : Fin 3 → Nat) a = 0 := by decide
  have z2 : ∀ a, (![0, 0] : Fin 2 → Nat) a = 0 := by decide
  have e : out0_12 x0 x1 x2 x3 x4 x5 x6 x7 x8 x9 x10 x11 = k0_pay1 (k0_pay2 x2 x4 x8) (k0_pay3 x3 x1 x7 x5) (k0_pay4 x6) x9 x0 x10 := by
    unfold out0_12
    rw [View.canon_cons_unit_lit _ _ _ z3, View.ld_unit_lit _ x0 z3, View.ld_unit_lit _ x1 z3, View.ld_unit_lit _ x2 z3, View.ld_unit_lit _ x3 z3, View.ld_unit_lit _ x4 z3, View.ld_unit_lit _ x5 z3,
      View.ld_unit_lit _ x6 z3, View.ld_unit_lit _ x7 z2, View.ld_unit_lit _ x8 z2, View.ld_unit_lit _ x9 z2, View.ld_unit_lit _ x10 z2]
  rw [e, store_at]
  simp only [branch_a, branch_b, weight_b]
  rfl

end Cert.MergeIdeal.Gate
end
-- ==== Proof.MergeRef.lean ====
/- The gated merge of the reference, read at an index. -/
module

public import proofs.«01_k».proof.Proof.Gen.MergeReferenceIdeal.Read
public import proofs.«01_k».proof.Proof.MergeOut

@[expose] public section
set_option maxRecDepth 16384
noncomputable section
namespace Cert.MergeReferenceIdeal.Gate
open Idealize.ShloMosaic Idealize.ShloMosaic.Tactic
open Cert.MergeReferenceIdeal Cert.MergeReferenceIdeal.Gen Cert.MergeReferenceIdeal.Read Cert.MergeIdeal.Gate

variable (x0 : (⟨S8x2048x1024, .f32⟩ : BufTy).Contents (Elt Ideal)) (x1 x2 x3 x4 : (⟨S8x2048x512, .bf16⟩ : BufTy).Contents (Elt Ideal))
  (x5 x6 : (⟨S8x2048x1024, .bf16⟩ : BufTy).Contents (Elt Ideal)) (x8 x9 : (⟨S1x512x1024, .f32⟩ : BufTy).Contents (Elt Ideal))
  (x10 : (⟨S1x1024x1024, .f32⟩ : BufTy).Contents (Elt Ideal)) (x11 : (⟨S1x1024, .f32⟩ : BufTy).Contents (Elt Ideal))

theorem one_word : (FloatOps.ofBits (F := Ideal) .f32 0x3F800000#32) = (1 : EReal) := by
  show Ideal.ofBits .f32 0x3F800000#32 = _
  simp [Ideal.ofBits, Ideal.ieee, -EReal.coe_mul]; norm_num

/-- The gate of the first branch. -/
theorem silu_a (i : S8x2048x512.Idx) : val_main_v5 (F := Ideal) x3 i = x3 i * Ideal.logistic (x3 i) := by
  rw [val_main_v5_apply, val_main_call0_v5_apply, val_main_call0_v4_apply, val_main_call0_cst_0_apply, val_main_call0_v3_apply, val_main_call0_v2_apply, val_main_call0_cst_apply,
    val_main_call0_v1_apply, val_main_call0_v0_apply, val_main_v0_apply, one_word]
  rfl

/-- The gate of the second branch. -/
theorem silu_b (i : S8x2048x512.Idx) : val_main_v10 (F := Ideal) x4 i = x4 i * Ideal.logistic (x4 i) := by
  rw [val_main_v10_apply, val_main_call1_v5_apply, val_main_call1_v4_apply, val_main_call1_cst_0_apply, val_main_call1_v3_apply, val_main_call1_v2_apply, val_main_call1_cst_apply,
    val_main_call1_v1_apply, val_main_call1_v0_apply, val_main_v1_apply, one_word]
  rfl

theorem weight_a (i : S8x2048x1024.Idx) : val_main_v19 (F := Ideal) x5 i = Ideal.logistic (x5 i) := by
  rw [val_main_v19_apply, val_main_v18_apply, val_main_cst_0_apply, val_main_v17_apply, val_main_v16_apply, val_main_cst_apply, val_main_v15_apply, val_main_v14_apply, val_main_v2_apply, one_word]
  rfl

theorem weight_b (i : S8x2048x1024.Idx) : val_main_v26 (F := Ideal) x6 i = Ideal.logistic (x6 i) := by
  rw [val_main_v26_apply, val_main_v25_apply, val_main_cst_2_apply, val_main_v24_apply, val_main_v23_apply, val_main_cst_1_apply, val_main_v22_apply, val_main_v21_apply, val_main_v3_apply, one_word]
  rfl

theorem matrix_a (k : Fin 512) (j : Fin 1024) : val_main_v7 (F := Ideal) x8 (ix2 k j) = x8 (ix3 0 k j) := by
  rw [val_main_v7_apply]
  refine congrArg x8 (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega

theorem matrix_b (k : Fin 512) (j : Fin 1024) : val_main_v12 (F := Ideal) x9 (ix2 k j) = x9 (ix3 0 k j) := by
  rw [val_main_v12_apply]
  refine congrArg x9 (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega

theorem matrix_out (k j : Fin 1024) : val_main_v29 (F := Ideal) x10 (ix2 k j) = x10 (ix3 0 k j) := by
  rw [val_main_v29_apply]
  refine congrArg x10 (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem gain_at (b : Fin 8) (t : Fin 2048) (j : Fin 1024) : val_main_v43 (F := Ideal) x11 (ix3 b t j) = x11 (ix2 0 j) := by
  rw [val_main_v43_apply, val_main_v42_apply, val_main_v41_apply]
  refine congrArg x11 (funext fun a => Fin.ext ?_)
  match a with
  | ⟨0, _⟩ => rfl
  | ⟨1, _⟩ => show j.val % 1024 = j.val; omega

theorem branch_a (b : Fin 8) (t : Fin 2048) (j : Fin 1024) :
    val_main_v8 (F := Ideal) x1 x3 x8 (ix3 b t j) = gated (fun k => x1 (ix3 b t k)) (fun k => x3 (ix3 b t k)) (fun k j => x8 (ix3 0 k j)) j := by
  rw [val_main_v8_apply]
  refine Finset.sum_congr rfl fun k _ => ?_
  rw [show lidx_main_v8 (ix3 b t j) k = ix3 b t k from funext fun a => by match a with | ⟨0, _⟩ => rfl | ⟨1, _⟩ => rfl | ⟨2, _⟩ => rfl,
    show ridx_main_v8 (ix3 b t j) k = ix2 k j from funext fun a => by match a with | ⟨0, _⟩ => rfl | ⟨1, _⟩ => rfl,
    val_main_v6_apply, silu_a, val_main_v4_apply, matrix_a]
  rfl

theorem branch_b (b : Fin 8) (t : Fin 2048) (j : Fin 1024) :
    val_main_v13 (F := Ideal) x2 x4 x9 (ix3 b t j) = gated (fun k => x2 (ix3 b t k)) (fun k => x4 (ix3 b t k)) (fun k j => x9 (ix3 0 k j)) j := by
  rw [val_main_v13_apply]
  refine Finset.sum_congr rfl fun k _ => ?_
  rw [show lidx_main_v13 (ix3 b t j) k = ix3 b t k from funext fun a => by match a with | ⟨0, _⟩ => rfl | ⟨1, _⟩ => rfl | ⟨2, _⟩ => rfl,
    show ridx_main_v13 (ix3 b t j) k = ix2 k j from funext fun a => by match a with | ⟨0, _⟩ => rfl | ⟨1, _⟩ => rfl,
    val_main_v11_apply, silu_b, val_main_v9_apply, matrix_b]
  rfl

theorem mixed_at (b : Fin 8) (t : Fin 2048) (j : Fin 1024) :
    val_main_v28 (F := Ideal) x1 x2 x3 x4 x5 x6 x8 x9 (ix3 b t j)
      = mixed (fun k => x1 (ix3 b t k)) (fun k => x2 (ix3 b t k)) (fun k => x3 (ix3 b t k)) (fun k => x4 (ix3 b t k)) (fun j => x5 (ix3 b t j)) (fun j => x6 (ix3 b t j)) (fun k j => x8 (ix3 0 k j)) (fun k j => x9 (ix3 0 k j)) j := by
  rw [val_main_v28_apply, val_main_v20_apply, val_main_v27_apply, weight_a, weight_b, branch_a, branch_b]
  rfl

theorem projected_at (b : Fin 8) (t : Fin 2048) (j : Fin 1024) :
    val_main_v30 (F := Ideal) x1 x2 x3 x4 x5 x6 x8 x9 x10 (ix3 b t j)
      = projected (mixed (fun k => x1 (ix3 b t k)) (fun k => x2 (ix3 b t k)) (fun k => x3 (ix3 b t k)) (fun k => x4 (ix3 b t k)) (fun j => x5 (ix3 b t j)) (fun j => x6 (ix3 b t j)) (fun k j => x8 (ix3 0 k j)) (fun k j => x9 (ix3 0 k j)))
          (fun k j => x10 (ix3 0 k j)) j := by
  rw [val_main_v30_apply]
  refine Finset.sum_congr rfl fun k _ => ?_
  rw [show lidx_main_v30 (ix3 b t j) k = ix3 b t k from funext fun a => by match a with | ⟨0, _⟩ => rfl | ⟨1, _⟩ => rfl | ⟨2, _⟩ => rfl,
    show ridx_main_v30 (ix3 b t j) k = ix2 k j from funext fun a => by match a with | ⟨0, _⟩ => rfl | ⟨1, _⟩ => rfl,
    mixed_at, matrix_out]

/-- The reference's mean of the squares of a row, with the small constant, under the root. -/
theorem root_at (b : Fin 8) (t : Fin 2048) (j : Fin 1024) (z : Fin 1024 → EReal) (hz : ∀ j, val_main_v30 (F := Ideal) x1 x2 x3 x4 x5 x6 x8 x9 x10 (ix3 b t j) = z j) :
    val_main_v39 (F := Ideal) x1 x2 x3 x4 x5 x6 x8 x9 x10 (ix3 b t j)
      = Ideal.rsqrt (Ideal.div (∑ k : Fin 1024, z k * z k) (Ideal.ofBits .f32 0x44800000#32) + Ideal.ofBits .f32 0x358637BD#32) := by
  rw [val_main_v39_apply, val_main_v38_apply, val_main_v37_apply, val_main_v36_apply, val_main_cst_5_apply, val_main_v35_apply, val_main_v34_apply, val_main_cst_4_apply, val_main_v33_apply, val_main_v32_apply, val_main_cst_3_apply]
  have e0 : (FloatOps.ofBits (F := Ideal) .f32 0x00000000#32) = (0 : EReal) := by
    show Ideal.ofBits .f32 0x00000000#32 = _
    simp [Ideal.ofBits, Ideal.ieee]
  have e : ∀ k : Fin 1024, val_main_v31 (F := Ideal) x1 x2 x3 x4 x5 x6 x8 x9 x10 (idx_main_v32 (idx_main_v33 (idx_main_v39 (ix3 b t j))) k) = z k * z k := fun k => by
    rw [show idx_main_v32 (idx_main_v33 (idx_main_v39 (ix3 b t j))) k = ix3 b t k from funext fun a => by match a with | ⟨0, _⟩ => rfl | ⟨1, _⟩ => rfl | ⟨2, _⟩ => rfl,
      val_main_v31_apply, hz]
    rfl
  rw [e0, zero_add, Finset.sum_congr rfl fun k _ => e k]
  rfl

/-- The reference's result at an index. -/
theorem result_at (b : Fin 8) (t : Fin 2048) (j : Fin 1024) :
    val_main_v45 (F := Ideal) x0 x1 x2 x3 x4 x5 x6 x8 x9 x10 x11 (ix3 b t j)
      = normed (fun j => x0 (ix3 b t j)) (projected (mixed (fun k => x1 (ix3 b t k)) (fun k => x2 (ix3 b t k)) (fun k => x3 (ix3 b t k)) (fun k => x4 (ix3 b t k)) (fun j => x5 (ix3 b t j)) (fun j => x6 (ix3 b t j)) (fun k j => x8 (ix3 0 k j)) (fun k j => x9 (ix3 0 k j)))
          (fun k j => x10 (ix3 0 k j))) (fun j => x11 (ix2 0 j)) j := by
  rw [val_main_v45_apply, val_main_v44_apply, val_main_v40_apply, gain_at, root_at x1 x2 x3 x4 x5 x6 x8 x9 x10 b t j _ (projected_at x1 x2 x3 x4 x5 x6 x8 x9 x10 b t), projected_at]
  rfl

end Cert.MergeReferenceIdeal.Gate
end
-- ==== Proof.MergeFinal.lean ====
/- The gated merge's result array at the end of the run: the reference's result of the argument arrays. -/
module

public import proofs.«01_k».proof.Proof.MergeOut
public import proofs.«01_k».proof.Proof.MergeRef
public import Idealize.ShloMosaic.Lib.StableHlo.ReadAt
public import Idealize.ShloMosaic.Lib.Pipeline.ValueKit.Point

@[expose] public section
set_option maxRecDepth 16384
noncomputable section
namespace Cert.MergeIdeal.Gate
open Idealize.ShloMosaic Idealize.ShloMosaic.TcCoe Idealize.ShloMosaic.Tactic
open Idealize.SL.Sem
open Idealize.ShloMosaic.Pipeline (Dat Cfg Window)
open Cert.MergeIdeal.Gen

variable (m : (ℓ : Loc nD τ sig) → Buf (Elt Ideal) ℓ) (c : Dev nD)

/-- The first branch's matrix, as the region finds it. -/
theorem entry_a (k : Fin 512) (j : Fin 1024) : (V m c main_v14 : Vec Ideal S512x1024 .bf16) (ix2 k j) = m ((c : Thread nD τ).loc main_arg8) (ix3 0 k j) := by
  unfold V
  after_reads_at

theorem entry_b (k : Fin 512) (j : Fin 1024) : (V m c main_v16 : Vec Ideal S512x1024 .bf16) (ix2 k j) = m ((c : Thread nD τ).loc main_arg9) (ix3 0 k j) := by
  unfold V
  after_reads_at

theorem entry_out (k j : Fin 1024) : (V m c main_v18 : Vec Ideal S1024x1024 .bf16) (ix2 k j) = m ((c : Thread nD τ).loc main_arg10) (ix3 0 k j) := by
  unfold V
  after_reads_at

theorem entry_gain (j : Fin 1024) : (V m c main_v20 : Vec Ideal S1x1024 .f32) (ix2 0 j) = m ((c : Thread nD τ).loc main_arg11) (ix2 0 j) := by
  unfold V
  after_reads_at

/-- Every window's block index at a point. -/
theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0] ∧ win0_6.index t = ![t.val / 4, t.val % 4, 0]
    ∧ win0_7.index t = ![0, 0] ∧ win0_8.index t = ![0, 0] ∧ win0_9.index t = ![0, 0] ∧ win0_10.index t = ![0, 0] ∧ win0_12.index t = ![t.val / 4, t.val % 4, 0] ∧ t.val / 4 < 8 :=
  (by decide +kernel : ∀ t : Fin grid0.N, _)

variable (t : Fin cfg0.N)

theorem matrix_a_read (k : Fin 512) (j : Fin 1024) : (iblk m c 7 t : Vec Ideal S512x1024 .bf16) (ix2 k j) = m ((c : Thread nD τ).loc main_arg8) (ix3 0 k j) := by
  obtain ⟨-, -, -, -, -, -, -, e7, e8, e9, e10, -⟩ := idx t
  rw [← entry_a m c k j]
  blk_ext! [iblk, e7]

theorem matrix_b_read (k : Fin 512) (j : Fin 1024) : (iblk m c 8 t : Vec Ideal S512x1024 .bf16) (ix2 k j) = m ((c : Thread nD τ).loc main_arg9) (ix3 0 k j) := by
  obtain ⟨-, -, -, -, -, -, -, e7, e8, e9, e10, -⟩ := idx t
  rw [← entry_b m c k j]
  blk_ext! [iblk, e8]

theorem matrix_out_read (k : Fin 1024) (j : Fin 1024) : (iblk m c 9 t : Vec Ideal S1024x1024 .bf16) (ix2 k j) = m ((c : Thread nD τ).loc main_arg10) (ix3 0 k j) := by
  obtain ⟨-, -, -, -, -, -, -, e7, e8, e9, e10, -⟩ := idx t
  rw [← entry_out m c k j]
  blk_ext! [iblk, e9]

theorem gain_read (j : Fin 1024) : (iblk m c 10 t : Vec Ideal S1x1024 .f32) (ix2 0 j) = m ((c : Thread nD τ).loc main_arg11) (ix2 0 j) := by
  obtain ⟨-, -, -, -, -, -, -, e7, e8, e9, e10, -⟩ := idx t
  rw [← entry_gain m c j]
  blk_ext! [iblk, e10]

/-- The reference's result of the argument arrays. -/
abbrev merged : Buf (Elt Ideal) ((c : Thread nD τ).loc main_v21) :=
  Cert.MergeReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))

section Rows
variable (b : Fin 8) (a : Fin 4) (hb : b.val = t.val / 4) (ha : a.val = t.val % 4)
include hb ha

theorem rows_read0 (r : Fin 512) (j : Fin 1024) : (iblk m c 0 t : Vec Ideal S1x512x1024 .f32) (ix3 0 r j) = m ((c : Thread nD τ).loc main_arg0) (ix3 b ⟨512 * a.val + r.val, by omega⟩ j) := by
  obtain ⟨e, -⟩ := idx t
  rw [← V_main_arg0 m c]
  blk_ext! [iblk, e, hb, ha]

theorem rows_read1 (r : Fin 512) (j : Fin 512) : (iblk m c 1 t : Vec Ideal S1x512x512 .bf16) (ix3 0 r j) = m ((c : Thread nD τ).loc main_arg1) (ix3 b ⟨512 * a.val + r.val, by omega⟩ j) := by
  obtain ⟨-, e, -⟩ := idx t
  rw [← V_main_arg1 m c]
  blk_ext! [iblk, e, hb, ha]

theorem rows_read2 (r : Fin 512) (j : Fin 512) : (iblk m c 2 t : Vec Ideal S1x512x512 .bf16) (ix3 0 r j) = m ((c : Thread nD τ).loc main_arg2) (ix3 b ⟨512 * a.val + r.val, by omega⟩ j) := by
  obtain ⟨-, -, e, -⟩ := idx t
  rw [← V_main_arg2 m c]
  blk_ext! [iblk, e, hb, ha]

theorem rows_read3 (r : Fin 512) (j : Fin 512) : (iblk m c 3 t : Vec Ideal S1x512x512 .bf16) (ix3 0 r j) = m ((c : Thread nD τ).loc main_arg3) (ix3 b ⟨512 * a.val + r.val, by omega⟩ j) := by
  obtain ⟨-, -, -, e, -⟩ := idx t
  rw [← V_main_arg3 m c]
  blk_ext! [iblk, e, hb, ha]

theorem rows_read4 (r : Fin 512) (j : Fin 512) : (iblk m c 4 t : Vec Ideal S1x512x512 .bf16) (ix3 0 r j) = m ((c : Thread nD τ).loc main_arg4) (ix3 b ⟨512 * a.val + r.val, by omega⟩ j) := by
  obtain ⟨-, -, -, -, e, -⟩ := idx t
  rw [← V_main_arg4 m c]
  blk_ext! [iblk, e, hb, ha]

theorem rows_read5 (r : Fin 512) (j : Fin 1024) : (iblk m c 5 t : Vec Ideal S1x512x1024 .bf16) (ix3 0 r j) = m ((c : Thread nD τ).loc main_arg5) (ix3 b ⟨512 * a.val + r.val, by omega⟩ j) := by
  obtain ⟨-, -, -, -, -, e, -⟩ := idx t
  rw [← V_main_arg5 m c]
  blk_ext! [iblk, e, hb, ha]

theorem rows_read6 (r : Fin 512) (j : Fin 1024) : (iblk m c 6 t : Vec Ideal S1x512x1024 .bf16) (ix3 0 r j) = m ((c : Thread nD τ).loc main_arg6) (ix3 b ⟨512 * a.val + r.val, by omega⟩ j) := by
  obtain ⟨-, -, -, -, -, -, e, -⟩ := idx t
  rw [← V_main_arg6 m c]
  blk_ext! [iblk, e, hb, ha]

theorem stored_at (r : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r j)
      = merged m c (ix3 b ⟨512 * a.val + r.val, by omega⟩ j) := by
  refine (out_at _ _ _ _ _ _ _ _ _ _ _ _ r j).trans ?_
  simp only [matrix_a_read m c t, matrix_b_read m c t, matrix_out_read m c t, gain_read m c t, rows_read0 m c t b a hb ha, rows_read1 m c t b a hb ha, rows_read2 m c t b a hb ha, rows_read3 m c t b a hb ha,
    rows_read4 m c t b a hb ha, rows_read5 m c t b a hb ha, rows_read6 m c t b a hb ha]
  exact (Cert.MergeReferenceIdeal.Gate.result_at _ _ _ _ _ _ _ _ _ _ _ b _ j).symm

end Rows

theorem final : (dats m 0 c).arrAt 12 cfg0.N = merged m c := by
  refine (dats m 0 c).arrAt_eq_of_covers 12 _ (by decide +kernel) fun t hf y => ?_
  blk_simp
  rw [after0_12]
  obtain ⟨-, -, -, -, -, -, -, -, -, -, -, e, ht⟩ := idx t
  have b0 : (y 0).val < 1 := (y 0).isLt
  have b1 : (y 1).val < 512 := (y 1).isLt
  have b2 : (y 2).val < 1024 := (y 2).isLt
  have ey : y = ix3 (n0 := 1) (n1 := 512) (n2 := 1024) 0 ⟨(y 1).val, b1⟩ ⟨(y 2).val, b2⟩ := funext fun a => Fin.ext (by
    match a with
    | ⟨0, _⟩ => show (y 0).val = 0; omega
    | ⟨1, _⟩ => rfl
    | ⟨2, _⟩ => rfl)
  have eo := stored_at m c t ⟨t.val / 4, ht⟩ ⟨t.val % 4, by omega⟩ rfl rfl ⟨(y 1).val, b1⟩ ⟨(y 2).val, b2⟩
  have ey' : (win0_12.blk t).view.emb y = ix3 (n0 := 8) (n1 := 2048) (n2 := 1024) ⟨t.val / 4, ht⟩ ⟨512 * (t.val % 4) + (y 1).val, by omega⟩ ⟨(y 2).val, b2⟩ := by
    blk_ext [e]
  rw [ey']
  exact (congrArg _ ey).trans eo

end Cert.MergeIdeal.Gate
end
-- ==== Proof.ProjectRun.lean ====
/- The in-projection's run: the host lines, each window's blocks, the body, and the launch. -/
module

public import proofs.«01_k».proof.Proof.Gen.ProjectIdeal.Launch
public import proofs.«01_k».proof.Proof.Gen.ProjectIdeal.Skeleton
public import proofs.«01_k».proof.Proof.Gen.ProjectIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ProjectIdeal.Rows

open Cert.ProjectIdeal Cert.ProjectIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2040000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjectIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 4).trans (((dats 0 c).arrAt_in 4 rfl _).trans ((hA c 4).trans (V_main_arg8 m c))),
      ((h c).1 5).trans (((dats 0 c).arrAt_in 5 rfl _).trans ((hA c 5).trans (V_main_arg9 m c)))⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S2x8x512 := Rect.unit (s := S2x8x512) ![0, 0, 0] S1x8x512.size inb_S2x8x512_S1x8x512_0_0_0
abbrev r0_3 : Rect S2x8x512 := Rect.unit (s := S2x8x512) ![1, 0, 0] S1x8x512.size inb_S2x8x512_S1x8x512_1_0_0
abbrev r0_4 : Rect S2x16x512 := Rect.unit (s := S2x16x512) ![0, 0, 0] S1x16x512.size inb_S2x16x512_S1x16x512_0_0_0
abbrev r0_5 : Rect S2x16x512 := Rect.unit (s := S2x16x512) ![1, 0, 0] S1x16x512.size inb_S2x16x512_S1x16x512_1_0_0
abbrev r0_6 : Rect S1344x1024 := Rect.unit (s := S1344x1024) ![0, 0] S512x1024.size inb_S1344x1024_S512x1024_0_0
abbrev r0_7 : Rect S1x512x512 := Rect.unit (s := S1x512x512) ![0, 0, 0] S1x512x512.size inb_S1x512x512_S1x512x512_0_0_0
abbrev r0_8 : Rect S1344x1024 := Rect.unit (s := S1344x1024) ![512, 0] S256x1024.size inb_S1344x1024_S256x1024_512_0
abbrev r0_9 : Rect S1x256x512 := Rect.unit (s := S1x256x512) ![0, 0, 0] S1x256x512.size inb_S1x256x512_S1x256x512_0_0_0
abbrev r0_10 : Rect S16x512 := Rect.unit (s := S16x512) ![0, 0] S16x512.size inb_S16x512_S16x512_0_0
abbrev r0_11 : Rect S32x256 := Rect.unit (s := S32x256) ![0, 0] S32x256.size inb_S32x256_S32x256_0_0
abbrev r0_12 : Rect S1x16x256 := Rect.unit (s := S1x16x256) ![0, 0, 0] S1x16x256.size inb_S1x16x256_S1x16x256_0_0_0
abbrev r0_13 : Rect S1344x1024 := Rect.unit (s := S1344x1024) ![768, 0] S256x1024.size inb_S1344x1024_S256x1024_768_0
abbrev r0_14 : Rect S1x2x256x256 := Rect.unit (s := S1x2x256x256) ![0, 0, 0, 0] S1x1x256x256.size inb_S1x2x256x256_S1x1x256x256_0_0_0_0
abbrev r0_15 : Rect S1x2x256x256 := Rect.unit (s := S1x2x256x256) ![0, 1, 0, 0] S1x1x256x256.size inb_S1x2x256x256_S1x1x256x256_0_1_0_0
abbrev r0_16 : Rect S1x512x256 := Rect.unit (s := S1x512x256) ![0, 0, 0] S1x512x256.size inb_S1x512x256_S1x512x256_0_0_0
abbrev r0_17 : Rect S1344x1024 := Rect.unit (s := S1344x1024) ![1024, 0] S256x1024.size inb_S1344x1024_S256x1024_1024_0
abbrev r0_18 : Rect S1344x1024 := Rect.unit (s := S1344x1024) ![1280, 0] S32x1024.size inb_S1344x1024_S32x1024_1280_0
abbrev r0_19 : Rect S1x32x512 := Rect.unit (s := S1x32x512) ![0, 0, 0] S1x32x512.size inb_S1x32x512_S1x32x512_0_0_0
abbrev r0_20 : Rect S1344x1024 := Rect.unit (s := S1344x1024) ![1312, 0] S32x1024.size inb_S1344x1024_S32x1024_1312_0
abbrev r0_21 : Rect S1024x3712 := Rect.unit (s := S1024x3712) ![0, 896] S1024x256.size inb_S1024x3712_S1024x256_0_896
abbrev r0_22 : Rect S1x256 := Rect.unit (s := S1x256) ![0, 0] S1x256.size inb_S1x256_S1x256_0_0
abbrev r0_23 : Rect S384x1024 := Rect.unit (s := S384x1024) ![0, 0] S384x1024.size inb_S384x1024_S384x1024_0_0
abbrev r0_24 : Rect S1x8x128 := Rect.unit (s := S1x8x128) ![0, 0, 0] S1x8x128.size inb_S1x8x128_S1x8x128_0_0_0
abbrev r0_25 : Rect S512x256 := Rect.unit (s := S512x256) ![0, 0] S512x256.size inb_S512x256_S512x256_0_0
abbrev r0_26 : Rect S1x2x512x256 := Rect.unit (s := S1x2x512x256) ![0, 0, 0, 0] S1x1x512x256.size inb_S1x2x512x256_S1x1x512x256_0_0_0_0
abbrev r0_27 : Rect S1x2x512x256 := Rect.unit (s := S1x2x512x256) ![0, 1, 0, 0] S1x1x512x256.size inb_S1x2x512x256_S1x1x512x256_0_1_0_0
abbrev r0_28 : Rect S1024x3712 := Rect.unit (s := S1024x3712) ![0, 512] S1024x384.size inb_S1024x3712_S1024x384_0_512
abbrev r0_29 : Rect S1x384 := Rect.unit (s := S1x384) ![0, 0] S1x384.size inb_S1x384_S1x384_0_0
abbrev r0_30 : Rect S768x384 := Rect.unit (s := S768x384) ![0, 0] S768x384.size inb_S768x384_S768x384_0_0
abbrev r0_31 : Rect S1x1024x512 := Rect.unit (s := S1x1024x512) ![0, 0, 0] S1x1024x512.size inb_S1x1024x512_S1x1024x512_0_0_0
abbrev r0_32 : Rect S1024x3712 := Rect.unit (s := S1024x3712) ![0, 0] S1024x512.size inb_S1024x3712_S1024x512_0_0
abbrev r0_33 : Rect S1024x3712 := Rect.unit (s := S1024x3712) ![0, 1152] S1024x512.size inb_S1024x3712_S1024x512_0_1152
abbrev r0_34 : Rect S1024x3712 := Rect.unit (s := S1024x3712) ![0, 1664] S1024x1024.size inb_S1024x3712_S1024x1024_0_1664
abbrev r0_35 : Rect S1024x3712 := Rect.unit (s := S1024x3712) ![0, 2688] S1024x1024.size inb_S1024x3712_S1024x1024_0_2688

/-! ## What the body leaves in each output window's buffer -/

/-! ### Values of the body that the stores' payloads, spelt out, would write more than once

    Each is a vector the body binds (often a part call's result), stated over the input windows' blocks and
    numbered on from the skeleton's payload functions (`k0_pay94` …, after `k0_pay93`), so that
    `out0_W` and the values after it name it instead of spelling it out;
    the comment after each is the body's
    name for the value (a count appended where that name is bound again). -/

def k0_pay94 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S512x1024 .bf16 :=
  k0_pay3 (View.ld x0 r0_0) (View.ld x1 r0_1) -- `v16`
def k0_pay95 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S8x512 .f32 :=
  k0_pay4 (View.ld x4 r0_2) -- `v18`
def k0_pay96 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S8x512 .f32 :=
  k0_pay5 (View.ld x4 r0_3) -- `v20`
def k0_pay97 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S16x512 .f32 :=
  k0_pay6 (View.ld x5 r0_4) -- `v22`
def k0_pay98 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S16x512 .f32 :=
  k0_pay7 (View.ld x5 r0_5) -- `v24`
def k0_pay99 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S512x512 .f32 :=
  k0_pay8 (View.ld x0 r0_0) (View.ld x1 r0_1) (View.ld x2 r0_6) -- `v27`
def k0_pay100 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S256x512 .f32 :=
  k0_pay23 (k0_pay94 x0 x1 x2 x3 x4 x5 x6 x7 x8 x9 x10 x11 x12) (k0_pay95 x0 x1 x2 x3 x4 x5 x6 x7 x8 x9 x10 x11 x12) (k0_pay96 x0 x1 x2 x3 x4 x5 x6 x7 x8 x9 x10 x11 x12) (View.ld x2 r0_13) -- `v181`
def k0_pay101 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S256x512 .f32 :=
  k0_pay29 (k0_pay94 x0 x1 x2 x3 x4 x5 x6 x7 x8 x9 x10 x11 x12) (View.ld x2 r0_17) -- `v201`
def k0_pay102 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S64x512 .f32 :=
  k0_pay30 (k0_pay94 x0 x1 x2 x3 x4 x5 x6 x7 x8 x9 x10 x11 x12) (k0_pay95 x0 x1 x2 x3 x4 x5 x6 x7 x8 x9 x10 x11 x12) (k0_pay96 x0 x1 x2 x3 x4 x5 x6 x7 x8 x9 x10 x11 x12) (View.ld x2 r0_17) -- `v212`
def k0_pay103 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S64x512 .f32 :=
  k0_pay31 (k0_pay94 x0 x1 x2 x3 x4 x5 x6 x7 x8 x9 x10 x11 x12) (View.ld x2 r0_17) -- `v213`
def k0_pay104 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S64x512 .f32 :=
  k0_pay32 (k0_pay94 x0 x1 x2 x3 x4 x5 x6 x7 x8 x9 x10 x11 x12) (View.ld x2 r0_17) -- `v214`
def k0_pay105 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S8x512 .f32 :=
  k0_pay35 (k0_pay94 x0 x1 x2 x3 x4 x5 x6 x7 x8 x9 x10 x11 x12) (k0_pay95 x0 x1 x2 x3 x4 x5 x6 x7 x8 x9 x10 x11 x12) (k0_pay96 x0 x1 x2 x3 x4 x5 x6 x7 x8 x9 x10 x11 x12) (View.ld x2 r0_17) -- `v219`
def k0_pay106 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S8x512 .f32 :=
  k0_pay36 (k0_pay94 x0 x1 x2 x3 x4 x5 x6 x7 x8 x9 x10 x11 x12) (k0_pay96 x0 x1 x2 x3 x4 x5 x6 x7 x8 x9 x10 x11 x12) (View.ld x2 r0_17) -- `v220`
def k0_pay107 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S8x512 .f32 :=
  k0_pay37 (k0_pay94 x0 x1 x2 x3 x4 x5 x6 x7 x8 x9 x10 x11 x12) (k0_pay95 x0 x1 x2 x3 x4 x5 x6 x7 x8 x9 x10 x11 x12) (View.ld x2 r0_17) -- `v221`
def k0_pay108 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S32x512 .f32 :=
  k0_pay45 (k0_pay94 x0 x1 x2 x3 x4 x5 x6 x7 x8 x9 x10 x11 x12) (View.ld x2 r0_20) -- `v253`
def k0_pay109 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S512x1024 .f32 :=
  constant S512x1024 .f32 0x00000000#32 -- `cst_99`
def k0_pay110 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S512x256 .bf16 :=
  k0_pay50 (k0_pay94 x0 x1 x2 x3 x4 x5 x6 x7 x8 x9 x10 x11 x12) (View.ld x3 r0_21) (View.ld x9 r0_22) -- `v286`
def k0_pay111 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S512x384 .bf16 :=
  k0_pay51 (k0_pay94 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (k0_pay108 x0 x1 x2 x3 x4 x5 x6 x7 x8 x9 x10 x11 x12) (View.ld x3 r0_21) (View.ld x9 r0_22) -- `v291`
def k0_pay112 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S384x1024 .bf16 :=
  k0_pay52 (View.ld x11 r0_23) -- `v293`
def k0_pay113 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : FVec F S768x512 .f32 :=
  k0_pay66 (k0_pay94 x0 x1 x2 x3 x4 x5 x6 x7 x8 x9 x10 x11 x12) (View.ld x3 r0_28) (View.ld x7 r0_29) (View.ld x8 r0_30) -- `v408`

/-- Window 13's staging buffer after the body, from the input windows' blocks: its 1 store as pieces, LAST
    FIRST (Lib/Pipeline/FrameBody.lean `View.canon`; the payloads are the skeleton's and the values stated above). -/
def out0_13 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x512 .bf16 :=
  View.canon [⟨r0_7, k0_pay10 (k0_pay9 (View.ld x0 r0_0) (View.ld x1 r0_1) (View.ld x2 r0_6))⟩]

/-- Its stores tile the buffer (checked by evaluation), so they cover it. -/
theorem cover0_13 (p0 : Vec F S1x512x512 .bf16) (y : S1x512x512.Idx) :
    ∃ pc ∈ ([⟨r0_7, p0⟩] : List (View.Piece (Elt F) S1x512x512 .bf16)), y ∈ pc.1.set :=
  View.cover_of_tiled [⟨r0_7, p0⟩] S1x512x512.size (by rfl) y

/-- Window 14's staging buffer after the body, from the input windows' blocks: its 1 store as pieces, LAST
    FIRST (Lib/Pipeline/FrameBody.lean `View.canon`; the payloads are the skeleton's and the values stated above). -/
def out0_14 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x512 .bf16 :=
  View.canon [⟨r0_7, k0_pay17 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12) (k0_pay11 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12)) (k0_pay12 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12)) (k0_pay13 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12)) (k0_pay14 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12)) (k0_pay15 (k0_pay95 x0 x1 x2 x3 x4 x5 x6 x7 x8 x9 x10 x11 x12) (k0_pay96 x0 x1 x2 x3 x4 x5 x6 x7 x8 x9 x10 x11 x12) (k0_pay99 x0 x1 x2 x3 x4 x5 x6 x7 x8 x9 x10 x11 x12)) (k0_pay16 (k0_pay99 x0 x1 x2 x3 x4 x5 x6 x7 x8 x9 x10 x11 x12))⟩]

/-- Its stores tile the buffer (checked by evaluation), so they cover it. -/
theorem cover0_14 (p0 : Vec F S1x512x512 .bf16) (y : S1x512x512.Idx) :
    ∃ pc ∈ ([⟨r0_7, p0⟩] : List (View.Piece (Elt F) S1x512x512 .bf16)), y ∈ pc.1.set :=
  View.cover_of_tiled [⟨r0_7, p0⟩] S1x512x512.size (by rfl) y

/-- Window 15's staging buffer after the body, from the input windows' blocks: its 1 store as pieces, LAST
    FIRST (Lib/Pipeline/FrameBody.lean `View.canon`; the payloads are the skeleton's and the values stated above). -/
def out0_15 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x32x512 .f32 :=
  View.canon [⟨r0_19, k0_pay44 (k0_pay94 x0 x1 x2 x3 x4 x5 x6 x7 x8 x9 x10 x11 x12) (View.ld x2 r0_18)⟩]

/-- Its stores tile the buffer (checked by evaluation), so they cover it. -/
theorem cover0_15 (p0 : Vec F S1x32x512 .f32) (y : S1x32x512.Idx) :
    ∃ pc ∈ ([⟨r0_19, p0⟩] : List (View.Piece (Elt F) S1x32x512 .f32)), y ∈ pc.1.set :=
  View.cover_of_tiled [⟨r0_19, p0⟩] S1x32x512.size (by rfl) y

/-- Window 16's staging buffer after the body, from the input windows' blocks: its 1 store as pieces, LAST
    FIRST (Lib/Pipeline/FrameBody.lean `View.canon`; the payloads are the skeleton's and the values stated above). -/
def out0_16 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x256x512 .f32 :=
  View.canon [⟨r0_9, k0_pay19 (k0_pay94 x0 x1 x2 x3 x4 x5 x6 x7 x8 x9 x10 x11 x12) (View.ld x2 r0_8)⟩]

/-- Its stores tile the buffer (checked by evaluation), so they cover it. -/
theorem cover0_16 (p0 : Vec F S1x256x512 .f32) (y : S1x256x512.Idx) :
    ∃ pc ∈ ([⟨r0_9, p0⟩] : List (View.Piece (Elt F) S1x256x512 .f32)), y ∈ pc.1.set :=
  View.cover_of_tiled [⟨r0_9, p0⟩] S1x256x512.size (by rfl) y

/-- Window 17's staging buffer after the body, from the input windows' blocks: its 1 store as pieces, LAST
    FIRST (Lib/Pipeline/FrameBody.lean `View.canon`; the payloads are the skeleton's and the values stated above). -/
def out0_17 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x256x512 .f32 :=
  View.canon [⟨r0_9, k0_pay24 (k0_pay100 x0 x1 x2 x3 x4 x5 x6 x7 x8 x9 x10 x11 x12)⟩]

/-- Its stores tile the buffer (checked by evaluation), so they cover it. -/
theorem cover0_17 (p0 : Vec F S1x256x512 .f32) (y : S1x256x512.Idx) :
    ∃ pc ∈ ([⟨r0_9, p0⟩] : List (View.Piece (Elt F) S1x256x512 .f32)), y ∈ pc.1.set :=
  View.cover_of_tiled [⟨r0_9, p0⟩] S1x256x512.size (by rfl) y

/-- Window 18's staging buffer after the body, from the input windows' blocks: its 1 store as pieces, LAST
    FIRST (Lib/Pipeline/FrameBody.lean `View.canon`; the payloads are the skeleton's and the values stated above). -/
def out0_18 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x256x512 .f32 :=
  View.canon [⟨r0_9, k0_pay39 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (k0_pay105 x0 x1 x2 x3 x4 x5 x6 x7 x8 x9 x10 x11 x12) (k0_pay106 x0 x1 x2 x3 x4 x5 x6 x7 x8 x9 x10 x11 x12) (k0_pay107 x0 x1 x2 x3 x4 x5 x6 x7 x8 x9 x10 x11 x12)⟩]

/-- Its stores tile the buffer (checked by evaluation), so they cover it. -/
theorem cover0_18 (p0 : Vec F S1x256x512 .f32) (y : S1x256x512.Idx) :
    ∃ pc ∈ ([⟨r0_9, p0⟩] : List (View.Piece (Elt F) S1x256x512 .f32)), y ∈ pc.1.set :=
  View.cover_of_tiled [⟨r0_9, p0⟩] S1x256x512.size (by rfl) y

/-- Window 19's staging buffer after the body, from the input windows' blocks: its 2 stores as pieces, LAST
    FIRST (Lib/Pipeline/FrameBody.lean `View.canon`; the payloads are the skeleton's and the values stated above). -/
def out0_19 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x2x256x256 .bf16 :=
  View.canon [⟨r0_15, k0_pay27 (k0_pay100 x0 x1 x2 x3 x4 x5 x6 x7 x8 x9 x10 x11 x12)⟩,
    ⟨r0_14, k0_pay26 (k0_pay100 x0 x1 x2 x3 x4 x5 x6 x7 x8 x9 x10 x11 x12)⟩]

/-- Its stores tile the buffer (checked by evaluation), so they cover it. -/
theorem cover0_19 (p0 : Vec F S1x1x256x256 .bf16) (p1 : Vec F S1x1x256x256 .bf16) (y : S1x2x256x256.Idx) :
    ∃ pc ∈ ([⟨r0_15, p0⟩, ⟨r0_14, p1⟩] : List (View.Piece (Elt F) S1x2x256x256 .bf16)), y ∈ pc.1.set :=
  View.cover_of_tiled [⟨r0_15, p0⟩, ⟨r0_14, p1⟩] S1x1x256x256.size (by rfl) y

/-- Window 20's staging buffer after the body, from the input windows' blocks: its 2 stores as pieces, LAST
    FIRST (Lib/Pipeline/FrameBody.lean `View.canon`; the payloads are the skeleton's and the values stated above). -/
def out0_20 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x2x256x256 .bf16 :=
  View.canon [⟨r0_15, k0_pay42 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (k0_pay105 x0 x1 x2 x3 x4 x5 x6 x7 x8 x9 x10 x11 x12) (k0_pay106 x0 x1 x2 x3 x4 x5 x6 x7 x8 x9 x10 x11 x12) (k0_pay107 x0 x1 x2 x3 x4 x5 x6 x7 x8 x9 x10 x11 x12)⟩,
    ⟨r0_14, k0_pay41 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (k0_pay105 x0 x1 x2 x3 x4 x5 x6 x7 x8 x9 x10 x11 x12) (k0_pay106 x0 x1 x2 x3 x4 x5 x6 x7 x8 x9 x10 x11 x12) (k0_pay107 x0 x1 x2 x3 x4 x5 x6 x7 x8 x9 x10 x11 x12)⟩]

/-- Its stores tile the buffer (checked by evaluation), so they cover it. -/
theorem cover0_20 (p0 : Vec F S1x1x256x256 .bf16) (p1 : Vec F S1x1x256x256 .bf16) (y : S1x2x256x256.Idx) :
    ∃ pc ∈ ([⟨r0_15, p0⟩, ⟨r0_14, p1⟩] : List (View.Piece (Elt F) S1x2x256x256 .bf16)), y ∈ pc.1.set :=
  View.cover_of_tiled [⟨r0_15, p0⟩, ⟨r0_14, p1⟩] S1x1x256x256.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x256 .bf16 :=
  View.canon [⟨r0_16, k0_pay28 (k0_pay100 x0 x1 x2 x3 x4 x5 x6 x7 x8 x9 x10 x11 x12)⟩]

/-- Its stores tile the buffer (checked by evaluation), so they cover it. -/
theorem cover0_21 (p0 : Vec F S1x512x256 .bf16) (y : S1x512x256.Idx) :
    ∃ pc ∈ ([⟨r0_16, p0⟩] : List (View.Piece (Elt F) S1x512x256 .bf16)), y ∈ pc.1.set :=
  View.cover_of_tiled [⟨r0_16, p0⟩] S1x512x256.size (by rfl) y

/-- Window 22's staging buffer after the body, from the input windows' blocks: its 1 store as pieces, LAST
    FIRST (Lib/Pipeline/FrameBody.lean `View.canon`; the payloads are the skeleton's and the values stated above). -/
def out0_22 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x256 .bf16 :=
  View.canon [⟨r0_16, k0_pay43 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (k0_pay105 x0 x1 x2 x3 x4 x5 x6 x7 x8 x9 x10 x11 x12) (k0_pay106 x0 x1 x2 x3 x4 x5 x6 x7 x8 x9 x10 x11 x12) (k0_pay107 x0 x1 x2 x3 x4 x5 x6 x7 x8 x9 x10 x11 x12)⟩]

/-- Its stores tile the buffer (checked by evaluation), so they cover it. -/
theorem cover0_22 (p0 : Vec F S1x512x256 .bf16) (y : S1x512x256.Idx) :
    ∃ pc ∈ ([⟨r0_16, p0⟩] : List (View.Piece (Elt F) S1x512x256 .bf16)), y ∈ pc.1.set :=
  View.cover_of_tiled [⟨r0_16, p0⟩] S1x512x256.size (by rfl) y

/-- Window 23's staging buffer after the body, from the input windows' blocks: its 1 store as pieces, LAST
    FIRST (Lib/Pipeline/FrameBody.lean `View.canon`; the payloads are the skeleton's and the values stated above). -/
def out0_23 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x16x256 .f32 :=
  View.canon [⟨r0_12, k0_pay22 (k0_pay20 (k0_pay94 x0 x1 x2 x3 x4 x5 x6 x7 x8 x9 x10 x11 x12) (View.ld x2 r0_8)) (k0_pay21 (k0_pay94 x0 x1 x2 x3 x4 x5 x6 x7 x8 x9 x10 x11 x12) (View.ld x2 r0_8)) (View.ld x10 r0_10) (View.ld x6 r0_11)⟩]

/-- Its stores tile the buffer (checked by evaluation), so they cover it. -/
theorem cover0_23 (p0 : Vec F S1x16x256 .f32) (y : S1x16x256.Idx) :
    ∃ pc ∈ ([⟨r0_12, p0⟩] : List (View.Piece (Elt F) S1x16x256 .f32)), y ∈ pc.1.set :=
  View.cover_of_tiled [⟨r0_12, p0⟩] S1x16x256.size (by rfl) y

/-- Window 24's staging buffer after the body, from the input windows' blocks: its 1 store as pieces, LAST
    FIRST (Lib/Pipeline/FrameBody.lean `View.canon`; the payloads are the skeleton's and the values stated above). -/
def out0_24 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x512 .bf16 :=
  View.canon [⟨r0_7, k0_pay91 (k0_pay94 x0 x1 x2 x3 x4 x5 x6 x7 x8 x9 x10 x11 x12) (View.ld x3 r0_32)⟩]

/-- Its stores tile the buffer (checked by evaluation), so they cover it. -/
theorem cover0_24 (p0 : Vec F S1x512x512 .bf16) (y : S1x512x512.Idx) :
    ∃ pc ∈ ([⟨r0_7, p0⟩] : List (View.Piece (Elt F) S1x512x512 .bf16)), y ∈ pc.1.set :=
  View.cover_of_tiled [⟨r0_7, p0⟩] S1x512x512.size (by rfl) y

/-- Window 25's staging buffer after the body, from the input windows' blocks: its 1 store as pieces, LAST
    FIRST (Lib/Pipeline/FrameBody.lean `View.canon`; the payloads are the skeleton's and the values stated above). -/
def out0_25 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x512 .bf16 :=
  View.canon [⟨r0_7, k0_pay92 (k0_pay94 x0 x1 x2 x3 x4 x5 x6 x7 x8 x9 x10 x11 x12) (View.ld x3 r0_33)⟩]

/-- Its stores tile the buffer (checked by evaluation), so they cover it. -/
theorem cover0_25 (p0 : Vec F S1x512x512 .bf16) (y : S1x512x512.Idx) :
    ∃ pc ∈ ([⟨r0_7, p0⟩] : List (View.Piece (Elt F) S1x512x512 .bf16)), y ∈ pc.1.set :=
  View.cover_of_tiled [⟨r0_7, p0⟩] S1x512x512.size (by rfl) y

/-- Window 26's staging buffer after the body, from the input windows' blocks: its 1 store as pieces, LAST
    FIRST (Lib/Pipeline/FrameBody.lean `View.canon`; the payloads are the skeleton's and the values stated above). -/
def out0_26 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x1024 .bf16 :=
  View.canon [⟨r0_0, k0_pay1 (k0_pay93 (k0_pay94 x0 x1 x2 x3 x4 x5 x6 x7 x8 x9 x10 x11 x12) (View.ld x3 r0_34))⟩]

/-- Its stores tile the buffer (checked by evaluation), so they cover it. -/
theorem cover0_26 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 27's staging buffer after the body, from the input windows' blocks: its 1 store as pieces, LAST
    FIRST (Lib/Pipeline/FrameBody.lean `View.canon`; the payloads are the skeleton's and the values stated above). -/
def out0_27 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x1024 .bf16 :=
  View.canon [⟨r0_0, k0_pay2 (k0_pay94 x0 x1 x2 x3 x4 x5 x6 x7 x8 x9 x10 x11 x12) (View.ld x3 r0_35)⟩]

/-- Its stores tile the buffer (checked by evaluation), so they cover it. -/
theorem cover0_27 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 28's staging buffer after the body, from the input windows' blocks: its 1 store as pieces, LAST
    FIRST (Lib/Pipeline/FrameBody.lean `View.canon`; the payloads are the skeleton's and the values stated above). -/
def out0_28 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x1024x512 .bf16 :=
  View.canon [⟨r0_31, k0_pay90 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12) (k0_pay67 (F := F)) (k0_pay68 (k0_pay94 x0 x1 x2 x3 x4 x5 x6 x7 x8 x9 x10 x11 x12) (View.ld x3 r0_28) (View.ld x7 r0_29) (View.ld x8 r0_30)) (k0_pay69 (k0_pay94 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x3 r0_28) (View.ld x7 r0_29) (View.ld x8 r0_30)) (k0_pay70 (k0_pay94 x0 x1 x2 x3 x4 x5 x6 x7 x8 x9 x10 x11 x12) (View.ld x3 r0_28) (View.ld x7 r0_29) (View.ld x8 r0_30)) (k0_pay74 (k0_pay97 x0 x1 x2 x3 x4 x5 x6 x7 x8 x9 x10 x11 x12) (k0_pay98 x0 x1 x2 x3 x4 x5 x6 x7 x8 x9 x10 x11 x12) (k0_pay72 (k0_pay94 x0 x1 x2 x3 x4 x5 x6 x7 x8 x9 x10 x11 x12) (View.ld x3 r0_28) (View.ld x7 r0_29) (View.ld x8 r0_30)) (k0_pay73 (k0_pay94 x0 x1 x2 x3 x4 x5 x6 x7 x8 x9 x10 x11 x12) (View.ld x3 r0_28) (View.ld x7 r0_29) (View.ld x8 r0_30))) (k0_pay75 (k0_pay113 x0 x1 x2 x3 x4 x5 x6 x7 x8 x9 x10 x11 x12)) (k0_pay76 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12)) (k0_pay77 (k0_pay113 x0 x1 x2 x3 x4 x5 x6 x7 x8 x9 x10 x11 x12)) (k0_pay78 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12)) (k0_pay79 (k0_pay113 x0 x1 x2 x3 x4 x5 x6 x7 x8 x9 x10 x11 x12)) (k0_pay80 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12)) (k0_pay81 (k0_pay113 x0 x1 x2 x3 x4 x5 x6 x7 x8 x9 x10 x11 x12)) (k0_pay82 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12)) (k0_pay83 (k0_pay113 x0 x1 x2 x3 x4 x5 x6 x7 x8 x9 x10 x11 x12)) (k0_pay87 (k0_pay97 x0 x1 x2 x3 x4 x5 x6 x7 x8 x9 x10 x11 x12) (k0_pay98 x0 x1 x2 x3 x4 x5 x6 x7 x8 x9 x10 x11 x12) (k0_pay113 x0 x1 x2 x3 x4 x5 x6 x7 x8 x9 x10 x11 x12)) (k0_pay88 (k0_pay98 x0 x1 x2 x3 x4 x5 x6 x7 x8 x9 x10 x11 x12) (k0_pay113 x0 x1 x2 x3 x4 x5 x6 x7 x8 x9 x10 x11 x12)) (k0_pay89 (k0_pay97 x0 x1 x2 x3 x4 x5 x6 x7 x8 x9 x10 x11 x12) (k0_pay113 x0 x1 x2 x3 x4 x5 x6 x7 x8 x9 x10 x11 x12))⟩]

/-- Its stores tile the buffer (checked by evaluation), so they cover it. -/
theorem cover0_28 (p0 : Vec F S1x1024x512 .bf16) (y : S1x1024x512.Idx) :
    ∃ pc ∈ ([⟨r0_31, p0⟩] : List (View.Piece (Elt F) S1x1024x512 .bf16)), y ∈ pc.1.set :=
  View.cover_of_tiled [⟨r0_31, p0⟩] S1x1024x512.size (by rfl) y

/-- Window 29's staging buffer after the body, from the input windows' blocks: its 1 store as pieces, LAST
    FIRST (Lib/Pipeline/FrameBody.lean `View.canon`; the payloads are the skeleton's and the values stated above). -/
def out0_29 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x256 .f32 :=
  View.canon [⟨r0_16, k0_pay49 (k0_pay94 x0 x1 x2 x3 x4 x5 x6 x7 x8 x9 x10 x11 x12) (View.ld x3 r0_21) (View.ld x9 r0_22)⟩]

/-- Its stores tile the buffer (checked by evaluation), so they cover it. -/
theorem cover0_29 (p0 : Vec F S1x512x256 .f32) (y : S1x512x256.Idx) :
    ∃ pc ∈ ([⟨r0_16, p0⟩] : List (View.Piece (Elt F) S1x512x256 .f32)), y ∈ pc.1.set :=
  View.cover_of_tiled [⟨r0_16, p0⟩] S1x512x256.size (by rfl) y

/-- Window 30's staging buffer after the body, from the input windows' blocks: its 1 store as pieces, LAST
    FIRST (Lib/Pipeline/FrameBody.lean `View.canon`; the payloads are the skeleton's and the values stated above). -/
def out0_30 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x512x1024 .bf16 :=
  View.canon [⟨r0_0, k0_pay54 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)⟩]

/-- Its stores tile the buffer (checked by evaluation), so they cover it. -/
theorem cover0_30 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- Window 31's staging buffer after the body, from the input windows' blocks: its 2 stores as pieces, LAST
    FIRST (Lib/Pipeline/FrameBody.lean `View.canon`; the payloads are the skeleton's and the values stated above). -/
def out0_31 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x2x512x256 .bf16 :=
  View.canon [⟨r0_27, k0_pay65 (k0_pay62 (k0_pay110 x0 x1 x2 x3 x4 x5 x6 x7 x8 x9 x10 x11 x12) (View.ld x12 r0_25))⟩,
    ⟨r0_26, k0_pay64 (k0_pay63 (k0_pay110 x0 x1 x2 x3 x4 x5 x6 x7 x8 x9 x10 x11 x12) (View.ld x12 r0_25))⟩]

/-- Its stores tile the buffer (checked by evaluation), so they cover it. -/
theorem cover0_31 (p0 : Vec F S1x1x512x256 .bf16) (p1 : Vec F S1x1x512x256 .bf16) (y : S1x2x512x256.Idx) :
    ∃ pc ∈ ([⟨r0_27, p0⟩, ⟨r0_26, p1⟩] : List (View.Piece (Elt F) S1x2x512x256 .bf16)), y ∈ pc.1.set :=
  View.cover_of_tiled [⟨r0_27, p0⟩, ⟨r0_26, p1⟩] S1x1x512x256.size (by rfl) y

/-- Window 32's staging buffer after the body, from the input windows' blocks: its 1 store as pieces, LAST
    FIRST (Lib/Pipeline/FrameBody.lean `View.canon`; the payloads are the skeleton's and the values stated above). -/
def out0_32 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x32x512 .f32 :=
  View.canon [⟨r0_19, k0_pay47 (k0_pay97 x0 x1 x2 x3 x4 x5 x6 x7 x8 x9 x10 x11 x12) (k0_pay98 x0 x1 x2 x3 x4 x5 x6 x7 x8 x9 x10 x11 x12) (k0_pay108 x0 x1 x2 x3 x4 x5 x6 x7 x8 x9 x10 x11 x12)⟩]

/-- Its stores tile the buffer (checked by evaluation), so they cover it. -/
theorem cover0_32 (p0 : Vec F S1x32x512 .f32) (y : S1x32x512.Idx) :
    ∃ pc ∈ ([⟨r0_19, p0⟩] : List (View.Piece (Elt F) S1x32x512 .f32)), y ∈ pc.1.set :=
  View.cover_of_tiled [⟨r0_19, p0⟩] S1x32x512.size (by rfl) y

/-- Window 33's staging buffer after the body, from the input windows' blocks: its 1 store as pieces, LAST
    FIRST (Lib/Pipeline/FrameBody.lean `View.canon`; the payloads are the skeleton's and the values stated above). -/
def out0_33 (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) : Vec F S1x8x128 .f32 :=
  View.canon [⟨r0_24, k0_pay61 (k0_pay55 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)) (k0_pay56 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)) (k0_pay57 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)) (k0_pay58 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)) (k0_pay59 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12)) (k0_pay60 (k0_pay111 x0 x1 x2 x3 x4 x5 x6 x7 x8 x9 x10 x11 x12) (k0_pay112 x0 x1 x2 x3 x4 x5 x6 x7 x8 x9 x10 x11 x12) (k0_pay109 x0 x1 x2 x3 x4 x5 x6 x7 x8 x9 x10 x11 x12))⟩]

/-- Its stores tile the buffer (checked by evaluation), so they cover it. -/
theorem cover0_33 (p0 : Vec F S1x8x128 .f32) (y : S1x8x128.Idx) :
    ∃ pc ∈ ([⟨r0_24, p0⟩] : List (View.Piece (Elt F) S1x8x128 .f32)), y ∈ pc.1.set :=
  View.cover_of_tiled [⟨r0_24, p0⟩] S1x8x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1344x1024 .bf16) (harg4 : arg4.IsWhole) (arg5 : Memref sig .tc .vmem S1024x3712 .bf16) (harg5 : arg5.IsWhole) (arg6 : Memref sig .tc .vmem S2x8x512 .f32) (harg6 : arg6.IsWhole) (arg7 : Memref sig .tc .vmem S2x16x512 .f32) (harg7 : arg7.IsWhole) (arg8 : Memref sig .tc .vmem S32x256 .f32) (harg8 : arg8.IsWhole) (arg9 : Memref sig .tc .vmem S1x384 .f32) (harg9 : arg9.IsWhole) (arg10 : Memref sig .tc .vmem S768x384 .bf16) (harg10 : arg10.IsWhole) (arg11 : Memref sig .tc .vmem S1x256 .f32) (harg11 : arg11.IsWhole) (arg12 : Memref sig .tc .vmem S16x512 .bf16) (harg12 : arg12.IsWhole) (arg13 : Memref sig .tc .vmem S384x1024 .bf16) (harg13 : arg13.IsWhole) (arg14 : Memref sig .tc .vmem S512x256 .bf16) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x32x512 .f32) (harg17 : arg17.IsWhole) (arg18 : Memref sig .tc .vmem S1x256x512 .f32) (harg18 : arg18.IsWhole) (arg19 : Memref sig .tc .vmem S1x256x512 .f32) (harg19 : arg19.IsWhole) (arg20 : Memref sig .tc .vmem S1x256x512 .f32) (harg20 : arg20.IsWhole) (arg21 : Memref sig .tc .vmem S1x2x256x256 .bf16) (harg21 : arg21.IsWhole) (arg22 : Memref sig .tc .vmem S1x2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x16x256 .f32) (harg25 : arg25.IsWhole) (arg26 : Memref sig .tc .vmem S1x512x512 .bf16) (harg26 : arg26.IsWhole) (arg27 : Memref sig .tc .vmem S1x512x512 .bf16) (harg27 : arg27.IsWhole) (arg28 : Memref sig .tc .vmem S1x512x1024 .bf16) (harg28 : arg28.IsWhole) (arg29 : Memref sig .tc .vmem S1x512x1024 .bf16) (harg29 : arg29.IsWhole) (arg30 : Memref sig .tc .vmem S1x1024x512 .bf16) (harg30 : arg30.IsWhole) (arg31 : Memref sig .tc .vmem S1x512x256 .f32) (harg31 : arg31.IsWhole) (arg32 : Memref sig .tc .vmem S1x512x1024 .bf16) (harg32 : arg32.IsWhole) (arg33 : Memref sig .tc .vmem S1x2x512x256 .bf16) (harg33 : arg33.IsWhole) (arg34 : Memref sig .tc .vmem S1x32x512 .f32) (harg34 : arg34.IsWhole) (arg35 : Memref sig .tc .vmem S1x8x128 .f32) (harg35 : arg35.IsWhole)
    (x0 : Vec F S1x512x1024 .f32) (x1 : Vec F S1x1024 .f32) (x2 : Vec F S1344x1024 .bf16) (x3 : Vec F S1024x3712 .bf16) (x4 : Vec F S2x8x512 .f32) (x5 : Vec F S2x16x512 .f32) (x6 : Vec F S32x256 .f32) (x7 : Vec F S1x384 .f32) (x8 : Vec F S768x384 .bf16) (x9 : Vec F S1x256 .f32) (x10 : Vec F S16x512 .bf16) (x11 : Vec F S384x1024 .bf16) (x12 : Vec F S512x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out0_13 x0 x1 x2 x3 x4 x5 x6 x7 x8 x9 x10 x11 x12) ∗ owns (c : Thread nD τ) arg16 fullShare (out0_14 x0 x1 x2 x3 x4 x5 x6 x7 x8 x9 x10 x11 x12) ∗ owns (c : Thread nD τ) arg17 fullShare (out0_15 x0 x1 x2 x3 x4 x5 x6 x7 x8 x9 x10 x11 x12) ∗ owns (c : Thread nD τ) arg18 fullShare (out0_16 x0 x1 x2 x3 x4 x5 x6 x7 x8 x9 x10 x11 x12) ∗ owns (c : Thread nD τ) arg19 fullShare (out0_17 x0 x1 x2 x3 x4 x5 x6 x7 x8 x9 x10 x11 x12) ∗ owns (c : Thread nD τ) arg20 fullShare (out0_18 x0 x1 x2 x3 x4 x5 x6 x7 x8 x9 x10 x11 x12) ∗ owns (c : Thread nD τ) arg21 fullShare (out0_19 x0 x1 x2 x3 x4 x5 x6 x7 x8 x9 x10 x11 x12) ∗ owns (c : Thread nD τ) arg22 fullShare (out0_20 x0 x1 x2 x3 x4 x5 x6 x7 x8 x9 x10 x11 x12) ∗ owns (c : Thread nD τ) arg23 fullShare (out0_21 x0 x1 x2 x3 x4 x5 x6 x7 x8 x9 x10 x11 x12) ∗ owns (c : Thread nD τ) arg24 fullShare (out0_22 x0 x1 x2 x3 x4 x5 x6 x7 x8 x9 x10 x11 x12) ∗ owns (c : Thread nD τ) arg25 fullShare (out0_23 x0 x1 x2 x3 x4 x5 x6 x7 x8 x9 x10 x11 x12) ∗ owns (c : Thread nD τ) arg26 fullShare (out0_24 x0 x1 x2 x3 x4 x5 x6 x7 x8 x9 x10 x11 x12) ∗ owns (c : Thread nD τ) arg27 fullShare (out0_25 x0 x1 x2 x3 x4 x5 x6 x7 x8 x9 x10 x11 x12) ∗ owns (c : Thread nD τ) arg28 fullShare (out0_26 x0 x1 x2 x3 x4 x5 x6 x7 x8 x9 x10 x11 x12) ∗ owns (c : Thread nD τ) arg29 fullShare (out0_27 x0 x1 x2 x3 x4 x5 x6 x7 x8 x9 x10 x11 x12) ∗ owns (c : Thread nD τ) arg30 fullShare (out0_28 x0 x1 x2 x3 x4 x5 x6 x7 x8 x9 x10 x11 x12) ∗ owns (c : Thread nD τ) arg31 fullShare (out0_29 x0 x1 x2 x3 x4 x5 x6 x7 x8 x9 x10 x11 x12) ∗ owns (c : Thread nD τ) arg32 fullShare (out0_30 x0 x1 x2 x3 x4 x5 x6 x7 x8 x9 x10 x11 x12) ∗ owns (c : Thread nD τ) arg33 fullShare (out0_31 x0 x1 x2 x3 x4 x5 x6 x7 x8 x9 x10 x11 x12) ∗ owns (c : Thread nD τ) arg34 fullShare (out0_32 x0 x1 x2 x3 x4 x5 x6 x7 x8 x9 x10 x11 x12) ∗ owns (c : Thread nD τ) arg35 fullShare (out0_33 x0 x1 x2 x3 x4 x5 x6 x7 x8 x9 x10 x11 x12)) -∗ K ⟨⟩))
      ⊢ wp frame (wpE (defs₀ (F := F)) Variants.none c none) E (cc0_in_project_cols i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_in_project_cols_eq_skeleton]; unfold cc0_in_project_cols_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _ _)).trans ?_
    rfl
  isplitl [H32]
  · iexists _; isplitr
    swap; · iexact H32
    ipureintro
    refine (View.read_writes_eq_canon _ _ _ (cover0_32 _)).trans ?_
    rfl
  iexists _; isplitr
  swap; · iexact H33
  ipureintro
  refine (View.read_writes_eq_canon _ _ _ (cover0_33 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 34, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ProjectIdeal.Rows

end
-- ==== Proof.ProjectOut.lean ====
/- The in-projection: what the kernel's body stores, read at an index. -/
module

public import proofs.«01_k».proof.Defs
public import proofs.«01_k».proof.Proof.Gen.ProjectIdeal.Skeleton
public import Idealize.ShloMosaic.Lib.Pointwise

@[expose] public section
set_option maxRecDepth 16384
noncomputable section
namespace Cert.ProjectIdeal.Rows
open Idealize.ShloMosaic Idealize.ShloMosaic.TcCoe Idealize.ShloMosaic.Tactic
open Cert.ProjectIdeal Cert.ProjectIdeal.Gen

/-- A row scaled to mean square one, times the gain. -/
def scaled (x g : Fin 1024 → EReal) (k : Fin 1024) : EReal :=
  x k * Ideal.rsqrt (Ideal.div (∑ k : Fin 1024, x k * x k) (Ideal.ofBits .f32 0x44800000#32) + Ideal.ofBits .f32 0x358637BD#32) * g k

/-- The scaled row times one column of the matrix. -/
def entry (x g w : Fin 1024 → EReal) : EReal := ∑ k : Fin 1024, scaled x g k * w k

/-- The latent row scaled to mean square one, times its gain. -/
def latent (c g : Fin 256 → EReal) (k : Fin 256) : EReal :=
  c k * Ideal.rsqrt (Ideal.div (∑ k : Fin 256, c k * c k) (Ideal.ofBits .f32 0x43800000#32) + Ideal.ofBits .f32 0x358637BD#32) * g k

theorem row_at (v0 : Vec Ideal S1x512x1024 .f32) (v2 : Vec Ideal S1x1024 .f32) (r : Fin 512) (k : Fin 1024) :
    k0_pay3 v0 v2 (ix2 r k) = scaled (fun k => v0 (ix3 0 r k)) (fun k => v2 (ix2 0 k)) k := by
  unfold k0_pay3 scaled
  pointwise

theorem cmp_at (v16 : FVec Ideal S512x1024 .bf16) (w : Vec Ideal S256x1024 .bf16) (r : Fin 256) (t : Fin 512) :
    k0_pay18 v16 w (ix2 r t) = ∑ k : Fin 1024, v16 (ix2 t k) * w (ix2 r k) := by
  unfold k0_pay18
  pointwise
  exact Finset.sum_congr rfl fun k _ => mul_comm _ _

theorem cmp_store (v16 : FVec Ideal S512x1024 .bf16) (w : Vec Ideal S256x1024 .bf16) (r : Fin 256) (t : Fin 512) :
    k0_pay19 v16 w (ix3 0 r t) = ∑ k : Fin 1024, v16 (ix2 t k) * w (ix2 r k) := by
  rw [← cmp_at]
  unfold k0_pay19
  generalize k0_pay18 v16 w = y
  pointwise

theorem latent_store (v16 : FVec Ideal S512x1024 .bf16) (w : Vec Ideal S1024x256 .bf16) (g : Vec Ideal S1x256 .f32) (t : Fin 512) (j : Fin 256) :
    k0_pay49 v16 w g (ix3 0 t j) = latent (fun j => ∑ k : Fin 1024, v16 (ix2 t k) * w (ix2 k j)) (fun j => g (ix2 0 j)) j := by
  unfold k0_pay49 k0_pay48 latent
  pointwise

theorem ga_store (v16 : FVec Ideal S512x1024 .bf16) (w : Vec Ideal S1024x512 .bf16) (t j : Fin 512) :
    k0_pay91 v16 w (ix3 0 t j) = ∑ k : Fin 1024, v16 (ix2 t k) * w (ix2 k j) := by
  unfold k0_pay91
  pointwise

theorem gb_store (v16 : FVec Ideal S512x1024 .bf16) (w : Vec Ideal S1024x512 .bf16) (t j : Fin 512) :
    k0_pay92 v16 w (ix3 0 t j) = ∑ k : Fin 1024, v16 (ix2 t k) * w (ix2 k j) := by
  unfold k0_pay92
  pointwise

theorem ma_store (v16 : FVec Ideal S512x1024 .bf16) (w : Vec Ideal S1024x1024 .bf16) (t : Fin 512) (j : Fin 1024) :
    k0_pay1 (k0_pay93 v16 w) (ix3 0 t j) = ∑ k : Fin 1024, v16 (ix2 t k) * w (ix2 k j) := by
  unfold k0_pay1 k0_pay93
  pointwise

theorem mb_store (v16 : FVec Ideal S512x1024 .bf16) (w : Vec Ideal S1024x1024 .bf16) (t : Fin 512) (j : Fin 1024) :
    k0_pay2 v16 w (ix3 0 t j) = ∑ k : Fin 1024, v16 (ix2 t k) * w (ix2 k j) := by
  unfold k0_pay2
  pointwise

end Cert.ProjectIdeal.Rows
end
-- ==== Proof.ProjectRef.lean ====
/- The reference of the in-projection, read at an index. -/
module

public import proofs.«01_k».proof.Proof.Gen.ProjectReferenceIdeal.Read
public import proofs.«01_k».proof.Proof.ProjectOut

@[expose] public section
set_option maxRecDepth 16384
noncomputable section
namespace Cert.ProjectReferenceIdeal.Rows
open Idealize.ShloMosaic Idealize.ShloMosaic.Tactic
open Cert.ProjectReferenceIdeal Cert.ProjectReferenceIdeal.Gen Cert.ProjectReferenceIdeal.Read Cert.ProjectIdeal.Rows

variable (x0 : (⟨S8x2048x1024, .f32⟩ : BufTy).Contents (Elt Ideal)) (x1 : (⟨S1x1024, .f32⟩ : BufTy).Contents (Elt Ideal))
  (x2 : (⟨S1x1024x5048, .f32⟩ : BufTy).Contents (Elt Ideal)) (x6 : (⟨S1x256, .f32⟩ : BufTy).Contents (Elt Ideal))

/-- Entry `j` of the projected row `t` of sequence `b`. -/
abbrev column (b : Fin 8) (t : Fin 2048) (j : Fin 5048) : EReal := entry (fun k => x0 (ix3 b t k)) (fun k => x1 (ix2 0 k)) (fun k => x2 (ix3 0 k j))

theorem scaled_at (b : Fin 8) (t : Fin 2048) (k : Fin 1024) : val_main_v13 (F := Ideal) x0 x1 (ix3 b t k) = scaled (fun k => x0 (ix3 b t k)) (fun k => x1 (ix2 0 k)) k := by
  unfold scaled val_main_v13 val_main_v12 val_main_v11 val_main_v10 val_main_v9 val_main_v8 val_main_v7 val_main_v6 val_main_v5 val_main_v4 val_main_v3 val_main_v2 val_main_v1 val_main_v0
    val_main_cst val_main_cst_0 val_main_cst_1
  pointwise

theorem weight_at (k : Fin 1024) (j : Fin 5048) : val_main_v14 (F := Ideal) x2 (ix2 k j) = x2 (ix3 0 k j) := by
  unfold val_main_v14
  pointwise

theorem projected_at (b : Fin 8) (t : Fin 2048) (j : Fin 5048) : val_main_v15 (F := Ideal) x0 x1 x2 (ix3 b t j) = column x0 x1 x2 b t j := by
  have el (k : Fin 1024) : lidx_main_v15 (ix3 b t j) k = ix3 b t k := funext fun a => by match a with | ⟨0, _⟩ => rfl | ⟨1, _⟩ => rfl | ⟨2, _⟩ => rfl
  have er (k : Fin 1024) : ridx_main_v15 (ix3 b t j) k = ix2 k j := funext fun a => by match a with | ⟨0, _⟩ => rfl | ⟨1, _⟩ => rfl
  rw [val_main_v15_apply]
  unfold column entry
  exact Finset.sum_congr rfl fun k _ => by rw [el, er, scaled_at, weight_at]

theorem ga_at (b : Fin 8) (t : Fin 2048) (j : Fin 512) : val_main_v28 (F := Ideal) x0 x1 x2 (ix3 b t j) = column x0 x1 x2 b t ⟨1304 + j.val, by omega⟩ := by
  rw [← projected_at]
  unfold val_main_v28 val_main_v21
  generalize val_main_v15 (F := Ideal) x0 x1 x2 = y
  pointwise

theorem gb_at (b : Fin 8) (t : Fin 2048) (j : Fin 512) : val_main_v29 (F := Ideal) x0 x1 x2 (ix3 b t j) = column x0 x1 x2 b t ⟨2488 + j.val, by omega⟩ := by
  rw [← projected_at]
  unfold val_main_v29 val_main_v25
  generalize val_main_v15 (F := Ideal) x0 x1 x2 = y
  pointwise

theorem ma_at (b : Fin 8) (t : Fin 2048) (j : Fin 1024) : val_main_v30 (F := Ideal) x0 x1 x2 (ix3 b t j) = column x0 x1 x2 b t ⟨3000 + j.val, by omega⟩ := by
  rw [← projected_at]
  unfold val_main_v30 val_main_v26
  generalize val_main_v15 (F := Ideal) x0 x1 x2 = y
  pointwise

theorem mb_at (b : Fin 8) (t : Fin 2048) (j : Fin 1024) : val_main_v31 (F := Ideal) x0 x1 x2 (ix3 b t j) = column x0 x1 x2 b t ⟨4024 + j.val, by omega⟩ := by
  rw [← projected_at]
  unfold val_main_v31 val_main_v27
  generalize val_main_v15 (F := Ideal) x0 x1 x2 = y
  pointwise

theorem cmp_at (b : Fin 8) (r : Fin 256) (t : Fin 2048) : val_main_v32 (F := Ideal) x0 x1 x2 (ix3 b r t) = column x0 x1 x2 b t ⟨512 + r.val, by omega⟩ := by
  rw [← projected_at]
  unfold val_main_v32 val_main_v17
  generalize val_main_v15 (F := Ideal) x0 x1 x2 = y
  pointwise

theorem latent_at (b : Fin 8) (t : Fin 2048) (j : Fin 256) : val_main_v46 (F := Ideal) x0 x1 x2 x6 (ix3 b t j)
    = latent (fun j => column x0 x1 x2 b t ⟨2200 + j.val, by omega⟩) (fun j => x6 (ix2 0 j)) j := by
  simp only [← projected_at]
  unfold latent val_main_v46 val_main_v45 val_main_v44 val_main_v43 val_main_v42 val_main_v41 val_main_v40 val_main_v39 val_main_v38 val_main_v37 val_main_v36 val_main_v35 val_main_v34 val_main_v33 val_main_v23
    val_main_cst_2 val_main_cst_3 val_main_cst_4
  generalize val_main_v15 (F := Ideal) x0 x1 x2 = y
  pointwise

end Cert.ProjectReferenceIdeal.Rows
end
-- ==== Proof.ProjectEntry.lean ====
/- The in-projection's packed weights, as the region finds them. -/
module

public import proofs.«01_k».proof.Defs
public import proofs.«01_k».proof.Proof.Gen.ProjectIdeal.Launch
public import Idealize.ShloMosaic.Lib.Pointwise
public import Idealize.ShloMosaic.Lib.StableHlo.ReadAt

@[expose] public section
set_option maxRecDepth 16384
noncomputable section
namespace Cert.ProjectIdeal.Rows
open Idealize.ShloMosaic Idealize.ShloMosaic.TcCoe Idealize.ShloMosaic.Tactic
open Idealize.SL.Sem
open Cert.ProjectIdeal Cert.ProjectIdeal.Gen

variable (m : (ℓ : Loc nD τ sig) → Buf (Elt Ideal) ℓ) (c : Dev nD)

/-- Core `c`'s buffers after the host lines. -/
abbrev packed (b : Ref sig .tc) : Buf (Elt Ideal) ((c : Thread nD τ).loc b) :=
  StableHlo.after (List.flatten [hostOps0, hostOps0_1, hostOps0_2, hostOps0_3, hostOps0_4]) (fun b => m (c, b)) b

theorem entry_gain (k : Fin 1024) : (packed m c main_v56 : Vec Ideal S1x1024 .f32) (ix2 0 k) = m ((c : Thread nD τ).loc main_arg1) (ix2 0 k) := by
  unfold packed
  after_reads_at

theorem entry_latent_gain (k : Fin 256) : (packed m c main_v64 : Vec Ideal S1x256 .f32) (ix2 0 k) = m ((c : Thread nD τ).loc main_arg6) (ix2 0 k) := by
  unfold packed
  after_reads_at

theorem entry_cmp (r : Fin 256) (k : Fin 1024) : (packed m c main_v22 : Vec Ideal S1344x1024 .bf16) (ix2 ⟨512 + r.val, by omega⟩ k) = m ((c : Thread nD τ).loc main_arg2) (ix3 0 k ⟨512 + r.val, by omega⟩) := by
  unfold packed
  after_reads_at
  repeat' split
  all_goals first
    | omega
    | (after_reads_at; done)
    | (after_reads_at; exact congrArg (fun q => m ((c : Thread nD τ).loc main_arg2) (ix3 0 k q)) (Fin.ext (by dsimp only; omega)))

theorem entry_ga (k : Fin 1024) (j : Fin 512) : (packed m c main_v29 : Vec Ideal S1024x3712 .bf16) (ix2 k ⟨0 + j.val, by omega⟩) = m ((c : Thread nD τ).loc main_arg2) (ix3 0 k ⟨1304 + j.val, by omega⟩) := by
  unfold packed
  after_reads_at
  repeat' split
  all_goals first
    | omega
    | (after_reads_at; done)
    | (after_reads_at; exact congrArg (fun q => m ((c : Thread nD τ).loc main_arg2) (ix3 0 k q)) (Fin.ext (by dsimp only; omega)))

theorem entry_c (k : Fin 1024) (j : Fin 256) : (packed m c main_v29 : Vec Ideal S1024x3712 .bf16) (ix2 k ⟨896 + j.val, by omega⟩) = m ((c : Thread nD τ).loc main_arg2) (ix3 0 k ⟨2200 + j.val, by omega⟩) := by
  unfold packed
  after_reads_at
  rw [dif_neg (by omega), dif_neg (by omega), dif_pos (by omega)]
  after_reads_at
  exact congrArg (fun q => m (c, Proc.devRef .tc main_arg2) (ix3 0 k q)) (Fin.ext (by dsimp only; omega))

theorem entry_gb (k : Fin 1024) (j : Fin 512) : (packed m c main_v29 : Vec Ideal S1024x3712 .bf16) (ix2 k ⟨1152 + j.val, by omega⟩) = m ((c : Thread nD τ).loc main_arg2) (ix3 0 k ⟨2488 + j.val, by omega⟩) := by
  unfold packed
  after_reads_at
  rw [dif_neg (by omega), dif_neg (by omega), dif_neg (by omega), dif_pos (by omega)]
  after_reads_at
  exact congrArg (fun q => m (c, Proc.devRef .tc main_arg2) (ix3 0 k q)) (Fin.ext (by dsimp only; omega))

theorem entry_ma (k : Fin 1024) (j : Fin 1024) : (packed m c main_v29 : Vec Ideal S1024x3712 .bf16) (ix2 k ⟨1664 + j.val, by omega⟩) = m ((c : Thread nD τ).loc main_arg2) (ix3 0 k ⟨3000 + j.val, by omega⟩) := by
  unfold packed
  after_reads_at
  rw [dif_neg (by omega), dif_neg (by omega), dif_neg (by omega), dif_neg (by omega), dif_pos (by omega)]
  after_reads_at
  exact congrArg (fun q => m (c, Proc.devRef .tc main_arg2) (ix3 0 k q)) (Fin.ext (by dsimp only; omega))

theorem entry_mb (k : Fin 1024) (j : Fin 1024) : (packed m c main_v29 : Vec Ideal S1024x3712 .bf16) (ix2 k ⟨2688 + j.val, by omega⟩) = m ((c : Thread nD τ).loc main_arg2) (ix3 0 k ⟨4024 + j.val, by omega⟩) := by
  unfold packed
  after_reads_at
  rw [dif_neg (by omega), dif_neg (by omega), dif_neg (by omega), dif_neg (by omega), dif_neg (by omega)]
  after_reads_at
  exact congrArg (fun q => m (c, Proc.devRef .tc main_arg2) (ix3 0 k q)) (Fin.ext (by dsimp only; omega))

end Cert.ProjectIdeal.Rows
end
-- ==== Proof.ProjectFinal.lean ====
/- The in-projection's six result arrays at the end of the run: the reference's results of the argument arrays. -/
module

public import proofs.«01_k».proof.Proof.ProjectRun
public import proofs.«01_k».proof.Proof.ProjectOut
public import proofs.«01_k».proof.Proof.ProjectRef
public import proofs.«01_k».proof.Proof.ProjectEntry
public import Idealize.ShloMosaic.Lib.Pipeline.ValueKit.Point
public import Idealize.ShloMosaic.Lib.Pipeline.ValueKit.Tiles
public import Idealize.ShloMosaic.Lib.Pipeline.Value

@[expose] public section
set_option maxRecDepth 16384
noncomputable section
namespace Cert.ProjectIdeal.Rows
open Idealize.ShloMosaic Idealize.ShloMosaic.TcCoe Idealize.ShloMosaic.Tactic
open Idealize.SL.Sem
open Idealize.ShloMosaic.Pipeline (Dat Cfg Window)
open Cert.ProjectIdeal Cert.ProjectIdeal.Gen

section Store
variable (x0 : Vec Ideal S1x512x1024 .f32) (x1 : Vec Ideal S1x1024 .f32) (x2 : Vec Ideal S1344x1024 .bf16) (x3 : Vec Ideal S1024x3712 .bf16)
  (x4 : Vec Ideal S2x8x512 .f32) (x5 : Vec Ideal S2x16x512 .f32) (x6 : Vec Ideal S32x256 .f32) (x7 : Vec Ideal S1x384 .f32) (x8 : Vec Ideal S768x384 .bf16)
  (x9 : Vec Ideal S1x256 .f32) (x10 : Vec Ideal S16x512 .bf16) (x11 : Vec Ideal S384x1024 .bf16) (x12 : Vec Ideal S512x256 .bf16)

theorem zero3 : ∀ a, (![0, 0, 0] : Fin 3 → Nat) a = 0 := by decide

theorem zero2 : ∀ a, (![0, 0] : Fin 2 → Nat) a = 0 := by decide

/-- The scaled rows that every matrix is multiplied with. -/
theorem rows_at (t : Fin 512) (k : Fin 1024) : k0_pay94 x0 x1 x2 x3 x4 x5 x6 x7 x8 x9 x10 x11 x12 (ix2 t k) = scaled (fun k => x0 (ix3 0 t k)) (fun k => x1 (ix2 0 k)) k := by
  unfold k0_pay94
  rw [View.ld_unit_lit _ x0 zero3, View.ld_unit_lit _ x1 zero2]
  exact row_at x0 x1 t k

theorem cmp_rows (r : Fin 256) (k : Fin 1024) : View.ld x2 r0_8 (ix2 r k) = x2 (ix2 ⟨512 + r.val, by omega⟩ k) :=
  View.ld_unit_apply_of x2 _ _ _ _ _ fun a => by
    match a with
    | ⟨0, _⟩ => rfl
    | ⟨1, _⟩ => show k.val = 0 + k.val; omega

theorem ga_cols (k : Fin 1024) (j : Fin 512) : View.ld x3 r0_32 (ix2 k j) = x3 (ix2 k ⟨0 + j.val, by omega⟩) :=
  View.ld_unit_apply_of x3 _ _ _ _ _ fun a => by
    match a with
    | ⟨0, _⟩ => show k.val = 0 + k.val; omega
    | ⟨1, _⟩ => rfl

theorem gb_cols (k : Fin 1024) (j : Fin 512) : View.ld x3 r0_33 (ix2 k j) = x3 (ix2 k ⟨1152 + j.val, by omega⟩) :=
  View.ld_unit_apply_of x3 _ _ _ _ _ fun a => by
    match a with
    | ⟨0, _⟩ => show k.val = 0 + k.val; omega
    | ⟨1, _⟩ => rfl

theorem ma_cols (k : Fin 1024) (j : Fin 1024) : View.ld x3 r0_34 (ix2 k j) = x3 (ix2 k ⟨1664 + j.val, by omega⟩) :=
  View.ld_unit_apply_of x3 _ _ _ _ _ fun a => by
    match a with
    | ⟨0, _⟩ => show k.val = 0 + k.val; omega
    | ⟨1, _⟩ => rfl

theorem mb_cols (k : Fin 1024) (j : Fin 1024) : View.ld x3 r0_35 (ix2 k j) = x3 (ix2 k ⟨2688 + j.val, by omega⟩) :=
  View.ld_unit_apply_of x3 _ _ _ _ _ fun a => by
    match a with
    | ⟨0, _⟩ => show k.val = 0 + k.val; omega
    | ⟨1, _⟩ => rfl

theorem c_cols (k : Fin 1024) (j : Fin 256) : View.ld x3 r0_21 (ix2 k j) = x3 (ix2 k ⟨896 + j.val, by omega⟩) :=
  View.ld_unit_apply_of x3 _ _ _ _ _ fun a => by
    match a with
    | ⟨0, _⟩ => show k.val = 0 + k.val; omega
    | ⟨1, _⟩ => rfl

theorem out_cmp (r : Fin 256) (t : Fin 512) : out0_16 x0 x1 x2 x3 x4 x5 x6 x7 x8 x9 x10 x11 x12 (ix3 0 r t) = entry (fun k => x0 (ix3 0 t k)) (fun k => x1 (ix2 0 k)) (fun k => x2 (ix2 ⟨512 + r.val, by omega⟩ k)) := by
  unfold out0_16 entry
  rw [View.canon_cons_unit_lit _ _ _ zero3, cmp_store]
  exact Finset.sum_congr rfl fun k _ => by rw [rows_at, cmp_rows]

theorem out_c (t : Fin 512) (j : Fin 256) : out0_29 x0 x1 x2 x3 x4 x5 x6 x7 x8 x9 x10 x11 x12 (ix3 0 t j)
    = latent (fun j => entry (fun k => x0 (ix3 0 t k)) (fun k => x1 (ix2 0 k)) (fun k => x3 (ix2 k ⟨896 + j.val, by omega⟩))) (fun j => x9 (ix2 0 j)) j := by
  unfold out0_29 entry
  rw [View.canon_cons_unit_lit _ _ _ zero3, latent_store, View.ld_unit_lit _ x9 zero2]
  exact congrArg (fun f => latent f _ j) (funext fun j => Finset.sum_congr rfl fun k _ => by rw [rows_at, c_cols])

theorem out_ga (t : Fin 512) (j : Fin 512) : out0_24 x0 x1 x2 x3 x4 x5 x6 x7 x8 x9 x10 x11 x12 (ix3 0 t j) = entry (fun k => x0 (ix3 0 t k)) (fun k => x1 (ix2 0 k)) (fun k => x3 (ix2 k ⟨0 + j.val, by omega⟩)) := by
  unfold out0_24 entry
  rw [View.canon_cons_unit_lit _ _ _ zero3, ga_store]
  exact Finset.sum_congr rfl fun k _ => by rw [rows_at, ga_cols]

theorem out_gb (t : Fin 512) (j : Fin 512) : out0_25 x0 x1 x2 x3 x4 x5 x6 x7 x8 x9 x10 x11 x12 (ix3 0 t j) = entry (fun k => x0 (ix3 0 t k)) (fun k => x1 (ix2 0 k)) (fun k => x3 (ix2 k ⟨1152 + j.val, by omega⟩)) := by
  unfold out0_25 entry
  rw [View.canon_cons_unit_lit _ _ _ zero3, gb_store]
  exact Finset.sum_congr rfl fun k _ => by rw [rows_at, gb_cols]

theorem out_ma (t : Fin 512) (j : Fin 1024) : out0_26 x0 x1 x2 x3 x4 x5 x6 x7 x8 x9 x10 x11 x12 (ix3 0 t j) = entry (fun k => x0 (ix3 0 t k)) (fun k => x1 (ix2 0 k)) (fun k => x3 (ix2 k ⟨1664 + j.val, by omega⟩)) := by
  unfold out0_26 entry
  rw [View.canon_cons_unit_lit _ _ _ zero3, ma_store]
  exact Finset.sum_congr rfl fun k _ => by rw [rows_at, ma_cols]

theorem out_mb (t : Fin 512) (j : Fin 1024) : out0_27 x0 x1 x2 x3 x4 x5 x6 x7 x8 x9 x10 x11 x12 (ix3 0 t j) = entry (fun k => x0 (ix3 0 t k)) (fun k => x1 (ix2 0 k)) (fun k => x3 (ix2 k ⟨2688 + j.val, by omega⟩)) := by
  unfold out0_27 entry
  rw [View.canon_cons_unit_lit _ _ _ zero3, mb_store]
  exact Finset.sum_congr rfl fun k _ => by rw [rows_at, mb_cols]

end Store

variable (m : (ℓ : Loc nD τ sig) → Buf (Elt Ideal) ℓ) (c : Dev nD)

/-- The windows' block indices at a point. -/
theorem idx : ∀ t : Fin cfg0.N, win0_0.index t = ![t.val % 8, t.val / 8, 0] ∧ win0_1.index t = ![0, 0] ∧ win0_2.index t = ![0, 0] ∧ win0_3.index t = ![0, 0] ∧ win0_9.index t = ![0, 0]
    ∧ win0_16.index t = ![t.val % 8, 0, t.val / 8] ∧ win0_24.index t = ![t.val % 8, t.val / 8, 0] ∧ win0_25.index t = ![t.val % 8, t.val / 8, 0] ∧ win0_26.index t = ![t.val % 8, t.val / 8, 0]
    ∧ win0_27.index t = ![t.val % 8, t.val / 8, 0] ∧ win0_29.index t = ![t.val % 8, t.val / 8, 0] ∧ t.val / 8 < 4 :=
  (by decide +kernel : ∀ t : Fin grid0.N, _)

variable (t : Fin cfg0.N)

theorem gain_read (k : Fin 1024) : (iblk m c 1 t : Vec Ideal S1x1024 .f32) (ix2 0 k) = m ((c : Thread nD τ).loc main_arg1) (ix2 0 k) := by
  obtain ⟨-, e, -⟩ := idx t
  rw [← entry_gain m c k]
  blk_ext! [iblk, e]

theorem latent_gain_read (k : Fin 256) : (iblk m c 9 t : Vec Ideal S1x256 .f32) (ix2 0 k) = m ((c : Thread nD τ).loc main_arg6) (ix2 0 k) := by
  obtain ⟨-, -, -, -, e, -⟩ := idx t
  rw [← entry_latent_gain m c k]
  blk_ext! [iblk, e]

theorem cmp_read (r : Fin 256) (k : Fin 1024) : (iblk m c 2 t : Vec Ideal S1344x1024 .bf16) (ix2 ⟨512 + r.val, by omega⟩ k) = m ((c : Thread nD τ).loc main_arg2) (ix3 0 k ⟨512 + r.val, by omega⟩) := by
  obtain ⟨-, -, e, -⟩ := idx t
  rw [← entry_cmp m c r k]
  blk_ext! [iblk, e]

theorem ga_read (k : Fin 1024) (j : Fin 512) : (iblk m c 3 t : Vec Ideal S1024x3712 .bf16) (ix2 k ⟨0 + j.val, by omega⟩) = m ((c : Thread nD τ).loc main_arg2) (ix3 0 k ⟨1304 + j.val, by omega⟩) := by
  obtain ⟨-, -, -, e, -⟩ := idx t
  rw [← entry_ga m c k j]
  blk_ext! [iblk, e]

theorem c_read (k : Fin 1024) (j : Fin 256) : (iblk m c 3 t : Vec Ideal S1024x3712 .bf16) (ix2 k ⟨896 + j.val, by omega⟩) = m ((c : Thread nD τ).loc main_arg2) (ix3 0 k ⟨2200 + j.val, by omega⟩) := by
  obtain ⟨-, -, -, e, -⟩ := idx t
  rw [← entry_c m c k j]
  blk_ext! [iblk, e]

theorem gb_read (k : Fin 1024) (j : Fin 512) : (iblk m c 3 t : Vec Ideal S1024x3712 .bf16) (ix2 k ⟨1152 + j.val, by omega⟩) = m ((c : Thread nD τ).loc main_arg2) (ix3 0 k ⟨2488 + j.val, by omega⟩) := by
  obtain ⟨-, -, -, e, -⟩ := idx t
  rw [← entry_gb m c k j]
  blk_ext! [iblk, e]

theorem ma_read (k : Fin 1024) (j : Fin 1024) : (iblk m c 3 t : Vec Ideal S1024x3712 .bf16) (ix2 k ⟨1664 + j.val, by omega⟩) = m ((c : Thread nD τ).loc main_arg2) (ix3 0 k ⟨3000 + j.val, by omega⟩) := by
  obtain ⟨-, -, -, e, -⟩ := idx t
  rw [← entry_ma m c k j]
  blk_ext! [iblk, e]

theorem mb_read (k : Fin 1024) (j : Fin 1024) : (iblk m c 3 t : Vec Ideal S1024x3712 .bf16) (ix2 k ⟨2688 + j.val, by omega⟩) = m ((c : Thread nD τ).loc main_arg2) (ix3 0 k ⟨4024 + j.val, by omega⟩) := by
  obtain ⟨-, -, -, e, -⟩ := idx t
  rw [← entry_mb m c k j]
  blk_ext! [iblk, e]

/-- The reference's results of the argument arrays. -/
abbrev the_cmp : Buf (Elt Ideal) ((c : Thread nD τ).loc main_v67_3) :=
  Cert.ProjectReferenceIdeal.Read.val_main_v32 (F := Ideal) (m ((c : Thread nD τ).loc main_arg0)) (m ((c : Thread nD τ).loc main_arg1)) (m ((c : Thread nD τ).loc main_arg2))

abbrev the_c : Buf (Elt Ideal) ((c : Thread nD τ).loc main_v67_16) :=
  Cert.ProjectReferenceIdeal.Read.val_main_v46 (F := Ideal) (m ((c : Thread nD τ).loc main_arg0)) (m ((c : Thread nD τ).loc main_arg1)) (m ((c : Thread nD τ).loc main_arg2)) (m ((c : Thread nD τ).loc main_arg6))

abbrev the_ga : Buf (Elt Ideal) ((c : Thread nD τ).loc main_v67_11) :=
  Cert.ProjectReferenceIdeal.Read.val_main_v28 (F := Ideal) (m ((c : Thread nD τ).loc main_arg0)) (m ((c : Thread nD τ).loc main_arg1)) (m ((c : Thread nD τ).loc main_arg2))

abbrev the_gb : Buf (Elt Ideal) ((c : Thread nD τ).loc main_v67_12) :=
  Cert.ProjectReferenceIdeal.Read.val_main_v29 (F := Ideal) (m ((c : Thread nD τ).loc main_arg0)) (m ((c : Thread nD τ).loc main_arg1)) (m ((c : Thread nD τ).loc main_arg2))

abbrev the_ma : Buf (Elt Ideal) ((c : Thread nD τ).loc main_v67_13) :=
  Cert.ProjectReferenceIdeal.Read.val_main_v30 (F := Ideal) (m ((c : Thread nD τ).loc main_arg0)) (m ((c : Thread nD τ).loc main_arg1)) (m ((c : Thread nD τ).loc main_arg2))

abbrev the_mb : Buf (Elt Ideal) ((c : Thread nD τ).loc main_v67_14) :=
  Cert.ProjectReferenceIdeal.Read.val_main_v31 (F := Ideal) (m ((c : Thread nD τ).loc main_arg0)) (m ((c : Thread nD τ).loc main_arg1)) (m ((c : Thread nD τ).loc main_arg2))

section Tile
variable (b : Fin 8) (a : Fin 4) (hb : b.val = t.val % 8) (ha : a.val = t.val / 8)
include hb ha

theorem x_read (r : Fin 512) (k : Fin 1024) : (iblk m c 0 t : Vec Ideal S1x512x1024 .f32) (ix3 0 r k) = m ((c : Thread nD τ).loc main_arg0) (ix3 b ⟨512 * a.val + r.val, by omega⟩ k) := by
  obtain ⟨e, -⟩ := idx t
  rw [← V_main_arg0 m c]
  blk_ext! [iblk, e, hb, ha]

theorem stored_cmp (r : Fin 256) (s : Fin 512) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r s) = the_cmp m c (ix3 b r ⟨512 * a.val + s.val, by omega⟩) := by
  refine (out_cmp _ _ _ _ _ _ _ _ _ _ _ _ _ r s).trans ?_
  simp only [gain_read m c t, cmp_read m c t, x_read m c t b a hb ha]
  exact (Cert.ProjectReferenceIdeal.Rows.cmp_at _ _ _ b r _).symm

theorem stored_c (s : Fin 512) (j : Fin 256) : out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 s j) = the_c m c (ix3 b ⟨512 * a.val + s.val, by omega⟩ j) := by
  refine (out_c _ _ _ _ _ _ _ _ _ _ _ _ _ s j).trans ?_
  simp only [gain_read m c t, latent_gain_read m c t, c_read m c t, x_read m c t b a hb ha]
  exact (Cert.ProjectReferenceIdeal.Rows.latent_at _ _ _ _ b _ j).symm

theorem stored_ga (s : Fin 512) (j : Fin 512) : out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 s j) = the_ga m c (ix3 b ⟨512 * a.val + s.val, by omega⟩ j) := by
  refine (out_ga _ _ _ _ _ _ _ _ _ _ _ _ _ s j).trans ?_
  simp only [gain_read m c t, ga_read m c t, x_read m c t b a hb ha]
  exact (Cert.ProjectReferenceIdeal.Rows.ga_at _ _ _ b _ j).symm

theorem stored_gb (s : Fin 512) (j : Fin 512) : out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 s j) = the_gb m c (ix3 b ⟨512 * a.val + s.val, by omega⟩ j) := by
  refine (out_gb _ _ _ _ _ _ _ _ _ _ _ _ _ s j).trans ?_
  simp only [gain_read m c t, gb_read m c t, x_read m c t b a hb ha]
  exact (Cert.ProjectReferenceIdeal.Rows.gb_at _ _ _ b _ j).symm

theorem stored_ma (s : Fin 512) (j : Fin 1024) : out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 s j) = the_ma m c (ix3 b ⟨512 * a.val + s.val, by omega⟩ j) := by
  refine (out_ma _ _ _ _ _ _ _ _ _ _ _ _ _ s j).trans ?_
  simp only [gain_read m c t, ma_read m c t, x_read m c t b a hb ha]
  exact (Cert.ProjectReferenceIdeal.Rows.ma_at _ _ _ b _ j).symm

theorem stored_mb (s : Fin 512) (j : Fin 1024) : out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 s j) = the_mb m c (ix3 b ⟨512 * a.val + s.val, by omega⟩ j) := by
  refine (out_mb _ _ _ _ _ _ _ _ _ _ _ _ _ s j).trans ?_
  simp only [gain_read m c t, mb_read m c t, x_read m c t b a hb ha]
  exact (Cert.ProjectReferenceIdeal.Rows.mb_at _ _ _ b _ j).symm

end Tile

/-- An index of a block of one sequence. -/
theorem row_index {n1 n2 : Nat} (y : (⟨3, ![1, n1, n2]⟩ : Shape).Idx) : y = ix3 (n0 := 1) (n1 := n1) (n2 := n2) 0 (y 1) (y 2) := funext fun a => Fin.ext (by
  match a with
  | ⟨0, _⟩ => have b0 : (y 0).val < 1 := (y 0).isLt; show (y 0).val = 0; omega
  | ⟨1, _⟩ => rfl
  | ⟨2, _⟩ => rfl)

theorem final_cmp : (dats m 0 c).arrAt 16 cfg0.N = the_cmp m c := by
  refine (dats m 0 c).arrAt_eq_of_covers 16 _ (by decide +kernel) fun t hf y => ?_
  blk_simp
  rw [after0_16]
  obtain ⟨-, -, -, -, -, e, -, -, -, -, -, ht⟩ := idx t
  have b0 : (y 0).val < 1 := (y 0).isLt
  have b1 : (y 1).val < 256 := (y 1).isLt
  have b2 : (y 2).val < 512 := (y 2).isLt
  have eo := stored_cmp m c t ⟨t.val % 8, by omega⟩ ⟨t.val / 8, ht⟩ rfl rfl ⟨(y 1).val, b1⟩ ⟨(y 2).val, b2⟩
  have ey' : (win0_16.blk t).view.emb y = ix3 (n0 := 8) (n1 := 256) (n2 := 2048) ⟨t.val % 8, by omega⟩ ⟨(y 1).val, b1⟩ ⟨512 * (t.val / 8) + (y 2).val, by omega⟩ := by
    blk_ext [e]
  rw [ey']
  exact (congrArg _ (row_index y)).trans eo

theorem final_ga : (dats m 0 c).arrAt 24 cfg0.N = the_ga m c := by
  refine (dats m 0 c).arrAt_eq_of_covers 24 _ (by decide +kernel) fun t hf y => ?_
  blk_simp
  rw [after0_24]
  obtain ⟨-, -, -, -, -, -, e, -, -, -, -, ht⟩ := idx t
  have b0 : (y 0).val < 1 := (y 0).isLt
  have b1 : (y 1).val < 512 := (y 1).isLt
  have b2 : (y 2).val < 512 := (y 2).isLt
  have eo := stored_ga m c t ⟨t.val % 8, by omega⟩ ⟨t.val / 8, ht⟩ rfl rfl ⟨(y 1).val, b1⟩ ⟨(y 2).val, b2⟩
  have ey' : (win0_24.blk t).view.emb y = ix3 (n0 := 8) (n1 := 2048) (n2 := 512) ⟨t.val % 8, by omega⟩ ⟨512 * (t.val / 8) + (y 1).val, by omega⟩ ⟨(y 2).val, b2⟩ := by
    blk_ext [e]
  rw [ey']
  exact (congrArg _ (row_index y)).trans eo

theorem final_gb : (dats m 0 c).arrAt 25 cfg0.N = the_gb m c := by
  refine (dats m 0 c).arrAt_eq_of_covers 25 _ (by decide +kernel) fun t hf y => ?_
  blk_simp
  rw [after0_25]
  obtain ⟨-, -, -, -, -, -, -, e, -, -, -, ht⟩ := idx t
  have b0 : (y 0).val < 1 := (y 0).isLt
  have b1 : (y 1).val < 512 := (y 1).isLt
  have b2 : (y 2).val < 512 := (y 2).isLt
  have eo := stored_gb m c t ⟨t.val % 8, by omega⟩ ⟨t.val / 8, ht⟩ rfl rfl ⟨(y 1).val, b1⟩ ⟨(y 2).val, b2⟩
  have ey' : (win0_25.blk t).view.emb y = ix3 (n0 := 8) (n1 := 2048) (n2 := 512) ⟨t.val % 8, by omega⟩ ⟨512 * (t.val / 8) + (y 1).val, by omega⟩ ⟨(y 2).val, b2⟩ := by
    blk_ext [e]
  rw [ey']
  exact (congrArg _ (row_index y)).trans eo

theorem final_ma : (dats m 0 c).arrAt 26 cfg0.N = the_ma m c := by
  refine (dats m 0 c).arrAt_eq_of_covers 26 _ (by decide +kernel) fun t hf y => ?_
  blk_simp
  rw [after0_26]
  obtain ⟨-, -, -, -, -, -, -, -, e, -, -, ht⟩ := idx t
  have b0 : (y 0).val < 1 := (y 0).isLt
  have b1 : (y 1).val < 512 := (y 1).isLt
  have b2 : (y 2).val < 1024 := (y 2).isLt
  have eo := stored_ma m c t ⟨t.val % 8, by omega⟩ ⟨t.val / 8, ht⟩ rfl rfl ⟨(y 1).val, b1⟩ ⟨(y 2).val, b2⟩
  have ey' : (win0_26.blk t).view.emb y = ix3 (n0 := 8) (n1 := 2048) (n2 := 1024) ⟨t.val % 8, by omega⟩ ⟨512 * (t.val / 8) + (y 1).val, by omega⟩ ⟨(y 2).val, b2⟩ := by
    blk_ext [e]
  rw [ey']
  exact (congrArg _ (row_index y)).trans eo

theorem final_mb : (dats m 0 c).arrAt 27 cfg0.N = the_mb m c := by
  refine (dats m 0 c).arrAt_eq_of_covers 27 _ (by decide +kernel) fun t hf y => ?_
  blk_simp
  rw [after0_27]
  obtain ⟨-, -, -, -, -, -, -, -, -, e, -, ht⟩ := idx t
  have b0 : (y 0).val < 1 := (y 0).isLt
  have b1 : (y 1).val < 512 := (y 1).isLt
  have b2 : (y 2).val < 1024 := (y 2).isLt
  have eo := stored_mb m c t ⟨t.val % 8, by omega⟩ ⟨t.val / 8, ht⟩ rfl rfl ⟨(y 1).val, b1⟩ ⟨(y 2).val, b2⟩
  have ey' : (win0_27.blk t).view.emb y = ix3 (n0 := 8) (n1 := 2048) (n2 := 1024) ⟨t.val % 8, by omega⟩ ⟨512 * (t.val / 8) + (y 1).val, by omega⟩ ⟨(y 2).val, b2⟩ := by
    blk_ext [e]
  rw [ey']
  exact (congrArg _ (row_index y)).trans eo

theorem final_c : (dats m 0 c).arrAt 29 cfg0.N = the_c m c := by
  refine (dats m 0 c).arrAt_eq_of_covers 29 _ (by decide +kernel) fun t hf y => ?_
  blk_simp
  rw [after0_29]
  obtain ⟨-, -, -, -, -, -, -, -, -, -, e, ht⟩ := idx t
  have b0 : (y 0).val < 1 := (y 0).isLt
  have b1 : (y 1).val < 512 := (y 1).isLt
  have b2 : (y 2).val < 256 := (y 2).isLt
  have eo := stored_c m c t ⟨t.val % 8, by omega⟩ ⟨t.val / 8, ht⟩ rfl rfl ⟨(y 1).val, b1⟩ ⟨(y 2).val, b2⟩
  have ey' : (win0_29.blk t).view.emb y = ix3 (n0 := 8) (n1 := 2048) (n2 := 256) ⟨t.val % 8, by omega⟩ ⟨512 * (t.val / 8) + (y 1).val, by omega⟩ ⟨(y 2).val, b2⟩ := by
    blk_ext [e]
  rw [ey']
  exact (congrArg _ (row_index y)).trans eo

end Cert.ProjectIdeal.Rows
end
-- ==== Proof.ProjectResults.lean ====
/- The in-projection's six result arrays and its arguments at the end of every run. -/
module

public import proofs.«01_k».proof.Proof.ProjectFinal

@[expose] public section
noncomputable section
namespace Cert.ProjectIdeal.Rows
open Idealize.ShloMosaic Idealize.ShloMosaic.TcCoe
open Idealize.SL.Sem
open Cert.ProjectIdeal Cert.ProjectIdeal.Gen

variable (m : (ℓ : Loc nD τ sig) → Buf (Elt Ideal) ℓ) (ρ : Dev nD → PrngReg)

section Left
variable (r : PUnit × MemSt nD τ sig (Elt Ideal)) (h : Pipeline.FramePost cfgs (dats m) 0 (V m) r) (c : Dev nD)
include h

theorem left_cmp : r.2.mem ((c : Thread nD τ).loc main_v67_3) = the_cmp m c :=
  ((h c).1 16).trans (final_cmp m c)

theorem left_c : r.2.mem ((c : Thread nD τ).loc main_v67_16) = the_c m c :=
  ((h c).1 29).trans (final_c m c)

theorem left_ga : r.2.mem ((c : Thread nD τ).loc main_v67_11) = the_ga m c :=
  ((h c).1 24).trans (final_ga m c)

theorem left_gb : r.2.mem ((c : Thread nD τ).loc main_v67_12) = the_gb m c :=
  ((h c).1 25).trans (final_gb m c)

theorem left_ma : r.2.mem ((c : Thread nD τ).loc main_v67_13) = the_ma m c :=
  ((h c).1 26).trans (final_ma m c)

theorem left_mb : r.2.mem ((c : Thread nD τ).loc main_v67_14) = the_mb m c :=
  ((h c).1 27).trans (final_mb m c)

end Left

set_option maxHeartbeats 2000000 in
theorem run_results : θ_run defs (onTc (τ := τ) (main (F := Ideal))) ⟨m, fun _ => 0, ρ⟩ (fun r => ∀ c : Dev nD,
      r.2.mem ((c.tc : Thread nD τ).loc main_v67_3) = the_cmp m c
      ∧ r.2.mem ((c.tc : Thread nD τ).loc main_v67_16) = the_c m c
      ∧ r.2.mem ((c.tc : Thread nD τ).loc main_v67_11) = the_ga m c
      ∧ r.2.mem ((c.tc : Thread nD τ).loc main_v67_12) = the_gb m c
      ∧ r.2.mem ((c.tc : Thread nD τ).loc main_v67_13) = the_ma m c
      ∧ r.2.mem ((c.tc : Thread nD τ).loc main_v67_14) = the_mb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨left_cmp m r h.1 c, left_c m r h.1 c, left_ga m r h.1 c, left_gb m r h.1 c, left_ma m r h.1 c, left_mb m r h.1 c, h.2 c⟩)
    (θ_run_and (run_main m ρ) (unchanged m ρ))

end Cert.ProjectIdeal.Rows
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.BitsFrame
public import proofs.«01_k».proof.Proof.MlaFrame
public import proofs.«01_k».proof.Proof.MlaFinal
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.MergeFinal
public import proofs.«01_k».proof.Proof.Gen.Project
public import proofs.«01_k».proof.Proof.ProjectBits
public import proofs.«01_k».proof.Proof.ProjectResults
public import proofs.«01_k».proof.Proof.Gen.ProjectReferenceIdeal.Run
public import proofs.«01_k».proof.Proof.Gen.ProjectReferenceIdeal.Read
public import Idealize.ShloMosaic.Adequacy
public import Idealize.ShloMosaic.Init

@[expose] public section

noncomputable section

namespace Cert.Proof

open Idealize.ShloMosaic Idealize.SL.Sem Cert.Kernel

/-- A value below infinity in size is finite. -/
theorem real_of_below (x : EReal) (h : Ideal.cmp .olt (max x (-x)) (Ideal.ofBits .f32 0x7F800000#32) = 1#1) : Cert.KernelIdeal.Mla.IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem finite_of_pre (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) : Cert.KernelIdeal.Mla.Finite m c := by
  obtain ⟨h0, h1, h3⟩ := hpre c
  exact ⟨fun y => real_of_below _ (congrFun h0 y), fun y => real_of_below _ (congrFun h1 y), fun y => real_of_below _ (congrFun h3 y)⟩

theorem frame_kernel : Cert.quiescent_Kernel (hKernel := Cert.Kernel.Gen.facts) := fun m ρ _ => Cert.Kernel.Mla.frame m ρ

theorem frame_ideal : Cert.quiescent_KernelIdeal (hKernelIdeal := Cert.KernelIdeal.Gen.facts) := fun m ρ _ => Cert.KernelIdeal.Mla.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference end with the same result. -/
theorem same_result : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => Cert.KernelIdeal.Mla.attended m c, ?_, ?_⟩
  · exact (θ_run Cert.KernelIdeal.defs _ _).mono (fun _ h c => ⟨((h c).1 4).trans (Cert.KernelIdeal.Mla.final m c (finite_of_pre m hpre c)),
        ((h c).1 0).trans ((Cert.KernelIdeal.Mla.dats m 0 c).arrAt_in 0 rfl _), ((h c).1 1).trans ((Cert.KernelIdeal.Mla.dats m 0 c).arrAt_in 1 rfl _),
        ((h c).1 2).trans ((Cert.KernelIdeal.Mla.dats m 0 c).arrAt_in 2 rfl _), ((h c).1 3).trans ((Cert.KernelIdeal.Mla.dats m 0 c).arrAt_in 3 rfl _)⟩)
      (Cert.KernelIdeal.Mla.run_main m g)
  · exact (θ_run Cert.ReferenceIdeal.defs _ _).mono (fun _ h c => ⟨by
        rw [(h c).1, Cert.ReferenceIdeal.Read.val_main_v35_eq, (hagree c).1, (hagree c).2.1, (hagree c).2.2.1], (h c).2⟩)
      (Cert.ReferenceIdeal.Value.run (F := Ideal) m' g')

theorem frame_merge : Cert.quiescent_Merge (hMerge := Cert.Merge.Gen.facts) := fun m ρ _ => Cert.Merge.Gen.frame m ρ

theorem frame_merge_ideal : Cert.quiescent_MergeIdeal (hMergeIdeal := Cert.MergeIdeal.Gen.facts) := fun m ρ _ => Cert.MergeIdeal.Gen.frame m ρ

theorem frame_merge_reference : Cert.quiescent_MergeReferenceIdeal (hMergeReferenceIdeal := Cert.MergeReferenceIdeal.Gen.facts) := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- The gated merge and its reference end with the same result. -/
theorem same_merge : Cert.algebraic_MergeIdeal_MergeReferenceIdeal (hMergeIdeal := Cert.MergeIdeal.Gen.facts) (hMergeReferenceIdeal := Cert.MergeReferenceIdeal.Gen.facts) := by
  intro m g m' g' hpre hagree
  refine ⟨fun c => Cert.MergeIdeal.Gate.merged m c, ?_, ?_⟩
  · exact (θ_run Cert.MergeIdeal.defs _ _).mono (fun _ h c => ⟨(h c).1.trans (Cert.MergeIdeal.Gate.final m c), (h c).2⟩) (Cert.MergeIdeal.Value.run_blocks (F := Ideal) m g)
  · exact (θ_run Cert.MergeReferenceIdeal.defs _ _).mono (fun _ h c => ⟨by
        obtain ⟨a0, a1, a2, a3, a4, a5, a6, a7, a8, a9, a10, a11⟩ := hagree c
        rw [(h c).1, Cert.MergeReferenceIdeal.Read.val_main_v45_eq, a0, a1, a2, a3, a4, a5, a6, a8, a9, a10, a11], (h c).2⟩)
      (Cert.MergeReferenceIdeal.Value.run (F := Ideal) m' g')

theorem frame_project : Cert.quiescent_Project (hProject := Cert.Project.Gen.facts) := fun m ρ _ =>
  Cert.Project.Rows.frame m ρ

theorem frame_project_ideal : Cert.quiescent_ProjectIdeal (hProjectIdeal := Cert.ProjectIdeal.Gen.facts) := fun m ρ _ => Cert.ProjectIdeal.Rows.frame m ρ

theorem frame_project_reference : Cert.quiescent_ProjectReferenceIdeal (hProjectReferenceIdeal := Cert.ProjectReferenceIdeal.Gen.facts) := fun m ρ _ =>
  (θ_run Cert.ProjectReferenceIdeal.defs _ _).mono (fun r h => ⟨fun c => (h c).2.2.2.2.2.2, Idealize.ShloMosaic.sem_eq_zero_of_no_sems (by decide) r.2⟩)
    (Cert.ProjectReferenceIdeal.Value.run (F := Ideal) m ρ)

set_option maxHeartbeats 4000000 in
/-- The in-projection and its reference end with the same six results. -/
theorem same_project : Cert.algebraic_ProjectIdeal_ProjectReferenceIdeal (hProjectIdeal := Cert.ProjectIdeal.Gen.facts) (hProjectReferenceIdeal := Cert.ProjectReferenceIdeal.Gen.facts) := by
  intro m g m' g' hpre hagree
  refine ⟨fun c => Cert.ProjectIdeal.Rows.the_cmp m c, fun c => Cert.ProjectIdeal.Rows.the_c m c, fun c => Cert.ProjectIdeal.Rows.the_ga m c, fun c => Cert.ProjectIdeal.Rows.the_gb m c,
    fun c => Cert.ProjectIdeal.Rows.the_ma m c, fun c => Cert.ProjectIdeal.Rows.the_mb m c, ?_, ?_⟩
  · exact Cert.ProjectIdeal.Rows.run_results m g
  · exact (θ_run Cert.ProjectReferenceIdeal.defs _ _).mono (fun _ h c => by
        obtain ⟨a0, a1, a2, a3, a4, a5, a6, a7, a8, a9⟩ := hagree c
        obtain ⟨h0, h1, h2, h3, h4, h5, rest⟩ := h c
        refine ⟨?_, ?_, ?_, ?_, ?_, ?_, rest⟩
        · rw [h0, Cert.ProjectReferenceIdeal.Read.val_main_v32_eq, a0, a1, a2]
        · rw [h1, Cert.ProjectReferenceIdeal.Read.val_main_v46_eq, a0, a1, a2, a6]
        · rw [h2, Cert.ProjectReferenceIdeal.Read.val_main_v28_eq, a0, a1, a2]
        · rw [h3, Cert.ProjectReferenceIdeal.Read.val_main_v29_eq, a0, a1, a2]
        · rw [h4, Cert.ProjectReferenceIdeal.Read.val_main_v30_eq, a0, a1, a2]
        · rw [h5, Cert.ProjectReferenceIdeal.Read.val_main_v31_eq, a0, a1, a2])
      (Cert.ProjectReferenceIdeal.Value.run (F := Ideal) m' g')

theorem claim : Cert.Claim :=
  ⟨Cert.Kernel.Gen.facts, Cert.KernelIdeal.Gen.facts, Cert.ReferenceIdeal.Gen.facts, Cert.Merge.Gen.facts, Cert.MergeIdeal.Gen.facts, Cert.MergeReferenceIdeal.Gen.facts, Cert.Project.Gen.facts, Cert.ProjectIdeal.Gen.facts, Cert.ProjectReferenceIdeal.Gen.facts,
    Cert.Pre_finite.Gen.facts,
    frame_kernel, frame_ideal, fun m ρ _ => Cert.KernelIdeal.Mla.frame m ρ, frame_reference, fun m ρ _ => frame_reference m ρ trivial,
    frame_merge, frame_merge_ideal, frame_merge_reference, frame_project, frame_project_ideal, frame_project_reference,
    IdealRules.named_const.statement Cert.KernelIdeal.κ "mask" .f32 0xF149F2CA#32 ⊥ rfl, same_result, trivial, same_merge, trivial, same_project⟩

end Cert.Proof

end
